-- ==== Defs.lean ====
def Pre_Kernel [hPre_pre : Cert.Pre_pre.Facts] (m : (ℓ : Loc Cert.Kernel.nD Cert.Kernel.τ Cert.Kernel.sig) → Buf (Elt Bits) ℓ) : Prop :=
  ∀ c : Dev Cert.Kernel.nD,
    (Cert.Pre_pre.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] [hPre_pre : Cert.Pre_pre.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v156) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel) (hPre_pre := hPre_pre)
    ∧ quiescent_KernelIdeal (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal (hKernelIdeal := hKernelIdeal) (hReferenceIdeal := hReferenceIdeal) (hPre_pre := hPre_pre)
-- ==== Pre_pre.lean ====
abbrev S2048x1024 : Shape := ⟨2, ![2048, 1024]⟩
abbrev S2048 : Shape := ⟨1, ![2048]⟩
abbrev S2048x128 : Shape := ⟨2, ![2048, 128]⟩
abbrev S40 : Shape := ⟨1, ![40]⟩
abbrev S8x2816x1024 : Shape := ⟨3, ![8, 2816, 1024]⟩
abbrev S8x1024x2816 : Shape := ⟨3, ![8, 1024, 2816]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S1x40 : Shape := ⟨2, ![1, 40]⟩
abbrev S2048x40 : Shape := ⟨2, ![2048, 40]⟩

class Facts : Prop where
  bcast_S2048_S2048x1_0 : S2048.BroadcastsInDim S2048x1 (![0] : Fin 1 → Fin S2048x1.rank)
  bcast_S2048_S1x2048_1 : S2048.BroadcastsInDim S1x2048 (![1] : Fin 1 → Fin S1x2048.rank)
  bcast_S2048x1_S2048x2048_0_1 : S2048x1.BroadcastsInDim S2048x2048 (![0, 1] : Fin 2 → Fin S2048x2048.rank)
  bcast_S1x2048_S2048x2048_0_1 : S1x2048.BroadcastsInDim S2048x2048 (![0, 1] : Fin 2 → Fin S2048x2048.rank)
  bcast_S_S40 : S_.BroadcastsInDim S40 (![] : Fin 0 → Fin S40.rank)
  reducesTo_S40_S_d0 : S40.ReducesTo [0] S_
  h_S_ : 0 < S_.numel
  bcast_S_S2048 : S_.BroadcastsInDim S2048 (![] : Fin 0 → Fin S2048.rank)
  reducesTo_S2048_S_d0 : S2048.ReducesTo [0] S_
  bcast_S_S2048x1 : S_.BroadcastsInDim S2048x1 (![] : Fin 0 → Fin S2048x1.rank)
  bcast_S40_S1x40_1 : S40.BroadcastsInDim S1x40 (![1] : Fin 1 → Fin S1x40.rank)
  bcast_S2048x1_S2048x40_0_1 : S2048x1.BroadcastsInDim S2048x40 (![0, 1] : Fin 2 → Fin S2048x40.rank)
  bcast_S1x40_S2048x40_0_1 : S1x40.BroadcastsInDim S2048x40 (![0, 1] : Fin 2 → Fin S2048x40.rank)
  reducesTo_S2048x40_S_d0_1 : S2048x40.ReducesTo [0, 1] S_
  reducesTo_S2048x2048_S_d0_1 : S2048x2048.ReducesTo [0, 1] S_

variable [Facts]

def fn_part4 {F : FTy → Type} [FloatOps F] (main_arg1 : IVec S2048 32) (main_arg2 : IVec S2048 32) (main_arg9 : IVec S2048 32) (main_arg10 : IVec S2048 32) (main_v74 : IVec S_ 1) (main_v75 : IVec S2048x2048 1) (main_v80 : IVec S2048x2048 1) : IVec S_ 1 :=
  let main_v81 : IVec S2048x2048 1 := ori main_v75 main_v80
  let main_v82 : IVec S2048x1 32 := broadcastInDim S2048x1 ![0] bcast_S2048_S2048x1_0 main_arg2
  let main_v83 : IVec S1x2048 32 := broadcastInDim S1x2048 ![1] bcast_S2048_S1x2048_1 main_arg2
  let main_v84 : IVec S2048x2048 32 := broadcastInDim S2048x2048 ![0, 1] bcast_S2048x1_S2048x2048_0_1 main_v82
  let main_v85 : IVec S2048x2048 32 := broadcastInDim S2048x2048 ![0, 1] bcast_S1x2048_S2048x2048_0_1 main_v83
  let main_v86 : IVec S2048x2048 1 := cmpi .slt main_v84 main_v85
  let main_v87 : IVec S2048x2048 1 := ori main_v81 main_v86
  let main_c_14 : IVec S_ 1 := constantI S_ 1 1#1
  let main_v88 : IVec S_ 1 := (fun x v => Host.reduce IntOp.andi x v reducesTo_S2048x2048_S_d0_1 h_S_) main_v87 main_c_14
  let main_v89 : IVec S_ 1 := andi main_v74 main_v88
  let main_v90 : IVec S2048x1 32 := broadcastInDim S2048x1 ![0] bcast_S2048_S2048x1_0 main_arg9
  let main_v91 : IVec S1x2048 32 := broadcastInDim S1x2048 ![1] bcast_S2048_S1x2048_1 main_arg10
  let main_v92 : IVec S2048x2048 32 := broadcastInDim S2048x2048 ![0, 1] bcast_S2048x1_S2048x2048_0_1 main_v90
  let main_v93 : IVec S2048x2048 32 := broadcastInDim S2048x2048 ![0, 1] bcast_S1x2048_S2048x2048_0_1 main_v91
  let main_v94 : IVec S2048x2048 1 := cmpi .ne main_v92 main_v93
  let main_v95 : IVec S2048x1 32 := broadcastInDim S2048x1 ![0] bcast_S2048_S2048x1_0 main_arg1
  let main_v96 : IVec S1x2048 32 := broadcastInDim S1x2048 ![1] bcast_S2048_S1x2048_1 main_arg2
  let main_v97 : IVec S2048x2048 32 := broadcastInDim S2048x2048 ![0, 1] bcast_S2048x1_S2048x2048_0_1 main_v95
  let main_v98 : IVec S2048x2048 32 := broadcastInDim S2048x2048 ![0, 1] bcast_S1x2048_S2048x2048_0_1 main_v96
  let main_v99 : IVec S2048x2048 1 := cmpi .slt main_v97 main_v98
  let main_v100 : IVec S2048x2048 1 := ori main_v94 main_v99
  let main_c_15 : IVec S_ 1 := constantI S_ 1 1#1
  let main_v101 : IVec S_ 1 := (fun x v => Host.reduce IntOp.andi x v reducesTo_S2048x2048_S_d0_1 h_S_) main_v100 main_c_15
  let main_v102 : IVec S_ 1 := andi main_v89 main_v101
  main_v102

def fn_part3 {F : FTy → Type} [FloatOps F] (main_arg1 : IVec S2048 32) (main_arg2 : IVec S2048 32) (main_arg9 : IVec S2048 32) (main_arg10 : IVec S2048 32) (main_v6 : IVec S2048x2048 1) (main_v44 : IVec S_ 1) (main_v57 : IVec S2048x40 1) (main_c_12 : IVec S_ 1) : IVec S_ 1 :=
  let main_v58 : IVec S_ 1 := (fun x v => Host.reduce IntOp.andi x v reducesTo_S2048x40_S_d0_1 h_S_) main_v57 main_c_12
  let main_v59 : IVec S_ 1 := andi main_v44 main_v58
  let main_v60 : IVec S2048x2048 1 := noti main_v6
  let main_v61 : IVec S2048x1 32 := broadcastInDim S2048x1 ![0] bcast_S2048_S2048x1_0 main_arg9
  let main_v62 : IVec S1x2048 32 := broadcastInDim S1x2048 ![1] bcast_S2048_S1x2048_1 main_arg9
  let main_v63 : IVec S2048x2048 32 := broadcastInDim S2048x2048 ![0, 1] bcast_S2048x1_S2048x2048_0_1 main_v61
  let main_v64 : IVec S2048x2048 32 := broadcastInDim S2048x2048 ![0, 1] bcast_S1x2048_S2048x2048_0_1 main_v62
  let main_v65 : IVec S2048x2048 1 := cmpi .ne main_v63 main_v64
  let main_v66 : IVec S2048x2048 1 := ori main_v60 main_v65
  let main_v67 : IVec S2048x1 32 := broadcastInDim S2048x1 ![0] bcast_S2048_S2048x1_0 main_arg1
  let main_v68 : IVec S1x2048 32 := broadcastInDim S1x2048 ![1] bcast_S2048_S1x2048_1 main_arg1
  let main_v69 : IVec S2048x2048 32 := broadcastInDim S2048x2048 ![0, 1] bcast_S2048x1_S2048x2048_0_1 main_v67
  let main_v70 : IVec S2048x2048 32 := broadcastInDim S2048x2048 ![0, 1] bcast_S1x2048_S2048x2048_0_1 main_v68
  let main_v71 : IVec S2048x2048 1 := cmpi .slt main_v69 main_v70
  let main_v72 : IVec S2048x2048 1 := ori main_v66 main_v71
  let main_c_13 : IVec S_ 1 := constantI S_ 1 1#1
  let main_v73 : IVec S_ 1 := (fun x v => Host.reduce IntOp.andi x v reducesTo_S2048x2048_S_d0_1 h_S_) main_v72 main_c_13
  let main_v74 : IVec S_ 1 := andi main_v59 main_v73
  let main_v75 : IVec S2048x2048 1 := noti main_v6
  let main_v76 : IVec S2048x1 32 := broadcastInDim S2048x1 ![0] bcast_S2048_S2048x1_0 main_arg10
  let main_v77 : IVec S1x2048 32 := broadcastInDim S1x2048 ![1] bcast_S2048_S1x2048_1 main_arg10
  let main_v78 : IVec S2048x2048 32 := broadcastInDim S2048x2048 ![0, 1] bcast_S2048x1_S2048x2048_0_1 main_v76
  let main_v79 : IVec S2048x2048 32 := broadcastInDim S2048x2048 ![0, 1] bcast_S1x2048_S2048x2048_0_1 main_v77
  let main_v80 : IVec S2048x2048 1 := cmpi .ne main_v78 main_v79
  fn_part4 (F := F) main_arg1 main_arg2 main_arg9 main_arg10 main_v74 main_v75 main_v80

def fn_part2 {F : FTy → Type} [FloatOps F] (main_arg1 : IVec S2048 32) (main_arg2 : IVec S2048 32) (main_arg5 : IVec S40 32) (main_arg9 : IVec S2048 32) (main_arg10 : IVec S2048 32) (main_v1 : IVec S40 32) (main_v6 : IVec S2048x2048 1) (main_v29 : IVec S_ 1) (main_v36 : IVec S2048x40 1) : IVec S_ 1 :=
  let main_v37 : IVec S2048x1 32 := broadcastInDim S2048x1 ![0] bcast_S2048_S2048x1_0 main_arg9
  let main_v38 : IVec S1x40 32 := broadcastInDim S1x40 ![1] bcast_S40_S1x40_1 main_arg5
  let main_v39 : IVec S2048x40 32 := broadcastInDim S2048x40 ![0, 1] bcast_S2048x1_S2048x40_0_1 main_v37
  let main_v40 : IVec S2048x40 32 := broadcastInDim S2048x40 ![0, 1] bcast_S1x40_S2048x40_0_1 main_v38
  let main_v41 : IVec S2048x40 1 := cmpi .eq main_v39 main_v40
  let main_v42 : IVec S2048x40 1 := ori main_v36 main_v41
  let main_c_10 : IVec S_ 1 := constantI S_ 1 1#1
  let main_v43 : IVec S_ 1 := (fun x v => Host.reduce IntOp.andi x v reducesTo_S2048x40_S_d0_1 h_S_) main_v42 main_c_10
  let main_v44 : IVec S_ 1 := andi main_v29 main_v43
  let main_v45 : IVec S2048x1 32 := broadcastInDim S2048x1 ![0] bcast_S2048_S2048x1_0 main_arg2
  let main_c_11 : IVec S_ 32 := constantI S_ 32 7#32
  let main_v46 : IVec S2048x1 32 := broadcastInDim S2048x1 ![] bcast_S_S2048x1 main_c_11
  let main_v47 : IVec S2048x1 32 := Host.shrsi main_v45 main_v46
  let main_v48 : IVec S1x40 32 := broadcastInDim S1x40 ![1] bcast_S40_S1x40_1 main_v1
  let main_v49 : IVec S2048x40 32 := broadcastInDim S2048x40 ![0, 1] bcast_S2048x1_S2048x40_0_1 main_v47
  let main_v50 : IVec S2048x40 32 := broadcastInDim S2048x40 ![0, 1] bcast_S1x40_S2048x40_0_1 main_v48
  let main_v51 : IVec S2048x40 1 := cmpi .ne main_v49 main_v50
  let main_v52 : IVec S2048x1 32 := broadcastInDim S2048x1 ![0] bcast_S2048_S2048x1_0 main_arg10
  let main_v53 : IVec S1x40 32 := broadcastInDim S1x40 ![1] bcast_S40_S1x40_1 main_arg5
  let main_v54 : IVec S2048x40 32 := broadcastInDim S2048x40 ![0, 1] bcast_S2048x1_S2048x40_0_1 main_v52
  let main_v55 : IVec S2048x40 32 := broadcastInDim S2048x40 ![0, 1] bcast_S1x40_S2048x40_0_1 main_v53
  let main_v56 : IVec S2048x40 1 := cmpi .eq main_v54 main_v55
  let main_v57 : IVec S2048x40 1 := ori main_v51 main_v56
  let main_c_12 : IVec S_ 1 := constantI S_ 1 1#1
  fn_part3 (F := F) main_arg1 main_arg2 main_arg9 main_arg10 main_v6 main_v44 main_v57 main_c_12

def fn_part1 {F : FTy → Type} [FloatOps F] (main_arg1 : IVec S2048 32) (main_arg2 : IVec S2048 32) (main_arg5 : IVec S40 32) (main_arg9 : IVec S2048 32) (main_arg10 : IVec S2048 32) (main_v1 : IVec S40 32) (main_v6 : IVec S2048x2048 1) (main_v12 : IVec S_ 1) (main_v17 : IVec S2048 1) (main_c_4 : IVec S_ 1) : IVec S_ 1 :=
  let main_v18 : IVec S_ 1 := (fun x v => Host.reduce IntOp.andi x v reducesTo_S2048_S_d0 h_S_) main_v17 main_c_4
  let main_v19 : IVec S_ 1 := andi main_v12 main_v18
  let main_c_5 : IVec S_ 32 := constantI S_ 32 0#32
  let main_v20 : IVec S2048 32 := broadcastInDim S2048 ![] bcast_S_S2048 main_c_5
  let main_v21 : IVec S2048 1 := cmpi .sge main_arg2 main_v20
  let main_c_6 : IVec S_ 32 := constantI S_ 32 5120#32
  let main_v22 : IVec S2048 32 := broadcastInDim S2048 ![] bcast_S_S2048 main_c_6
  let main_v23 : IVec S2048 1 := cmpi .slt main_arg2 main_v22
  let main_v24 : IVec S2048 1 := andi main_v21 main_v23
  let main_c_7 : IVec S_ 1 := constantI S_ 1 1#1
  let main_v25 : IVec S_ 1 := (fun x v => Host.reduce IntOp.andi x v reducesTo_S2048_S_d0 h_S_) main_v24 main_c_7
  let main_v26 : IVec S_ 1 := andi main_v19 main_v25
  let main_v27 : IVec S2048 1 := cmpi .ne main_arg9 main_arg10
  let main_c_8 : IVec S_ 1 := constantI S_ 1 1#1
  let main_v28 : IVec S_ 1 := (fun x v => Host.reduce IntOp.andi x v reducesTo_S2048_S_d0 h_S_) main_v27 main_c_8
  let main_v29 : IVec S_ 1 := andi main_v26 main_v28
  let main_v30 : IVec S2048x1 32 := broadcastInDim S2048x1 ![0] bcast_S2048_S2048x1_0 main_arg1
  let main_c_9 : IVec S_ 32 := constantI S_ 32 7#32
  let main_v31 : IVec S2048x1 32 := broadcastInDim S2048x1 ![] bcast_S_S2048x1 main_c_9
  let main_v32 : IVec S2048x1 32 := Host.shrsi main_v30 main_v31
  let main_v33 : IVec S1x40 32 := broadcastInDim S1x40 ![1] bcast_S40_S1x40_1 main_v1
  let main_v34 : IVec S2048x40 32 := broadcastInDim S2048x40 ![0, 1] bcast_S2048x1_S2048x40_0_1 main_v32
  let main_v35 : IVec S2048x40 32 := broadcastInDim S2048x40 ![0, 1] bcast_S1x40_S2048x40_0_1 main_v33
  let main_v36 : IVec S2048x40 1 := cmpi .ne main_v34 main_v35
  fn_part2 (F := F) main_arg1 main_arg2 main_arg5 main_arg9 main_arg10 main_v1 main_v6 main_v29 main_v36

def fn {F : FTy → Type} [FloatOps F] (main_arg0 : FVec F S2048x1024 .f32) (main_arg1 : IVec S2048 32) (main_arg2 : IVec S2048 32) (main_arg3 : FVec F S2048x128 .f32) (main_arg4 : FVec F S2048x128 .f32) (main_arg5 : IVec S40 32) (main_arg6 : FVec F S8x2816x1024 .f32) (main_arg7 : FVec F S8x2816x1024 .f32) (main_arg8 : FVec F S8x1024x2816 .f32) (main_arg9 : IVec S2048 32) (main_arg10 : IVec S2048 32) : IVec S_ 1 :=
  let main_v0 : IVec S2048 32 := iotaInDim S2048 32 0
  let main_v1 : IVec S40 32 := iotaInDim S40 32 0
  let main_v2 : IVec S2048x1 32 := broadcastInDim S2048x1 ![0] bcast_S2048_S2048x1_0 main_v0
  let main_v3 : IVec S1x2048 32 := broadcastInDim S1x2048 ![1] bcast_S2048_S1x2048_1 main_v0
  let main_v4 : IVec S2048x2048 32 := broadcastInDim S2048x2048 ![0, 1] bcast_S2048x1_S2048x2048_0_1 main_v2
  let main_v5 : IVec S2048x2048 32 := broadcastInDim S2048x2048 ![0, 1] bcast_S1x2048_S2048x2048_0_1 main_v3
  let main_v6 : IVec S2048x2048 1 := cmpi .slt main_v4 main_v5
  let main_c : IVec S_ 32 := constantI S_ 32 0#32
  let main_v7 : IVec S40 32 := broadcastInDim S40 ![] bcast_S_S40 main_c
  let main_v8 : IVec S40 1 := cmpi .sge main_arg5 main_v7
  let main_c_0 : IVec S_ 32 := constantI S_ 32 8#32
  let main_v9 : IVec S40 32 := broadcastInDim S40 ![] bcast_S_S40 main_c_0
  let main_v10 : IVec S40 1 := cmpi .slt main_arg5 main_v9
  let main_v11 : IVec S40 1 := andi main_v8 main_v10
  let main_c_1 : IVec S_ 1 := constantI S_ 1 1#1
  let main_v12 : IVec S_ 1 := (fun x v => Host.reduce IntOp.andi x v reducesTo_S40_S_d0 h_S_) main_v11 main_c_1
  let main_c_2 : IVec S_ 32 := constantI S_ 32 0#32
  let main_v13 : IVec S2048 32 := broadcastInDim S2048 ![] bcast_S_S2048 main_c_2
  let main_v14 : IVec S2048 1 := cmpi .sge main_arg1 main_v13
  let main_c_3 : IVec S_ 32 := constantI S_ 32 5120#32
  let main_v15 : IVec S2048 32 := broadcastInDim S2048 ![] bcast_S_S2048 main_c_3
  let main_v16 : IVec S2048 1 := cmpi .slt main_arg1 main_v15
  let main_v17 : IVec S2048 1 := andi main_v14 main_v16
  let main_c_4 : IVec S_ 1 := constantI S_ 1 1#1
  fn_part1 (F := F) main_arg1 main_arg2 main_arg5 main_arg9 main_arg10 main_v1 main_v6 main_v12 main_v17 main_c_4
-- ==== Kernel.lean ====
abbrev S2048x1024 : Shape := ⟨2, ![2048, 1024]⟩
abbrev S2048 : Shape := ⟨1, ![2048]⟩
abbrev S2048x128 : Shape := ⟨2, ![2048, 128]⟩
abbrev S40 : Shape := ⟨1, ![40]⟩
abbrev S8x2816x1024 : Shape := ⟨3, ![8, 2816, 1024]⟩
abbrev S8x1024x2816 : Shape := ⟨3, ![8, 1024, 2816]⟩
abbrev S5120x1024 : Shape := ⟨2, ![5120, 1024]⟩
abbrev S5120x128 : Shape := ⟨2, ![5120, 128]⟩
abbrev S32x1024 : Shape := ⟨2, ![32, 1024]⟩
abbrev S32x128 : Shape := ⟨2, ![32, 128]⟩
abbrev S32 : Shape := ⟨1, ![32]⟩
abbrev S_ : Shape := ⟨0, ![]⟩
abbrev S128x1024 : Shape := ⟨2, ![128, 1024]⟩
abbrev S128x128 : Shape := ⟨2, ![128, 128]⟩
abbrev S1x2816x1024 : Shape := ⟨3, ![1, 2816, 1024]⟩
abbrev S1 : Shape := ⟨1, ![1]⟩
abbrev S1x1024x2816 : Shape := ⟨3, ![1, 1024, 2816]⟩
abbrev S2816x1024 : Shape := ⟨2, ![2816, 1024]⟩
abbrev S128x2816 : Shape := ⟨2, ![128, 2816]⟩
abbrev S1024x2816 : Shape := ⟨2, ![1024, 2816]⟩
abbrev S128x1 : Shape := ⟨2, ![128, 1]⟩
abbrev S16x1024 : Shape := ⟨2, ![16, 1024]⟩
abbrev S16 : Shape := ⟨1, ![16]⟩
abbrev S1x16 : Shape := ⟨2, ![1, 16]⟩

abbrev nBuf : Table → Nat
  | .hbm => 17
  | .local .tc .vmem => 12
  | .local .tc .smem => 1
  | .local .scVector .vmem => 6
  | _ => 0

abbrev bufTy : (tb : Table) → Fin (nBuf tb) → BufTy
  | .hbm, ⟨0, _⟩ => ⟨S2048x1024, .f32⟩
  | .hbm, ⟨1, _⟩ => ⟨S2048, .i32⟩
  | .hbm, ⟨2, _⟩ => ⟨S2048, .i32⟩
  | .hbm, ⟨3, _⟩ => ⟨S2048x128, .f32⟩
  | .hbm, ⟨4, _⟩ => ⟨S2048x128, .f32⟩
  | .hbm, ⟨5, _⟩ => ⟨S8x2816x1024, .f32⟩
  | .hbm, ⟨6, _⟩ => ⟨S8x2816x1024, .f32⟩
  | .hbm, ⟨7, _⟩ => ⟨S8x1024x2816, .f32⟩
  | .hbm, ⟨8, _⟩ => ⟨S2048, .i32⟩
  | .hbm, ⟨9, _⟩ => ⟨S2048, .i32⟩
  | .hbm, ⟨10, _⟩ => ⟨S5120x1024, .f32⟩
  | .hbm, ⟨11, _⟩ => ⟨S5120x128, .f32⟩
  | .hbm, ⟨12, _⟩ => ⟨S8x2816x1024, .bf16⟩
  | .hbm, ⟨13, _⟩ => ⟨S8x2816x1024, .bf16⟩
  | .hbm, ⟨14, _⟩ => ⟨S8x1024x2816, .bf16⟩
  | .hbm, ⟨15, _⟩ => ⟨S5120x1024, .f32⟩
  | .hbm, ⟨16, _⟩ => ⟨S2048x1024, .f32⟩
  | .local .tc .vmem, ⟨0, _⟩ => ⟨S128x1024, .f32⟩
  | .local .tc .vmem, ⟨1, _⟩ => ⟨S128x1024, .f32⟩
  | .local .tc .vmem, ⟨2, _⟩ => ⟨S128x128, .f32⟩
  | .local .tc .vmem, ⟨3, _⟩ => ⟨S128x128, .f32⟩
  | .local .tc .vmem, ⟨4, _⟩ => ⟨S1x2816x1024, .bf16⟩
  | .local .tc .vmem, ⟨5, _⟩ => ⟨S1x2816x1024, .bf16⟩
  | .local .tc .vmem, ⟨6, _⟩ => ⟨S1x2816x1024, .bf16⟩
  | .local .tc .vmem, ⟨7, _⟩ => ⟨S1x2816x1024, .bf16⟩
  | .local .tc .vmem, ⟨8, _⟩ => ⟨S1x1024x2816, .bf16⟩
  | .local .tc .vmem, ⟨9, _⟩ => ⟨S1x1024x2816, .bf16⟩
  | .local .tc .vmem, ⟨10, _⟩ => ⟨S128x1024, .f32⟩
  | .local .tc .vmem, ⟨11, _⟩ => ⟨S128x1024, .f32⟩
  | .local .tc .smem, ⟨0, _⟩ => ⟨S40, .i32⟩
  | .local .scVector .vmem, ⟨0, _⟩ => ⟨S32x1024, .f32⟩
  | .local .scVector .vmem, ⟨1, _⟩ => ⟨S32x128, .f32⟩
  | .local .scVector .vmem, ⟨2, _⟩ => ⟨S32, .i32⟩
  | .local .scVector .vmem, ⟨3, _⟩ => ⟨S32x1024, .f32⟩
  | .local .scVector .vmem, ⟨4, _⟩ => ⟨S32, .i32⟩
  | .local .scVector .vmem, ⟨5, _⟩ => ⟨S16x1024, .f32⟩
  | _, _ => ⟨S2048x1024, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 50 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => false
  | ⟨38, _⟩ => false
  | ⟨39, _⟩ => false
  | ⟨40, _⟩ => false
  | ⟨41, _⟩ => false
  | ⟨42, _⟩ => false
  | ⟨43, _⟩ => false
  | ⟨44, _⟩ => false
  | ⟨45, _⟩ => false
  | ⟨46, _⟩ => false
  | ⟨47, _⟩ => false
  | ⟨48, _⟩ => false
  | ⟨49, _⟩ => false
  | _ => false

abbrev sig : RefSig :=
  ofTables nBuf rfl bufTy 4 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_arg10 : Ref sig .tc := ⟨.hbm, 9, rfl⟩
abbrev main_v0_0 : Ref sig .tc := ⟨.hbm, 10, rfl⟩
abbrev main_v0_1 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_arg5 : Ref sig .tc := ⟨.smem, 0, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_arg3_scv : Ref sig .scVector := ⟨.hbm, 3, rfl⟩
abbrev main_arg4_scv : Ref sig .scVector := ⟨.hbm, 4, rfl⟩
abbrev main_v0_0_scv : Ref sig .scVector := ⟨.hbm, 10, rfl⟩
abbrev main_v0_1_scv : Ref sig .scVector := ⟨.hbm, 11, rfl⟩
abbrev main_v4_scv : Ref sig .scVector := ⟨.hbm, 15, rfl⟩
abbrev main_v5_scv : Ref sig .scVector := ⟨.hbm, 16, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg4_1 : Ref sig .tc := ⟨.vmem, 9, rfl⟩
abbrev cc1_stg5_0 : Ref sig .tc := ⟨.vmem, 10, rfl⟩
abbrev cc1_stg5_1 : Ref sig .tc := ⟨.vmem, 11, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc2_scratch0 : Ref sig .scVector := ⟨.vmem, 3, rfl⟩
abbrev cc2_scratch1 : Ref sig .scVector := ⟨.vmem, 4, rfl⟩
abbrev cc2_scratch2 : Ref sig .scVector := ⟨.vmem, 5, rfl⟩
abbrev cc1_sem0_0 : DmaSem sig := 25
abbrev cc1_sem0_1 : DmaSem sig := 26
abbrev cc1_sem1_0 : DmaSem sig := 27
abbrev cc1_sem1_1 : DmaSem sig := 28
abbrev cc1_sem2_0 : DmaSem sig := 29
abbrev cc1_sem2_1 : DmaSem sig := 30
abbrev cc1_sem3_0 : DmaSem sig := 31
abbrev cc1_sem3_1 : DmaSem sig := 32
abbrev cc1_sem4_0 : DmaSem sig := 33
abbrev cc1_sem4_1 : DmaSem sig := 34
abbrev cc1_sem5_0 : DmaSem sig := 35
abbrev cc1_sem5_1 : DmaSem sig := 36
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c16_i32 : BitVec 32 := 16#32
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let v2 : BitVec 32 := Scalar.divsi v1 c16_i32
  let c1_i32 : BitVec 32 := 1#32
  let v17 : BitVec 32 := Scalar.subi v2 c1_i32
  let v18 : BitVec 32 := Scalar.select v16 v17 v2
  let c0_i32_10 : BitVec 32 := 0#32
  let v29 : BitVec 1 := Scalar.cmpi .eq v18 c0_i32_10
  let v30 : BitVec 32 := Scalar.extui v29
  let c0_i32_11 : BitVec 32 := 0#32
  let v31 : BitVec 1 := Scalar.cmpi .ne v30 c0_i32_11
  v31

def k0_off1 (i : grid0.Coords) (c0_i32_14 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_4 : BitVec 32 := 16#32
  let c0_i32_5 : BitVec 32 := 0#32
  let v19 : BitVec 1 := Scalar.cmpi .eq c16_i32_4 c0_i32_5
  let c1_i32_6 : BitVec 32 := 1#32
  let v20 : BitVec 32 := Scalar.select v19 c1_i32_6 c16_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c128_i32 : BitVec 32 := 128#32
  let v35 : BitVec 32 := Scalar.muli v28 c128_i32
  let v36 : BitVec 32 := Scalar.addi v35 c0_i32_14
  ![v36.toNat]
def k0_off2 (i : grid0.Coords) (c0_i32_14 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_4 : BitVec 32 := 16#32
  let c0_i32_5 : BitVec 32 := 0#32
  let v19 : BitVec 1 := Scalar.cmpi .eq c16_i32_4 c0_i32_5
  let c1_i32_6 : BitVec 32 := 1#32
  let v20 : BitVec 32 := Scalar.select v19 c1_i32_6 c16_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c128_i32 : BitVec 32 := 128#32
  let v35 : BitVec 32 := Scalar.muli v28 c128_i32
  let v36 : BitVec 32 := Scalar.addi v35 c0_i32_14
  let c0_i32_284_r1 : BitVec 32 := 0#32
  ![v36.toNat, 0]
def k0_off3 (i : grid0.Coords) (c0_i32_14 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_4 : BitVec 32 := 16#32
  let c0_i32_5 : BitVec 32 := 0#32
  let v19 : BitVec 1 := Scalar.cmpi .eq c16_i32_4 c0_i32_5
  let c1_i32_6 : BitVec 32 := 1#32
  let v20 : BitVec 32 := Scalar.select v19 c1_i32_6 c16_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c128_i32 : BitVec 32 := 128#32
  let v35 : BitVec 32 := Scalar.muli v28 c128_i32
  let v36 : BitVec 32 := Scalar.addi v35 c0_i32_14
  let c0_i32_284_r2 : BitVec 32 := 0#32
  ![v36.toNat, 0]
def k0_cond2 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c16_i32 : BitVec 32 := 16#32
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let v2 : BitVec 32 := Scalar.divsi v1 c16_i32
  let c1_i32 : BitVec 32 := 1#32
  let v17 : BitVec 32 := Scalar.subi v2 c1_i32
  let v18 : BitVec 32 := Scalar.select v16 v17 v2
  let c1_i32_12 : BitVec 32 := 1#32
  let v32 : BitVec 1 := Scalar.cmpi .eq v18 c1_i32_12
  let v33 : BitVec 32 := Scalar.extui v32
  let c0_i32_13 : BitVec 32 := 0#32
  let v34 : BitVec 1 := Scalar.cmpi .ne v33 c0_i32_13
  v34

def k0_off4 (i : grid0.Coords) (c0_i32_14 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_4 : BitVec 32 := 16#32
  let c0_i32_5 : BitVec 32 := 0#32
  let v19 : BitVec 1 := Scalar.cmpi .eq c16_i32_4 c0_i32_5
  let c1_i32_6 : BitVec 32 := 1#32
  let v20 : BitVec 32 := Scalar.select v19 c1_i32_6 c16_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c128_i32 : BitVec 32 := 128#32
  let v35 : BitVec 32 := Scalar.muli v28 c128_i32
  let v36 : BitVec 32 := Scalar.addi v35 c0_i32_14
  ![v36.toNat]
def k0_off5 (i : grid0.Coords) (c0_i32_14 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_4 : BitVec 32 := 16#32
  let c0_i32_5 : BitVec 32 := 0#32
  let v19 : BitVec 1 := Scalar.cmpi .eq c16_i32_4 c0_i32_5
  let c1_i32_6 : BitVec 32 := 1#32
  let v20 : BitVec 32 := Scalar.select v19 c1_i32_6 c16_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c128_i32 : BitVec 32 := 128#32
  let v35 : BitVec 32 := Scalar.muli v28 c128_i32
  let v36 : BitVec 32 := Scalar.addi v35 c0_i32_14
  let c0_i32_284_r13 : BitVec 32 := 0#32
  ![v36.toNat, 0]
def k0_off6 (i : grid0.Coords) (c0_i32_14 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_4 : BitVec 32 := 16#32
  let c0_i32_5 : BitVec 32 := 0#32
  let v19 : BitVec 1 := Scalar.cmpi .eq c16_i32_4 c0_i32_5
  let c1_i32_6 : BitVec 32 := 1#32
  let v20 : BitVec 32 := Scalar.select v19 c1_i32_6 c16_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c128_i32 : BitVec 32 := 128#32
  let v35 : BitVec 32 := Scalar.muli v28 c128_i32
  let v36 : BitVec 32 := Scalar.addi v35 c0_i32_14
  let c0_i32_284_r14 : BitVec 32 := 0#32
  ![v36.toNat, 0]
abbrev grid1 : Pipeline.Grid := ⟨1, ![40], ![false]⟩

abbrev pre1 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (k1_off1_inb : ∀ i : grid1.Coords, ∀ a, (k1_off1 i) a + S1.size a ≤ S40.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S40) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_3 (k1_off1_inb : ∀ i : grid1.Coords, ∀ a, (k1_off1 i) a + S1.size a ≤ S40.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S40) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_4 (k1_off1_inb : ∀ i : grid1.Coords, ∀ a, (k1_off1 i) a + S1.size a ≤ S40.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S40) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x2816x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x2816x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1024x2816 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S128x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨2, ![2, 16], ![false, false]⟩

def k2_off1 (i : grid2.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let v3 : BitVec 32 := Scalar.addi v2 c0_i32
  ![v3.toNat]
@[reducible] def k2_t1_loop : Scf.Loop 32 :=
  let c0_i32_58 : BitVec 32 := 0#32
  let c64_i32_59 : BitVec 32 := 64#32
  let v36 : BitVec 32 := Scalar.addi c0_i32_58 c64_i32_59
  let c1_i32 : BitVec 32 := 1#32
  ⟨c0_i32_58, v36, c1_i32⟩
def k2_off2 (k2_t1 : Fin k2_t1_loop.trips) : Fin 2 → Nat :=
  let c0_i32_572 : BitVec 32 := 0#32
  let v267 : Index := Scalar.indexCast c0_i32_572
  let c0_i32_58 : BitVec 32 := 0#32
  let c1_i32 : BitVec 32 := 1#32
  let arg10 : BitVec 32 := Scf.iv c0_i32_58 c1_i32 k2_t1
  let c16_i32_571 : BitVec 32 := 16#32
  let v266 : BitVec 32 := Scalar.muli arg10 c16_i32_571
  let v268 : Index := Scalar.indexCast v266
  ![0, v268.toNat]
def k2_off3 (k2_t1 : Fin k2_t1_loop.trips) : Fin 2 → Nat :=
  let c16_i32_573 : BitVec 32 := 16#32
  let v271 : Index := Scalar.indexCast c16_i32_573
  let c0_i32_58 : BitVec 32 := 0#32
  let c1_i32 : BitVec 32 := 1#32
  let arg10 : BitVec 32 := Scf.iv c0_i32_58 c1_i32 k2_t1
  let c16_i32_571 : BitVec 32 := 16#32
  let v266 : BitVec 32 := Scalar.muli arg10 c16_i32_571
  let v272 : Index := Scalar.indexCast v266
  ![16, v272.toNat]
def k2_off4 (k2_t1 : Fin k2_t1_loop.trips) : Fin 2 → Nat :=
  let c0_i32_574 : BitVec 32 := 0#32
  let v276 : Index := Scalar.indexCast c0_i32_574
  let c0_i32_58 : BitVec 32 := 0#32
  let c1_i32 : BitVec 32 := 1#32
  let arg10 : BitVec 32 := Scf.iv c0_i32_58 c1_i32 k2_t1
  let c16_i32_571 : BitVec 32 := 16#32
  let v266 : BitVec 32 := Scalar.muli arg10 c16_i32_571
  let v277 : Index := Scalar.indexCast v266
  ![0, v277.toNat]
@[reducible] def k2_t2_loop : Scf.Loop 32 :=
  let c0_i32_62 : BitVec 32 := 0#32
  let c64_i32_63 : BitVec 32 := 64#32
  let v38 : BitVec 32 := Scalar.addi c0_i32_62 c64_i32_63
  let c1_i32_64 : BitVec 32 := 1#32
  ⟨c0_i32_62, v38, c1_i32_64⟩
def k2_off5 (k2_t2 : Fin k2_t2_loop.trips) : Fin 2 → Nat :=
  let c1_i32_572 : BitVec 32 := 1#32
  let v267 : Index := Scalar.indexCast c1_i32_572
  let c0_i32_62 : BitVec 32 := 0#32
  let c1_i32_64 : BitVec 32 := 1#32
  let arg10 : BitVec 32 := Scf.iv c0_i32_62 c1_i32_64 k2_t2
  let c16_i32_571 : BitVec 32 := 16#32
  let v266 : BitVec 32 := Scalar.muli arg10 c16_i32_571
  let v268 : Index := Scalar.indexCast v266
  ![1, v268.toNat]
def k2_off6 (k2_t2 : Fin k2_t2_loop.trips) : Fin 2 → Nat :=
  let c17_i32 : BitVec 32 := 17#32
  let v271 : Index := Scalar.indexCast c17_i32
  let c0_i32_62 : BitVec 32 := 0#32
  let c1_i32_64 : BitVec 32 := 1#32
  let arg10 : BitVec 32 := Scf.iv c0_i32_62 c1_i32_64 k2_t2
  let c16_i32_571 : BitVec 32 := 16#32
  let v266 : BitVec 32 := Scalar.muli arg10 c16_i32_571
  let v272 : Index := Scalar.indexCast v266
  ![17, v272.toNat]
def k2_off7 (k2_t2 : Fin k2_t2_loop.trips) : Fin 2 → Nat :=
  let c1_i32_573 : BitVec 32 := 1#32
  let v276 : Index := Scalar.indexCast c1_i32_573
  let c0_i32_62 : BitVec 32 := 0#32
  let c1_i32_64 : BitVec 32 := 1#32
  let arg10 : BitVec 32 := Scf.iv c0_i32_62 c1_i32_64 k2_t2
  let c16_i32_571 : BitVec 32 := 16#32
  let v266 : BitVec 32 := Scalar.muli arg10 c16_i32_571
  let v277 : Index := Scalar.indexCast v266
  ![1, v277.toNat]
@[reducible] def k2_t3_loop : Scf.Loop 32 :=
  let c0_i32_67 : BitVec 32 := 0#32
  let c64_i32_68 : BitVec 32 := 64#32
  let v40 : BitVec 32 := Scalar.addi c0_i32_67 c64_i32_68
  let c1_i32_69 : BitVec 32 := 1#32
  ⟨c0_i32_67, v40, c1_i32_69⟩
def k2_off8 (k2_t3 : Fin k2_t3_loop.trips) : Fin 2 → Nat :=
  let c2_i32_572 : BitVec 32 := 2#32
  let v267 : Index := Scalar.indexCast c2_i32_572
  let c0_i32_67 : BitVec 32 := 0#32
  let c1_i32_69 : BitVec 32 := 1#32
  let arg10 : BitVec 32 := Scf.iv c0_i32_67 c1_i32_69 k2_t3
  let c16_i32_571 : BitVec 32 := 16#32
  let v266 : BitVec 32 := Scalar.muli arg10 c16_i32_571
  let v268 : Index := Scalar.indexCast v266
  ![2, v268.toNat]
def k2_off9 (k2_t3 : Fin k2_t3_loop.trips) : Fin 2 → Nat :=
  let c18_i32 : BitVec 32 := 18#32
  let v271 : Index := Scalar.indexCast c18_i32
  let c0_i32_67 : BitVec 32 := 0#32
  let c1_i32_69 : BitVec 32 := 1#32
  let arg10 : BitVec 32 := Scf.iv c0_i32_67 c1_i32_69 k2_t3
  let c16_i32_571 : BitVec 32 := 16#32
  let v266 : BitVec 32 := Scalar.muli arg10 c16_i32_571
  let v272 : Index := Scalar.indexCast v266
  ![18, v272.toNat]
def k2_off10 (k2_t3 : Fin k2_t3_loop.trips) : Fin 2 → Nat :=
  let c2_i32_573 : BitVec 32 := 2#32
  let v276 : Index := Scalar.indexCast c2_i32_573
  let c0_i32_67 : BitVec 32 := 0#32
  let c1_i32_69 : BitVec 32 := 1#32
  let arg10 : BitVec 32 := Scf.iv c0_i32_67 c1_i32_69 k2_t3
  let c16_i32_571 : BitVec 32 := 16#32
  let v266 : BitVec 32 := Scalar.muli arg10 c16_i32_571
  let v277 : Index := Scalar.indexCast v266
  ![2, v277.toNat]
@[reducible] def k2_t4_loop : Scf.Loop 32 :=
  let c0_i32_72 : BitVec 32 := 0#32
  let c64_i32_73 : BitVec 32 := 64#32
  let v42 : BitVec 32 := Scalar.addi c0_i32_72 c64_i32_73
  let c1_i32_74 : BitVec 32 := 1#32
  ⟨c0_i32_72, v42, c1_i32_74⟩
def k2_off11 (k2_t4 : Fin k2_t4_loop.trips) : Fin 2 → Nat :=
  let c3_i32 : BitVec 32 := 3#32
  let v267 : Index := Scalar.indexCast c3_i32
  let c0_i32_72 : BitVec 32 := 0#32
  let c1_i32_74 : BitVec 32 := 1#32
  let arg10 : BitVec 32 := Scf.iv c0_i32_72 c1_i32_74 k2_t4
  let c16_i32_571 : BitVec 32 := 16#32
  let v266 : BitVec 32 := Scalar.muli arg10 c16_i32_571
  let v268 : Index := Scalar.indexCast v266
  ![3, v268.toNat]
def k2_off12 (k2_t4 : Fin k2_t4_loop.trips) : Fin 2 → Nat :=
  let c19_i32 : BitVec 32 := 19#32
  let v271 : Index := Scalar.indexCast c19_i32
  let c0_i32_72 : BitVec 32 := 0#32
  let c1_i32_74 : BitVec 32 := 1#32
  let arg10 : BitVec 32 := Scf.iv c0_i32_72 c1_i32_74 k2_t4
  let c16_i32_571 : BitVec 32 := 16#32
  let v266 : BitVec 32 := Scalar.muli arg10 c16_i32_571
  let v272 : Index := Scalar.indexCast v266
  ![19, v272.toNat]
def k2_off13 (k2_t4 : Fin k2_t4_loop.trips) : Fin 2 → Nat :=
  let c3_i32_572 : BitVec 32 := 3#32
  let v276 : Index := Scalar.indexCast c3_i32_572
  let c0_i32_72 : BitVec 32 := 0#32
  let c1_i32_74 : BitVec 32 := 1#32
  let arg10 : BitVec 32 := Scf.iv c0_i32_72 c1_i32_74 k2_t4
  let c16_i32_571 : BitVec 32 := 16#32
  let v266 : BitVec 32 := Scalar.muli arg10 c16_i32_571
  let v277 : Index := Scalar.indexCast v266
  ![3, v277.toNat]
@[reducible] def k2_t5_loop : Scf.Loop 32 :=
  let c0_i32_77 : BitVec 32 := 0#32
  let c64_i32_78 : BitVec 32 := 64#32
  let v44 : BitVec 32 := Scalar.addi c0_i32_77 c64_i32_78
  let c1_i32_79 : BitVec 32 := 1#32
  ⟨c0_i32_77, v44, c1_i32_79⟩
def k2_off14 (k2_t5 : Fin k2_t5_loop.trips) : Fin 2 → Nat :=
  let c4_i32 : BitVec 32 := 4#32
  let v267 : Index := Scalar.indexCast c4_i32
  let c0_i32_77 : BitVec 32 := 0#32
  let c1_i32_79 : BitVec 32 := 1#32
  let arg10 : BitVec 32 := Scf.iv c0_i32_77 c1_i32_79 k2_t5
  let c16_i32_571 : BitVec 32 := 16#32
  let v266 : BitVec 32 := Scalar.muli arg10 c16_i32_571
  let v268 : Index := Scalar.indexCast v266
  ![4, v268.toNat]
def k2_off15 (k2_t5 : Fin k2_t5_loop.trips) : Fin 2 → Nat :=
  let c20_i32 : BitVec 32 := 20#32
  let v271 : Index := Scalar.indexCast c20_i32
  let c0_i32_77 : BitVec 32 := 0#32
  let c1_i32_79 : BitVec 32 := 1#32
  let arg10 : BitVec 32 := Scf.iv c0_i32_77 c1_i32_79 k2_t5
  let c16_i32_571 : BitVec 32 := 16#32
  let v266 : BitVec 32 := Scalar.muli arg10 c16_i32_571
  let v272 : Index := Scalar.indexCast v266
  ![20, v272.toNat]
def k2_off16 (k2_t5 : Fin k2_t5_loop.trips) : Fin 2 → Nat :=
  let c4_i32_572 : BitVec 32 := 4#32
  let v276 : Index := Scalar.indexCast c4_i32_572
  let c0_i32_77 : BitVec 32 := 0#32
  let c1_i32_79 : BitVec 32 := 1#32
  let arg10 : BitVec 32 := Scf.iv c0_i32_77 c1_i32_79 k2_t5
  let c16_i32_571 : BitVec 32 := 16#32
  let v266 : BitVec 32 := Scalar.muli arg10 c16_i32_571
  let v277 : Index := Scalar.indexCast v266
  ![4, v277.toNat]
@[reducible] def k2_t6_loop : Scf.Loop 32 :=
  let c0_i32_82 : BitVec 32 := 0#32
  let c64_i32_83 : BitVec 32 := 64#32
  let v46 : BitVec 32 := Scalar.addi c0_i32_82 c64_i32_83
  let c1_i32_84 : BitVec 32 := 1#32
  ⟨c0_i32_82, v46, c1_i32_84⟩
def k2_off17 (k2_t6 : Fin k2_t6_loop.trips) : Fin 2 → Nat :=
  let c5_i32 : BitVec 32 := 5#32
  let v267 : Index := Scalar.indexCast c5_i32
  let c0_i32_82 : BitVec 32 := 0#32
  let c1_i32_84 : BitVec 32 := 1#32
  let arg10 : BitVec 32 := Scf.iv c0_i32_82 c1_i32_84 k2_t6
  let c16_i32_571 : BitVec 32 := 16#32
  let v266 : BitVec 32 := Scalar.muli arg10 c16_i32_571
  let v268 : Index := Scalar.indexCast v266
  ![5, v268.toNat]
def k2_off18 (k2_t6 : Fin k2_t6_loop.trips) : Fin 2 → Nat :=
  let c21_i32 : BitVec 32 := 21#32
  let v271 : Index := Scalar.indexCast c21_i32
  let c0_i32_82 : BitVec 32 := 0#32
  let c1_i32_84 : BitVec 32 := 1#32
  let arg10 : BitVec 32 := Scf.iv c0_i32_82 c1_i32_84 k2_t6
  let c16_i32_571 : BitVec 32 := 16#32
  let v266 : BitVec 32 := Scalar.muli arg10 c16_i32_571
  let v272 : Index := Scalar.indexCast v266
  ![21, v272.toNat]
def k2_off19 (k2_t6 : Fin k2_t6_loop.trips) : Fin 2 → Nat :=
  let c5_i32_572 : BitVec 32 := 5#32
  let v276 : Index := Scalar.indexCast c5_i32_572
  let c0_i32_82 : BitVec 32 := 0#32
  let c1_i32_84 : BitVec 32 := 1#32
  let arg10 : BitVec 32 := Scf.iv c0_i32_82 c1_i32_84 k2_t6
  let c16_i32_571 : BitVec 32 := 16#32
  let v266 : BitVec 32 := Scalar.muli arg10 c16_i32_571
  let v277 : Index := Scalar.indexCast v266
  ![5, v277.toNat]
@[reducible] def k2_t7_loop : Scf.Loop 32 :=
  let c0_i32_87 : BitVec 32 := 0#32
  let c64_i32_88 : BitVec 32 := 64#32
  let v48 : BitVec 32 := Scalar.addi c0_i32_87 c64_i32_88
  let c1_i32_89 : BitVec 32 := 1#32
  ⟨c0_i32_87, v48, c1_i32_89⟩
def k2_off20 (k2_t7 : Fin k2_t7_loop.trips) : Fin 2 → Nat :=
  let c6_i32 : BitVec 32 := 6#32
  let v267 : Index := Scalar.indexCast c6_i32
  let c0_i32_87 : BitVec 32 := 0#32
  let c1_i32_89 : BitVec 32 := 1#32
  let arg10 : BitVec 32 := Scf.iv c0_i32_87 c1_i32_89 k2_t7
  let c16_i32_571 : BitVec 32 := 16#32
  let v266 : BitVec 32 := Scalar.muli arg10 c16_i32_571
  let v268 : Index := Scalar.indexCast v266
  ![6, v268.toNat]
def k2_off21 (k2_t7 : Fin k2_t7_loop.trips) : Fin 2 → Nat :=
  let c22_i32 : BitVec 32 := 22#32
  let v271 : Index := Scalar.indexCast c22_i32
  let c0_i32_87 : BitVec 32 := 0#32
  let c1_i32_89 : BitVec 32 := 1#32
  let arg10 : BitVec 32 := Scf.iv c0_i32_87 c1_i32_89 k2_t7
  let c16_i32_571 : BitVec 32 := 16#32
  let v266 : BitVec 32 := Scalar.muli arg10 c16_i32_571
  let v272 : Index := Scalar.indexCast v266
  ![22, v272.toNat]
def k2_off22 (k2_t7 : Fin k2_t7_loop.trips) : Fin 2 → Nat :=
  let c6_i32_572 : BitVec 32 := 6#32
  let v276 : Index := Scalar.indexCast c6_i32_572
  let c0_i32_87 : BitVec 32 := 0#32
  let c1_i32_89 : BitVec 32 := 1#32
  let arg10 : BitVec 32 := Scf.iv c0_i32_87 c1_i32_89 k2_t7
  let c16_i32_571 : BitVec 32 := 16#32
  let v266 : BitVec 32 := Scalar.muli arg10 c16_i32_571
  let v277 : Index := Scalar.indexCast v266
  ![6, v277.toNat]
@[reducible] def k2_t8_loop : Scf.Loop 32 :=
  let c0_i32_92 : BitVec 32 := 0#32
  let c64_i32_93 : BitVec 32 := 64#32
  let v50 : BitVec 32 := Scalar.addi c0_i32_92 c64_i32_93
  let c1_i32_94 : BitVec 32 := 1#32
  ⟨c0_i32_92, v50, c1_i32_94⟩
def k2_off23 (k2_t8 : Fin k2_t8_loop.trips) : Fin 2 → Nat :=
  let c7_i32 : BitVec 32 := 7#32
  let v267 : Index := Scalar.indexCast c7_i32
  let c0_i32_92 : BitVec 32 := 0#32
  let c1_i32_94 : BitVec 32 := 1#32
  let arg10 : BitVec 32 := Scf.iv c0_i32_92 c1_i32_94 k2_t8
  let c16_i32_571 : BitVec 32 := 16#32
  let v266 : BitVec 32 := Scalar.muli arg10 c16_i32_571
  let v268 : Index := Scalar.indexCast v266
  ![7, v268.toNat]
def k2_off24 (k2_t8 : Fin k2_t8_loop.trips) : Fin 2 → Nat :=
  let c23_i32 : BitVec 32 := 23#32
  let v271 : Index := Scalar.indexCast c23_i32
  let c0_i32_92 : BitVec 32 := 0#32
  let c1_i32_94 : BitVec 32 := 1#32
  let arg10 : BitVec 32 := Scf.iv c0_i32_92 c1_i32_94 k2_t8
  let c16_i32_571 : BitVec 32 := 16#32
  let v266 : BitVec 32 := Scalar.muli arg10 c16_i32_571
  let v272 : Index := Scalar.indexCast v266
  ![23, v272.toNat]
def k2_off25 (k2_t8 : Fin k2_t8_loop.trips) : Fin 2 → Nat :=
  let c7_i32_572 : BitVec 32 := 7#32
  let v276 : Index := Scalar.indexCast c7_i32_572
  let c0_i32_92 : BitVec 32 := 0#32
  let c1_i32_94 : BitVec 32 := 1#32
  let arg10 : BitVec 32 := Scf.iv c0_i32_92 c1_i32_94 k2_t8
  let c16_i32_571 : BitVec 32 := 16#32
  let v266 : BitVec 32 := Scalar.muli arg10 c16_i32_571
  let v277 : Index := Scalar.indexCast v266
  ![7, v277.toNat]
@[reducible] def k2_t9_loop : Scf.Loop 32 :=
  let c0_i32_97 : BitVec 32 := 0#32
  let c64_i32_98 : BitVec 32 := 64#32
  let v52 : BitVec 32 := Scalar.addi c0_i32_97 c64_i32_98
  let c1_i32_99 : BitVec 32 := 1#32
  ⟨c0_i32_97, v52, c1_i32_99⟩
def k2_off26 (k2_t9 : Fin k2_t9_loop.trips) : Fin 2 → Nat :=
  let c8_i32 : BitVec 32 := 8#32
  let v267 : Index := Scalar.indexCast c8_i32
  let c0_i32_97 : BitVec 32 := 0#32
  let c1_i32_99 : BitVec 32 := 1#32
  let arg10 : BitVec 32 := Scf.iv c0_i32_97 c1_i32_99 k2_t9
  let c16_i32_571 : BitVec 32 := 16#32
  let v266 : BitVec 32 := Scalar.muli arg10 c16_i32_571
  let v268 : Index := Scalar.indexCast v266
  ![8, v268.toNat]
def k2_off27 (k2_t9 : Fin k2_t9_loop.trips) : Fin 2 → Nat :=
  let c24_i32 : BitVec 32 := 24#32
  let v271 : Index := Scalar.indexCast c24_i32
  let c0_i32_97 : BitVec 32 := 0#32
  let c1_i32_99 : BitVec 32 := 1#32
  let arg10 : BitVec 32 := Scf.iv c0_i32_97 c1_i32_99 k2_t9
  let c16_i32_571 : BitVec 32 := 16#32
  let v266 : BitVec 32 := Scalar.muli arg10 c16_i32_571
  let v272 : Index := Scalar.indexCast v266
  ![24, v272.toNat]
def k2_off28 (k2_t9 : Fin k2_t9_loop.trips) : Fin 2 → Nat :=
  let c8_i32_572 : BitVec 32 := 8#32
  let v276 : Index := Scalar.indexCast c8_i32_572
  let c0_i32_97 : BitVec 32 := 0#32
  let c1_i32_99 : BitVec 32 := 1#32
  let arg10 : BitVec 32 := Scf.iv c0_i32_97 c1_i32_99 k2_t9
  let c16_i32_571 : BitVec 32 := 16#32
  let v266 : BitVec 32 := Scalar.muli arg10 c16_i32_571
  let v277 : Index := Scalar.indexCast v266
  ![8, v277.toNat]
@[reducible] def k2_t10_loop : Scf.Loop 32 :=
  let c0_i32_102 : BitVec 32 := 0#32
  let c64_i32_103 : BitVec 32 := 64#32
  let v54 : BitVec 32 := Scalar.addi c0_i32_102 c64_i32_103
  let c1_i32_104 : BitVec 32 := 1#32
  ⟨c0_i32_102, v54, c1_i32_104⟩
def k2_off29 (k2_t10 : Fin k2_t10_loop.trips) : Fin 2 → Nat :=
  let c9_i32 : BitVec 32 := 9#32
  let v267 : Index := Scalar.indexCast c9_i32
  let c0_i32_102 : BitVec 32 := 0#32
  let c1_i32_104 : BitVec 32 := 1#32
  let arg10 : BitVec 32 := Scf.iv c0_i32_102 c1_i32_104 k2_t10
  let c16_i32_571 : BitVec 32 := 16#32
  let v266 : BitVec 32 := Scalar.muli arg10 c16_i32_571
  let v268 : Index := Scalar.indexCast v266
  ![9, v268.toNat]
def k2_off30 (k2_t10 : Fin k2_t10_loop.trips) : Fin 2 → Nat :=
  let c25_i32 : BitVec 32 := 25#32
  let v271 : Index := Scalar.indexCast c25_i32
  let c0_i32_102 : BitVec 32 := 0#32
  let c1_i32_104 : BitVec 32 := 1#32
  let arg10 : BitVec 32 := Scf.iv c0_i32_102 c1_i32_104 k2_t10
  let c16_i32_571 : BitVec 32 := 16#32
  let v266 : BitVec 32 := Scalar.muli arg10 c16_i32_571
  let v272 : Index := Scalar.indexCast v266
  ![25, v272.toNat]
def k2_off31 (k2_t10 : Fin k2_t10_loop.trips) : Fin 2 → Nat :=
  let c9_i32_572 : BitVec 32 := 9#32
  let v276 : Index := Scalar.indexCast c9_i32_572
  let c0_i32_102 : BitVec 32 := 0#32
  let c1_i32_104 : BitVec 32 := 1#32
  let arg10 : BitVec 32 := Scf.iv c0_i32_102 c1_i32_104 k2_t10
  let c16_i32_571 : BitVec 32 := 16#32
  let v266 : BitVec 32 := Scalar.muli arg10 c16_i32_571
  let v277 : Index := Scalar.indexCast v266
  ![9, v277.toNat]
@[reducible] def k2_t11_loop : Scf.Loop 32 :=
  let c0_i32_107 : BitVec 32 := 0#32
  let c64_i32_108 : BitVec 32 := 64#32
  let v56 : BitVec 32 := Scalar.addi c0_i32_107 c64_i32_108
  let c1_i32_109 : BitVec 32 := 1#32
  ⟨c0_i32_107, v56, c1_i32_109⟩
def k2_off32 (k2_t11 : Fin k2_t11_loop.trips) : Fin 2 → Nat :=
  let c10_i32 : BitVec 32 := 10#32
  let v267 : Index := Scalar.indexCast c10_i32
  let c0_i32_107 : BitVec 32 := 0#32
  let c1_i32_109 : BitVec 32 := 1#32
  let arg10 : BitVec 32 := Scf.iv c0_i32_107 c1_i32_109 k2_t11
  let c16_i32_571 : BitVec 32 := 16#32
  let v266 : BitVec 32 := Scalar.muli arg10 c16_i32_571
  let v268 : Index := Scalar.indexCast v266
  ![10, v268.toNat]
def k2_off33 (k2_t11 : Fin k2_t11_loop.trips) : Fin 2 → Nat :=
  let c26_i32 : BitVec 32 := 26#32
  let v271 : Index := Scalar.indexCast c26_i32
  let c0_i32_107 : BitVec 32 := 0#32
  let c1_i32_109 : BitVec 32 := 1#32
  let arg10 : BitVec 32 := Scf.iv c0_i32_107 c1_i32_109 k2_t11
  let c16_i32_571 : BitVec 32 := 16#32
  let v266 : BitVec 32 := Scalar.muli arg10 c16_i32_571
  let v272 : Index := Scalar.indexCast v266
  ![26, v272.toNat]
def k2_off34 (k2_t11 : Fin k2_t11_loop.trips) : Fin 2 → Nat :=
  let c10_i32_572 : BitVec 32 := 10#32
  let v276 : Index := Scalar.indexCast c10_i32_572
  let c0_i32_107 : BitVec 32 := 0#32
  let c1_i32_109 : BitVec 32 := 1#32
  let arg10 : BitVec 32 := Scf.iv c0_i32_107 c1_i32_109 k2_t11
  let c16_i32_571 : BitVec 32 := 16#32
  let v266 : BitVec 32 := Scalar.muli arg10 c16_i32_571
  let v277 : Index := Scalar.indexCast v266
  ![10, v277.toNat]
@[reducible] def k2_t12_loop : Scf.Loop 32 :=
  let c0_i32_112 : BitVec 32 := 0#32
  let c64_i32_113 : BitVec 32 := 64#32
  let v58 : BitVec 32 := Scalar.addi c0_i32_112 c64_i32_113
  let c1_i32_114 : BitVec 32 := 1#32
  ⟨c0_i32_112, v58, c1_i32_114⟩
def k2_off35 (k2_t12 : Fin k2_t12_loop.trips) : Fin 2 → Nat :=
  let c11_i32 : BitVec 32 := 11#32
  let v267 : Index := Scalar.indexCast c11_i32
  let c0_i32_112 : BitVec 32 := 0#32
  let c1_i32_114 : BitVec 32 := 1#32
  let arg10 : BitVec 32 := Scf.iv c0_i32_112 c1_i32_114 k2_t12
  let c16_i32_571 : BitVec 32 := 16#32
  let v266 : BitVec 32 := Scalar.muli arg10 c16_i32_571
  let v268 : Index := Scalar.indexCast v266
  ![11, v268.toNat]
def k2_off36 (k2_t12 : Fin k2_t12_loop.trips) : Fin 2 → Nat :=
  let c27_i32 : BitVec 32 := 27#32
  let v271 : Index := Scalar.indexCast c27_i32
  let c0_i32_112 : BitVec 32 := 0#32
  let c1_i32_114 : BitVec 32 := 1#32
  let arg10 : BitVec 32 := Scf.iv c0_i32_112 c1_i32_114 k2_t12
  let c16_i32_571 : BitVec 32 := 16#32
  let v266 : BitVec 32 := Scalar.muli arg10 c16_i32_571
  let v272 : Index := Scalar.indexCast v266
  ![27, v272.toNat]
def k2_off37 (k2_t12 : Fin k2_t12_loop.trips) : Fin 2 → Nat :=
  let c11_i32_572 : BitVec 32 := 11#32
  let v276 : Index := Scalar.indexCast c11_i32_572
  let c0_i32_112 : BitVec 32 := 0#32
  let c1_i32_114 : BitVec 32 := 1#32
  let arg10 : BitVec 32 := Scf.iv c0_i32_112 c1_i32_114 k2_t12
  let c16_i32_571 : BitVec 32 := 16#32
  let v266 : BitVec 32 := Scalar.muli arg10 c16_i32_571
  let v277 : Index := Scalar.indexCast v266
  ![11, v277.toNat]
@[reducible] def k2_t13_loop : Scf.Loop 32 :=
  let c0_i32_117 : BitVec 32 := 0#32
  let c64_i32_118 : BitVec 32 := 64#32
  let v60 : BitVec 32 := Scalar.addi c0_i32_117 c64_i32_118
  let c1_i32_119 : BitVec 32 := 1#32
  ⟨c0_i32_117, v60, c1_i32_119⟩
def k2_off38 (k2_t13 : Fin k2_t13_loop.trips) : Fin 2 → Nat :=
  let c12_i32 : BitVec 32 := 12#32
  let v267 : Index := Scalar.indexCast c12_i32
  let c0_i32_117 : BitVec 32 := 0#32
  let c1_i32_119 : BitVec 32 := 1#32
  let arg10 : BitVec 32 := Scf.iv c0_i32_117 c1_i32_119 k2_t13
  let c16_i32_571 : BitVec 32 := 16#32
  let v266 : BitVec 32 := Scalar.muli arg10 c16_i32_571
  let v268 : Index := Scalar.indexCast v266
  ![12, v268.toNat]
def k2_off39 (k2_t13 : Fin k2_t13_loop.trips) : Fin 2 → Nat :=
  let c28_i32 : BitVec 32 := 28#32
  let v271 : Index := Scalar.indexCast c28_i32
  let c0_i32_117 : BitVec 32 := 0#32
  let c1_i32_119 : BitVec 32 := 1#32
  let arg10 : BitVec 32 := Scf.iv c0_i32_117 c1_i32_119 k2_t13
  let c16_i32_571 : BitVec 32 := 16#32
  let v266 : BitVec 32 := Scalar.muli arg10 c16_i32_571
  let v272 : Index := Scalar.indexCast v266
  ![28, v272.toNat]
def k2_off40 (k2_t13 : Fin k2_t13_loop.trips) : Fin 2 → Nat :=
  let c12_i32_572 : BitVec 32 := 12#32
  let v276 : Index := Scalar.indexCast c12_i32_572
  let c0_i32_117 : BitVec 32 := 0#32
  let c1_i32_119 : BitVec 32 := 1#32
  let arg10 : BitVec 32 := Scf.iv c0_i32_117 c1_i32_119 k2_t13
  let c16_i32_571 : BitVec 32 := 16#32
  let v266 : BitVec 32 := Scalar.muli arg10 c16_i32_571
  let v277 : Index := Scalar.indexCast v266
  ![12, v277.toNat]
@[reducible] def k2_t14_loop : Scf.Loop 32 :=
  let c0_i32_122 : BitVec 32 := 0#32
  let c64_i32_123 : BitVec 32 := 64#32
  let v62 : BitVec 32 := Scalar.addi c0_i32_122 c64_i32_123
  let c1_i32_124 : BitVec 32 := 1#32
  ⟨c0_i32_122, v62, c1_i32_124⟩
def k2_off41 (k2_t14 : Fin k2_t14_loop.trips) : Fin 2 → Nat :=
  let c13_i32 : BitVec 32 := 13#32
  let v267 : Index := Scalar.indexCast c13_i32
  let c0_i32_122 : BitVec 32 := 0#32
  let c1_i32_124 : BitVec 32 := 1#32
  let arg10 : BitVec 32 := Scf.iv c0_i32_122 c1_i32_124 k2_t14
  let c16_i32_571 : BitVec 32 := 16#32
  let v266 : BitVec 32 := Scalar.muli arg10 c16_i32_571
  let v268 : Index := Scalar.indexCast v266
  ![13, v268.toNat]
def k2_off42 (k2_t14 : Fin k2_t14_loop.trips) : Fin 2 → Nat :=
  let c29_i32 : BitVec 32 := 29#32
  let v271 : Index := Scalar.indexCast c29_i32
  let c0_i32_122 : BitVec 32 := 0#32
  let c1_i32_124 : BitVec 32 := 1#32
  let arg10 : BitVec 32 := Scf.iv c0_i32_122 c1_i32_124 k2_t14
  let c16_i32_571 : BitVec 32 := 16#32
  let v266 : BitVec 32 := Scalar.muli arg10 c16_i32_571
  let v272 : Index := Scalar.indexCast v266
  ![29, v272.toNat]
def k2_off43 (k2_t14 : Fin k2_t14_loop.trips) : Fin 2 → Nat :=
  let c13_i32_572 : BitVec 32 := 13#32
  let v276 : Index := Scalar.indexCast c13_i32_572
  let c0_i32_122 : BitVec 32 := 0#32
  let c1_i32_124 : BitVec 32 := 1#32
  let arg10 : BitVec 32 := Scf.iv c0_i32_122 c1_i32_124 k2_t14
  let c16_i32_571 : BitVec 32 := 16#32
  let v266 : BitVec 32 := Scalar.muli arg10 c16_i32_571
  let v277 : Index := Scalar.indexCast v266
  ![13, v277.toNat]
@[reducible] def k2_t15_loop : Scf.Loop 32 :=
  let c0_i32_127 : BitVec 32 := 0#32
  let c64_i32_128 : BitVec 32 := 64#32
  let v64 : BitVec 32 := Scalar.addi c0_i32_127 c64_i32_128
  let c1_i32_129 : BitVec 32 := 1#32
  ⟨c0_i32_127, v64, c1_i32_129⟩
def k2_off44 (k2_t15 : Fin k2_t15_loop.trips) : Fin 2 → Nat :=
  let c14_i32 : BitVec 32 := 14#32
  let v267 : Index := Scalar.indexCast c14_i32
  let c0_i32_127 : BitVec 32 := 0#32
  let c1_i32_129 : BitVec 32 := 1#32
  let arg10 : BitVec 32 := Scf.iv c0_i32_127 c1_i32_129 k2_t15
  let c16_i32_571 : BitVec 32 := 16#32
  let v266 : BitVec 32 := Scalar.muli arg10 c16_i32_571
  let v268 : Index := Scalar.indexCast v266
  ![14, v268.toNat]
def k2_off45 (k2_t15 : Fin k2_t15_loop.trips) : Fin 2 → Nat :=
  let c30_i32 : BitVec 32 := 30#32
  let v271 : Index := Scalar.indexCast c30_i32
  let c0_i32_127 : BitVec 32 := 0#32
  let c1_i32_129 : BitVec 32 := 1#32
  let arg10 : BitVec 32 := Scf.iv c0_i32_127 c1_i32_129 k2_t15
  let c16_i32_571 : BitVec 32 := 16#32
  let v266 : BitVec 32 := Scalar.muli arg10 c16_i32_571
  let v272 : Index := Scalar.indexCast v266
  ![30, v272.toNat]
def k2_off46 (k2_t15 : Fin k2_t15_loop.trips) : Fin 2 → Nat :=
  let c14_i32_572 : BitVec 32 := 14#32
  let v276 : Index := Scalar.indexCast c14_i32_572
  let c0_i32_127 : BitVec 32 := 0#32
  let c1_i32_129 : BitVec 32 := 1#32
  let arg10 : BitVec 32 := Scf.iv c0_i32_127 c1_i32_129 k2_t15
  let c16_i32_571 : BitVec 32 := 16#32
  let v266 : BitVec 32 := Scalar.muli arg10 c16_i32_571
  let v277 : Index := Scalar.indexCast v266
  ![14, v277.toNat]
@[reducible] def k2_t16_loop : Scf.Loop 32 :=
  let c0_i32_132 : BitVec 32 := 0#32
  let c64_i32_133 : BitVec 32 := 64#32
  let v66 : BitVec 32 := Scalar.addi c0_i32_132 c64_i32_133
  let c1_i32_134 : BitVec 32 := 1#32
  ⟨c0_i32_132, v66, c1_i32_134⟩
def k2_off47 (k2_t16 : Fin k2_t16_loop.trips) : Fin 2 → Nat :=
  let c15_i32 : BitVec 32 := 15#32
  let v267 : Index := Scalar.indexCast c15_i32
  let c0_i32_132 : BitVec 32 := 0#32
  let c1_i32_134 : BitVec 32 := 1#32
  let arg10 : BitVec 32 := Scf.iv c0_i32_132 c1_i32_134 k2_t16
  let c16_i32_571 : BitVec 32 := 16#32
  let v266 : BitVec 32 := Scalar.muli arg10 c16_i32_571
  let v268 : Index := Scalar.indexCast v266
  ![15, v268.toNat]
def k2_off48 (k2_t16 : Fin k2_t16_loop.trips) : Fin 2 → Nat :=
  let c31_i32 : BitVec 32 := 31#32
  let v271 : Index := Scalar.indexCast c31_i32
  let c0_i32_132 : BitVec 32 := 0#32
  let c1_i32_134 : BitVec 32 := 1#32
  let arg10 : BitVec 32 := Scf.iv c0_i32_132 c1_i32_134 k2_t16
  let c16_i32_571 : BitVec 32 := 16#32
  let v266 : BitVec 32 := Scalar.muli arg10 c16_i32_571
  let v272 : Index := Scalar.indexCast v266
  ![31, v272.toNat]
def k2_off49 (k2_t16 : Fin k2_t16_loop.trips) : Fin 2 → Nat :=
  let c15_i32_572 : BitVec 32 := 15#32
  let v276 : Index := Scalar.indexCast c15_i32_572
  let c0_i32_132 : BitVec 32 := 0#32
  let c1_i32_134 : BitVec 32 := 1#32
  let arg10 : BitVec 32 := Scf.iv c0_i32_132 c1_i32_134 k2_t16
  let c16_i32_571 : BitVec 32 := 16#32
  let v266 : BitVec 32 := Scalar.muli arg10 c16_i32_571
  let v277 : Index := Scalar.indexCast v266
  ![15, v277.toNat]
def k2_off50 (i : grid2.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let v3 : BitVec 32 := Scalar.addi v2 c0_i32
  let c0_i32_571_r2 : BitVec 32 := 0#32
  ![v3.toNat, 0]
@[reducible] def k2_t17_loop : Scf.Loop 32 :=
  let c0_i32_202 : BitVec 32 := 0#32
  let c64_i32_203 : BitVec 32 := 64#32
  let v102 : BitVec 32 := Scalar.addi c0_i32_202 c64_i32_203
  let c1_i32_204 : BitVec 32 := 1#32
  ⟨c0_i32_202, v102, c1_i32_204⟩
def k2_off51 (k2_t17 : Fin k2_t17_loop.trips) : Fin 2 → Nat :=
  let c0_i32_572 : BitVec 32 := 0#32
  let v267 : Index := Scalar.indexCast c0_i32_572
  let c0_i32_202 : BitVec 32 := 0#32
  let c1_i32_204 : BitVec 32 := 1#32
  let arg10 : BitVec 32 := Scf.iv c0_i32_202 c1_i32_204 k2_t17
  let c16_i32_571 : BitVec 32 := 16#32
  let v266 : BitVec 32 := Scalar.muli arg10 c16_i32_571
  let v268 : Index := Scalar.indexCast v266
  ![0, v268.toNat]
def k2_off52 (k2_t17 : Fin k2_t17_loop.trips) : Fin 2 → Nat :=
  let c16_i32_573 : BitVec 32 := 16#32
  let v271 : Index := Scalar.indexCast c16_i32_573
  let c0_i32_202 : BitVec 32 := 0#32
  let c1_i32_204 : BitVec 32 := 1#32
  let arg10 : BitVec 32 := Scf.iv c0_i32_202 c1_i32_204 k2_t17
  let c16_i32_571 : BitVec 32 := 16#32
  let v266 : BitVec 32 := Scalar.muli arg10 c16_i32_571
  let v272 : Index := Scalar.indexCast v266
  ![16, v272.toNat]
def k2_off53 (k2_t17 : Fin k2_t17_loop.trips) : Fin 2 → Nat :=
  let c0_i32_574 : BitVec 32 := 0#32
  let v276 : Index := Scalar.indexCast c0_i32_574
  let c0_i32_202 : BitVec 32 := 0#32
  let c1_i32_204 : BitVec 32 := 1#32
  let arg10 : BitVec 32 := Scf.iv c0_i32_202 c1_i32_204 k2_t17
  let c16_i32_571 : BitVec 32 := 16#32
  let v266 : BitVec 32 := Scalar.muli arg10 c16_i32_571
  let v277 : Index := Scalar.indexCast v266
  ![0, v277.toNat]
@[reducible] def k2_t18_loop : Scf.Loop 32 :=
  let c0_i32_207 : BitVec 32 := 0#32
  let c64_i32_208 : BitVec 32 := 64#32
  let v104 : BitVec 32 := Scalar.addi c0_i32_207 c64_i32_208
  let c1_i32_209 : BitVec 32 := 1#32
  ⟨c0_i32_207, v104, c1_i32_209⟩
def k2_off54 (k2_t18 : Fin k2_t18_loop.trips) : Fin 2 → Nat :=
  let c1_i32_572 : BitVec 32 := 1#32
  let v267 : Index := Scalar.indexCast c1_i32_572
  let c0_i32_207 : BitVec 32 := 0#32
  let c1_i32_209 : BitVec 32 := 1#32
  let arg10 : BitVec 32 := Scf.iv c0_i32_207 c1_i32_209 k2_t18
  let c16_i32_571 : BitVec 32 := 16#32
  let v266 : BitVec 32 := Scalar.muli arg10 c16_i32_571
  let v268 : Index := Scalar.indexCast v266
  ![1, v268.toNat]
def k2_off55 (k2_t18 : Fin k2_t18_loop.trips) : Fin 2 → Nat :=
  let c17_i32 : BitVec 32 := 17#32
  let v271 : Index := Scalar.indexCast c17_i32
  let c0_i32_207 : BitVec 32 := 0#32
  let c1_i32_209 : BitVec 32 := 1#32
  let arg10 : BitVec 32 := Scf.iv c0_i32_207 c1_i32_209 k2_t18
  let c16_i32_571 : BitVec 32 := 16#32
  let v266 : BitVec 32 := Scalar.muli arg10 c16_i32_571
  let v272 : Index := Scalar.indexCast v266
  ![17, v272.toNat]
def k2_off56 (k2_t18 : Fin k2_t18_loop.trips) : Fin 2 → Nat :=
  let c1_i32_573 : BitVec 32 := 1#32
  let v276 : Index := Scalar.indexCast c1_i32_573
  let c0_i32_207 : BitVec 32 := 0#32
  let c1_i32_209 : BitVec 32 := 1#32
  let arg10 : BitVec 32 := Scf.iv c0_i32_207 c1_i32_209 k2_t18
  let c16_i32_571 : BitVec 32 := 16#32
  let v266 : BitVec 32 := Scalar.muli arg10 c16_i32_571
  let v277 : Index := Scalar.indexCast v266
  ![1, v277.toNat]
@[reducible] def k2_t19_loop : Scf.Loop 32 :=
  let c0_i32_212 : BitVec 32 := 0#32
  let c64_i32_213 : BitVec 32 := 64#32
  let v106 : BitVec 32 := Scalar.addi c0_i32_212 c64_i32_213
  let c1_i32_214 : BitVec 32 := 1#32
  ⟨c0_i32_212, v106, c1_i32_214⟩
def k2_off57 (k2_t19 : Fin k2_t19_loop.trips) : Fin 2 → Nat :=
  let c2_i32_572 : BitVec 32 := 2#32
  let v267 : Index := Scalar.indexCast c2_i32_572
  let c0_i32_212 : BitVec 32 := 0#32
  let c1_i32_214 : BitVec 32 := 1#32
  let arg10 : BitVec 32 := Scf.iv c0_i32_212 c1_i32_214 k2_t19
  let c16_i32_571 : BitVec 32 := 16#32
  let v266 : BitVec 32 := Scalar.muli arg10 c16_i32_571
  let v268 : Index := Scalar.indexCast v266
  ![2, v268.toNat]
def k2_off58 (k2_t19 : Fin k2_t19_loop.trips) : Fin 2 → Nat :=
  let c18_i32 : BitVec 32 := 18#32
  let v271 : Index := Scalar.indexCast c18_i32
  let c0_i32_212 : BitVec 32 := 0#32
  let c1_i32_214 : BitVec 32 := 1#32
  let arg10 : BitVec 32 := Scf.iv c0_i32_212 c1_i32_214 k2_t19
  let c16_i32_571 : BitVec 32 := 16#32
  let v266 : BitVec 32 := Scalar.muli arg10 c16_i32_571
  let v272 : Index := Scalar.indexCast v266
  ![18, v272.toNat]
def k2_off59 (k2_t19 : Fin k2_t19_loop.trips) : Fin 2 → Nat :=
  let c2_i32_573 : BitVec 32 := 2#32
  let v276 : Index := Scalar.indexCast c2_i32_573
  let c0_i32_212 : BitVec 32 := 0#32
  let c1_i32_214 : BitVec 32 := 1#32
  let arg10 : BitVec 32 := Scf.iv c0_i32_212 c1_i32_214 k2_t19
  let c16_i32_571 : BitVec 32 := 16#32
  let v266 : BitVec 32 := Scalar.muli arg10 c16_i32_571
  let v277 : Index := Scalar.indexCast v266
  ![2, v277.toNat]
@[reducible] def k2_t20_loop : Scf.Loop 32 :=
  let c0_i32_217 : BitVec 32 := 0#32
  let c64_i32_218 : BitVec 32 := 64#32
  let v108 : BitVec 32 := Scalar.addi c0_i32_217 c64_i32_218
  let c1_i32_219 : BitVec 32 := 1#32
  ⟨c0_i32_217, v108, c1_i32_219⟩
def k2_off60 (k2_t20 : Fin k2_t20_loop.trips) : Fin 2 → Nat :=
  let c3_i32 : BitVec 32 := 3#32
  let v267 : Index := Scalar.indexCast c3_i32
  let c0_i32_217 : BitVec 32 := 0#32
  let c1_i32_219 : BitVec 32 := 1#32
  let arg10 : BitVec 32 := Scf.iv c0_i32_217 c1_i32_219 k2_t20
  let c16_i32_571 : BitVec 32 := 16#32
  let v266 : BitVec 32 := Scalar.muli arg10 c16_i32_571
  let v268 : Index := Scalar.indexCast v266
  ![3, v268.toNat]
def k2_off61 (k2_t20 : Fin k2_t20_loop.trips) : Fin 2 → Nat :=
  let c19_i32 : BitVec 32 := 19#32
  let v271 : Index := Scalar.indexCast c19_i32
  let c0_i32_217 : BitVec 32 := 0#32
  let c1_i32_219 : BitVec 32 := 1#32
  let arg10 : BitVec 32 := Scf.iv c0_i32_217 c1_i32_219 k2_t20
  let c16_i32_571 : BitVec 32 := 16#32
  let v266 : BitVec 32 := Scalar.muli arg10 c16_i32_571
  let v272 : Index := Scalar.indexCast v266
  ![19, v272.toNat]
def k2_off62 (k2_t20 : Fin k2_t20_loop.trips) : Fin 2 → Nat :=
  let c3_i32_572 : BitVec 32 := 3#32
  let v276 : Index := Scalar.indexCast c3_i32_572
  let c0_i32_217 : BitVec 32 := 0#32
  let c1_i32_219 : BitVec 32 := 1#32
  let arg10 : BitVec 32 := Scf.iv c0_i32_217 c1_i32_219 k2_t20
  let c16_i32_571 : BitVec 32 := 16#32
  let v266 : BitVec 32 := Scalar.muli arg10 c16_i32_571
  let v277 : Index := Scalar.indexCast v266
  ![3, v277.toNat]
@[reducible] def k2_t21_loop : Scf.Loop 32 :=
  let c0_i32_222 : BitVec 32 := 0#32
  let c64_i32_223 : BitVec 32 := 64#32
  let v110 : BitVec 32 := Scalar.addi c0_i32_222 c64_i32_223
  let c1_i32_224 : BitVec 32 := 1#32
  ⟨c0_i32_222, v110, c1_i32_224⟩
def k2_off63 (k2_t21 : Fin k2_t21_loop.trips) : Fin 2 → Nat :=
  let c4_i32 : BitVec 32 := 4#32
  let v267 : Index := Scalar.indexCast c4_i32
  let c0_i32_222 : BitVec 32 := 0#32
  let c1_i32_224 : BitVec 32 := 1#32
  let arg10 : BitVec 32 := Scf.iv c0_i32_222 c1_i32_224 k2_t21
  let c16_i32_571 : BitVec 32 := 16#32
  let v266 : BitVec 32 := Scalar.muli arg10 c16_i32_571
  let v268 : Index := Scalar.indexCast v266
  ![4, v268.toNat]
def k2_off64 (k2_t21 : Fin k2_t21_loop.trips) : Fin 2 → Nat :=
  let c20_i32 : BitVec 32 := 20#32
  let v271 : Index := Scalar.indexCast c20_i32
  let c0_i32_222 : BitVec 32 := 0#32
  let c1_i32_224 : BitVec 32 := 1#32
  let arg10 : BitVec 32 := Scf.iv c0_i32_222 c1_i32_224 k2_t21
  let c16_i32_571 : BitVec 32 := 16#32
  let v266 : BitVec 32 := Scalar.muli arg10 c16_i32_571
  let v272 : Index := Scalar.indexCast v266
  ![20, v272.toNat]
def k2_off65 (k2_t21 : Fin k2_t21_loop.trips) : Fin 2 → Nat :=
  let c4_i32_572 : BitVec 32 := 4#32
  let v276 : Index := Scalar.indexCast c4_i32_572
  let c0_i32_222 : BitVec 32 := 0#32
  let c1_i32_224 : BitVec 32 := 1#32
  let arg10 : BitVec 32 := Scf.iv c0_i32_222 c1_i32_224 k2_t21
  let c16_i32_571 : BitVec 32 := 16#32
  let v266 : BitVec 32 := Scalar.muli arg10 c16_i32_571
  let v277 : Index := Scalar.indexCast v266
  ![4, v277.toNat]
@[reducible] def k2_t22_loop : Scf.Loop 32 :=
  let c0_i32_227 : BitVec 32 := 0#32
  let c64_i32_228 : BitVec 32 := 64#32
  let v112 : BitVec 32 := Scalar.addi c0_i32_227 c64_i32_228
  let c1_i32_229 : BitVec 32 := 1#32
  ⟨c0_i32_227, v112, c1_i32_229⟩
def k2_off66 (k2_t22 : Fin k2_t22_loop.trips) : Fin 2 → Nat :=
  let c5_i32 : BitVec 32 := 5#32
  let v267 : Index := Scalar.indexCast c5_i32
  let c0_i32_227 : BitVec 32 := 0#32
  let c1_i32_229 : BitVec 32 := 1#32
  let arg10 : BitVec 32 := Scf.iv c0_i32_227 c1_i32_229 k2_t22
  let c16_i32_571 : BitVec 32 := 16#32
  let v266 : BitVec 32 := Scalar.muli arg10 c16_i32_571
  let v268 : Index := Scalar.indexCast v266
  ![5, v268.toNat]
def k2_off67 (k2_t22 : Fin k2_t22_loop.trips) : Fin 2 → Nat :=
  let c21_i32 : BitVec 32 := 21#32
  let v271 : Index := Scalar.indexCast c21_i32
  let c0_i32_227 : BitVec 32 := 0#32
  let c1_i32_229 : BitVec 32 := 1#32
  let arg10 : BitVec 32 := Scf.iv c0_i32_227 c1_i32_229 k2_t22
  let c16_i32_571 : BitVec 32 := 16#32
  let v266 : BitVec 32 := Scalar.muli arg10 c16_i32_571
  let v272 : Index := Scalar.indexCast v266
  ![21, v272.toNat]
def k2_off68 (k2_t22 : Fin k2_t22_loop.trips) : Fin 2 → Nat :=
  let c5_i32_572 : BitVec 32 := 5#32
  let v276 : Index := Scalar.indexCast c5_i32_572
  let c0_i32_227 : BitVec 32 := 0#32
  let c1_i32_229 : BitVec 32 := 1#32
  let arg10 : BitVec 32 := Scf.iv c0_i32_227 c1_i32_229 k2_t22
  let c16_i32_571 : BitVec 32 := 16#32
  let v266 : BitVec 32 := Scalar.muli arg10 c16_i32_571
  let v277 : Index := Scalar.indexCast v266
  ![5, v277.toNat]
@[reducible] def k2_t23_loop : Scf.Loop 32 :=
  let c0_i32_232 : BitVec 32 := 0#32
  let c64_i32_233 : BitVec 32 := 64#32
  let v114 : BitVec 32 := Scalar.addi c0_i32_232 c64_i32_233
  let c1_i32_234 : BitVec 32 := 1#32
  ⟨c0_i32_232, v114, c1_i32_234⟩
def k2_off69 (k2_t23 : Fin k2_t23_loop.trips) : Fin 2 → Nat :=
  let c6_i32 : BitVec 32 := 6#32
  let v267 : Index := Scalar.indexCast c6_i32
  let c0_i32_232 : BitVec 32 := 0#32
  let c1_i32_234 : BitVec 32 := 1#32
  let arg10 : BitVec 32 := Scf.iv c0_i32_232 c1_i32_234 k2_t23
  let c16_i32_571 : BitVec 32 := 16#32
  let v266 : BitVec 32 := Scalar.muli arg10 c16_i32_571
  let v268 : Index := Scalar.indexCast v266
  ![6, v268.toNat]
def k2_off70 (k2_t23 : Fin k2_t23_loop.trips) : Fin 2 → Nat :=
  let c22_i32 : BitVec 32 := 22#32
  let v271 : Index := Scalar.indexCast c22_i32
  let c0_i32_232 : BitVec 32 := 0#32
  let c1_i32_234 : BitVec 32 := 1#32
  let arg10 : BitVec 32 := Scf.iv c0_i32_232 c1_i32_234 k2_t23
  let c16_i32_571 : BitVec 32 := 16#32
  let v266 : BitVec 32 := Scalar.muli arg10 c16_i32_571
  let v272 : Index := Scalar.indexCast v266
  ![22, v272.toNat]
def k2_off71 (k2_t23 : Fin k2_t23_loop.trips) : Fin 2 → Nat :=
  let c6_i32_572 : BitVec 32 := 6#32
  let v276 : Index := Scalar.indexCast c6_i32_572
  let c0_i32_232 : BitVec 32 := 0#32
  let c1_i32_234 : BitVec 32 := 1#32
  let arg10 : BitVec 32 := Scf.iv c0_i32_232 c1_i32_234 k2_t23
  let c16_i32_571 : BitVec 32 := 16#32
  let v266 : BitVec 32 := Scalar.muli arg10 c16_i32_571
  let v277 : Index := Scalar.indexCast v266
  ![6, v277.toNat]
@[reducible] def k2_t24_loop : Scf.Loop 32 :=
  let c0_i32_237 : BitVec 32 := 0#32
  let c64_i32_238 : BitVec 32 := 64#32
  let v116 : BitVec 32 := Scalar.addi c0_i32_237 c64_i32_238
  let c1_i32_239 : BitVec 32 := 1#32
  ⟨c0_i32_237, v116, c1_i32_239⟩
def k2_off72 (k2_t24 : Fin k2_t24_loop.trips) : Fin 2 → Nat :=
  let c7_i32 : BitVec 32 := 7#32
  let v267 : Index := Scalar.indexCast c7_i32
  let c0_i32_237 : BitVec 32 := 0#32
  let c1_i32_239 : BitVec 32 := 1#32
  let arg10 : BitVec 32 := Scf.iv c0_i32_237 c1_i32_239 k2_t24
  let c16_i32_571 : BitVec 32 := 16#32
  let v266 : BitVec 32 := Scalar.muli arg10 c16_i32_571
  let v268 : Index := Scalar.indexCast v266
  ![7, v268.toNat]
def k2_off73 (k2_t24 : Fin k2_t24_loop.trips) : Fin 2 → Nat :=
  let c23_i32 : BitVec 32 := 23#32
  let v271 : Index := Scalar.indexCast c23_i32
  let c0_i32_237 : BitVec 32 := 0#32
  let c1_i32_239 : BitVec 32 := 1#32
  let arg10 : BitVec 32 := Scf.iv c0_i32_237 c1_i32_239 k2_t24
  let c16_i32_571 : BitVec 32 := 16#32
  let v266 : BitVec 32 := Scalar.muli arg10 c16_i32_571
  let v272 : Index := Scalar.indexCast v266
  ![23, v272.toNat]
def k2_off74 (k2_t24 : Fin k2_t24_loop.trips) : Fin 2 → Nat :=
  let c7_i32_572 : BitVec 32 := 7#32
  let v276 : Index := Scalar.indexCast c7_i32_572
  let c0_i32_237 : BitVec 32 := 0#32
  let c1_i32_239 : BitVec 32 := 1#32
  let arg10 : BitVec 32 := Scf.iv c0_i32_237 c1_i32_239 k2_t24
  let c16_i32_571 : BitVec 32 := 16#32
  let v266 : BitVec 32 := Scalar.muli arg10 c16_i32_571
  let v277 : Index := Scalar.indexCast v266
  ![7, v277.toNat]
@[reducible] def k2_t25_loop : Scf.Loop 32 :=
  let c0_i32_242 : BitVec 32 := 0#32
  let c64_i32_243 : BitVec 32 := 64#32
  let v118 : BitVec 32 := Scalar.addi c0_i32_242 c64_i32_243
  let c1_i32_244 : BitVec 32 := 1#32
  ⟨c0_i32_242, v118, c1_i32_244⟩
def k2_off75 (k2_t25 : Fin k2_t25_loop.trips) : Fin 2 → Nat :=
  let c8_i32 : BitVec 32 := 8#32
  let v267 : Index := Scalar.indexCast c8_i32
  let c0_i32_242 : BitVec 32 := 0#32
  let c1_i32_244 : BitVec 32 := 1#32
  let arg10 : BitVec 32 := Scf.iv c0_i32_242 c1_i32_244 k2_t25
  let c16_i32_571 : BitVec 32 := 16#32
  let v266 : BitVec 32 := Scalar.muli arg10 c16_i32_571
  let v268 : Index := Scalar.indexCast v266
  ![8, v268.toNat]
def k2_off76 (k2_t25 : Fin k2_t25_loop.trips) : Fin 2 → Nat :=
  let c24_i32 : BitVec 32 := 24#32
  let v271 : Index := Scalar.indexCast c24_i32
  let c0_i32_242 : BitVec 32 := 0#32
  let c1_i32_244 : BitVec 32 := 1#32
  let arg10 : BitVec 32 := Scf.iv c0_i32_242 c1_i32_244 k2_t25
  let c16_i32_571 : BitVec 32 := 16#32
  let v266 : BitVec 32 := Scalar.muli arg10 c16_i32_571
  let v272 : Index := Scalar.indexCast v266
  ![24, v272.toNat]
def k2_off77 (k2_t25 : Fin k2_t25_loop.trips) : Fin 2 → Nat :=
  let c8_i32_572 : BitVec 32 := 8#32
  let v276 : Index := Scalar.indexCast c8_i32_572
  let c0_i32_242 : BitVec 32 := 0#32
  let c1_i32_244 : BitVec 32 := 1#32
  let arg10 : BitVec 32 := Scf.iv c0_i32_242 c1_i32_244 k2_t25
  let c16_i32_571 : BitVec 32 := 16#32
  let v266 : BitVec 32 := Scalar.muli arg10 c16_i32_571
  let v277 : Index := Scalar.indexCast v266
  ![8, v277.toNat]
@[reducible] def k2_t26_loop : Scf.Loop 32 :=
  let c0_i32_247 : BitVec 32 := 0#32
  let c64_i32_248 : BitVec 32 := 64#32
  let v120 : BitVec 32 := Scalar.addi c0_i32_247 c64_i32_248
  let c1_i32_249 : BitVec 32 := 1#32
  ⟨c0_i32_247, v120, c1_i32_249⟩
def k2_off78 (k2_t26 : Fin k2_t26_loop.trips) : Fin 2 → Nat :=
  let c9_i32 : BitVec 32 := 9#32
  let v267 : Index := Scalar.indexCast c9_i32
  let c0_i32_247 : BitVec 32 := 0#32
  let c1_i32_249 : BitVec 32 := 1#32
  let arg10 : BitVec 32 := Scf.iv c0_i32_247 c1_i32_249 k2_t26
  let c16_i32_571 : BitVec 32 := 16#32
  let v266 : BitVec 32 := Scalar.muli arg10 c16_i32_571
  let v268 : Index := Scalar.indexCast v266
  ![9, v268.toNat]
def k2_off79 (k2_t26 : Fin k2_t26_loop.trips) : Fin 2 → Nat :=
  let c25_i32 : BitVec 32 := 25#32
  let v271 : Index := Scalar.indexCast c25_i32
  let c0_i32_247 : BitVec 32 := 0#32
  let c1_i32_249 : BitVec 32 := 1#32
  let arg10 : BitVec 32 := Scf.iv c0_i32_247 c1_i32_249 k2_t26
  let c16_i32_571 : BitVec 32 := 16#32
  let v266 : BitVec 32 := Scalar.muli arg10 c16_i32_571
  let v272 : Index := Scalar.indexCast v266
  ![25, v272.toNat]
def k2_off80 (k2_t26 : Fin k2_t26_loop.trips) : Fin 2 → Nat :=
  let c9_i32_572 : BitVec 32 := 9#32
  let v276 : Index := Scalar.indexCast c9_i32_572
  let c0_i32_247 : BitVec 32 := 0#32
  let c1_i32_249 : BitVec 32 := 1#32
  let arg10 : BitVec 32 := Scf.iv c0_i32_247 c1_i32_249 k2_t26
  let c16_i32_571 : BitVec 32 := 16#32
  let v266 : BitVec 32 := Scalar.muli arg10 c16_i32_571
  let v277 : Index := Scalar.indexCast v266
  ![9, v277.toNat]
@[reducible] def k2_t27_loop : Scf.Loop 32 :=
  let c0_i32_252 : BitVec 32 := 0#32
  let c64_i32_253 : BitVec 32 := 64#32
  let v122 : BitVec 32 := Scalar.addi c0_i32_252 c64_i32_253
  let c1_i32_254 : BitVec 32 := 1#32
  ⟨c0_i32_252, v122, c1_i32_254⟩
def k2_off81 (k2_t27 : Fin k2_t27_loop.trips) : Fin 2 → Nat :=
  let c10_i32 : BitVec 32 := 10#32
  let v267 : Index := Scalar.indexCast c10_i32
  let c0_i32_252 : BitVec 32 := 0#32
  let c1_i32_254 : BitVec 32 := 1#32
  let arg10 : BitVec 32 := Scf.iv c0_i32_252 c1_i32_254 k2_t27
  let c16_i32_571 : BitVec 32 := 16#32
  let v266 : BitVec 32 := Scalar.muli arg10 c16_i32_571
  let v268 : Index := Scalar.indexCast v266
  ![10, v268.toNat]
def k2_off82 (k2_t27 : Fin k2_t27_loop.trips) : Fin 2 → Nat :=
  let c26_i32 : BitVec 32 := 26#32
  let v271 : Index := Scalar.indexCast c26_i32
  let c0_i32_252 : BitVec 32 := 0#32
  let c1_i32_254 : BitVec 32 := 1#32
  let arg10 : BitVec 32 := Scf.iv c0_i32_252 c1_i32_254 k2_t27
  let c16_i32_571 : BitVec 32 := 16#32
  let v266 : BitVec 32 := Scalar.muli arg10 c16_i32_571
  let v272 : Index := Scalar.indexCast v266
  ![26, v272.toNat]
def k2_off83 (k2_t27 : Fin k2_t27_loop.trips) : Fin 2 → Nat :=
  let c10_i32_572 : BitVec 32 := 10#32
  let v276 : Index := Scalar.indexCast c10_i32_572
  let c0_i32_252 : BitVec 32 := 0#32
  let c1_i32_254 : BitVec 32 := 1#32
  let arg10 : BitVec 32 := Scf.iv c0_i32_252 c1_i32_254 k2_t27
  let c16_i32_571 : BitVec 32 := 16#32
  let v266 : BitVec 32 := Scalar.muli arg10 c16_i32_571
  let v277 : Index := Scalar.indexCast v266
  ![10, v277.toNat]
@[reducible] def k2_t28_loop : Scf.Loop 32 :=
  let c0_i32_257 : BitVec 32 := 0#32
  let c64_i32_258 : BitVec 32 := 64#32
  let v124 : BitVec 32 := Scalar.addi c0_i32_257 c64_i32_258
  let c1_i32_259 : BitVec 32 := 1#32
  ⟨c0_i32_257, v124, c1_i32_259⟩
def k2_off84 (k2_t28 : Fin k2_t28_loop.trips) : Fin 2 → Nat :=
  let c11_i32 : BitVec 32 := 11#32
  let v267 : Index := Scalar.indexCast c11_i32
  let c0_i32_257 : BitVec 32 := 0#32
  let c1_i32_259 : BitVec 32 := 1#32
  let arg10 : BitVec 32 := Scf.iv c0_i32_257 c1_i32_259 k2_t28
  let c16_i32_571 : BitVec 32 := 16#32
  let v266 : BitVec 32 := Scalar.muli arg10 c16_i32_571
  let v268 : Index := Scalar.indexCast v266
  ![11, v268.toNat]
def k2_off85 (k2_t28 : Fin k2_t28_loop.trips) : Fin 2 → Nat :=
  let c27_i32 : BitVec 32 := 27#32
  let v271 : Index := Scalar.indexCast c27_i32
  let c0_i32_257 : BitVec 32 := 0#32
  let c1_i32_259 : BitVec 32 := 1#32
  let arg10 : BitVec 32 := Scf.iv c0_i32_257 c1_i32_259 k2_t28
  let c16_i32_571 : BitVec 32 := 16#32
  let v266 : BitVec 32 := Scalar.muli arg10 c16_i32_571
  let v272 : Index := Scalar.indexCast v266
  ![27, v272.toNat]
def k2_off86 (k2_t28 : Fin k2_t28_loop.trips) : Fin 2 → Nat :=
  let c11_i32_572 : BitVec 32 := 11#32
  let v276 : Index := Scalar.indexCast c11_i32_572
  let c0_i32_257 : BitVec 32 := 0#32
  let c1_i32_259 : BitVec 32 := 1#32
  let arg10 : BitVec 32 := Scf.iv c0_i32_257 c1_i32_259 k2_t28
  let c16_i32_571 : BitVec 32 := 16#32
  let v266 : BitVec 32 := Scalar.muli arg10 c16_i32_571
  let v277 : Index := Scalar.indexCast v266
  ![11, v277.toNat]
@[reducible] def k2_t29_loop : Scf.Loop 32 :=
  let c0_i32_262 : BitVec 32 := 0#32
  let c64_i32_263 : BitVec 32 := 64#32
  let v126 : BitVec 32 := Scalar.addi c0_i32_262 c64_i32_263
  let c1_i32_264 : BitVec 32 := 1#32
  ⟨c0_i32_262, v126, c1_i32_264⟩
def k2_off87 (k2_t29 : Fin k2_t29_loop.trips) : Fin 2 → Nat :=
  let c12_i32 : BitVec 32 := 12#32
  let v267 : Index := Scalar.indexCast c12_i32
  let c0_i32_262 : BitVec 32 := 0#32
  let c1_i32_264 : BitVec 32 := 1#32
  let arg10 : BitVec 32 := Scf.iv c0_i32_262 c1_i32_264 k2_t29
  let c16_i32_571 : BitVec 32 := 16#32
  let v266 : BitVec 32 := Scalar.muli arg10 c16_i32_571
  let v268 : Index := Scalar.indexCast v266
  ![12, v268.toNat]
def k2_off88 (k2_t29 : Fin k2_t29_loop.trips) : Fin 2 → Nat :=
  let c28_i32 : BitVec 32 := 28#32
  let v271 : Index := Scalar.indexCast c28_i32
  let c0_i32_262 : BitVec 32 := 0#32
  let c1_i32_264 : BitVec 32 := 1#32
  let arg10 : BitVec 32 := Scf.iv c0_i32_262 c1_i32_264 k2_t29
  let c16_i32_571 : BitVec 32 := 16#32
  let v266 : BitVec 32 := Scalar.muli arg10 c16_i32_571
  let v272 : Index := Scalar.indexCast v266
  ![28, v272.toNat]
def k2_off89 (k2_t29 : Fin k2_t29_loop.trips) : Fin 2 → Nat :=
  let c12_i32_572 : BitVec 32 := 12#32
  let v276 : Index := Scalar.indexCast c12_i32_572
  let c0_i32_262 : BitVec 32 := 0#32
  let c1_i32_264 : BitVec 32 := 1#32
  let arg10 : BitVec 32 := Scf.iv c0_i32_262 c1_i32_264 k2_t29
  let c16_i32_571 : BitVec 32 := 16#32
  let v266 : BitVec 32 := Scalar.muli arg10 c16_i32_571
  let v277 : Index := Scalar.indexCast v266
  ![12, v277.toNat]
@[reducible] def k2_t30_loop : Scf.Loop 32 :=
  let c0_i32_267 : BitVec 32 := 0#32
  let c64_i32_268 : BitVec 32 := 64#32
  let v128 : BitVec 32 := Scalar.addi c0_i32_267 c64_i32_268
  let c1_i32_269 : BitVec 32 := 1#32
  ⟨c0_i32_267, v128, c1_i32_269⟩
def k2_off90 (k2_t30 : Fin k2_t30_loop.trips) : Fin 2 → Nat :=
  let c13_i32 : BitVec 32 := 13#32
  let v267 : Index := Scalar.indexCast c13_i32
  let c0_i32_267 : BitVec 32 := 0#32
  let c1_i32_269 : BitVec 32 := 1#32
  let arg10 : BitVec 32 := Scf.iv c0_i32_267 c1_i32_269 k2_t30
  let c16_i32_571 : BitVec 32 := 16#32
  let v266 : BitVec 32 := Scalar.muli arg10 c16_i32_571
  let v268 : Index := Scalar.indexCast v266
  ![13, v268.toNat]
def k2_off91 (k2_t30 : Fin k2_t30_loop.trips) : Fin 2 → Nat :=
  let c29_i32 : BitVec 32 := 29#32
  let v271 : Index := Scalar.indexCast c29_i32
  let c0_i32_267 : BitVec 32 := 0#32
  let c1_i32_269 : BitVec 32 := 1#32
  let arg10 : BitVec 32 := Scf.iv c0_i32_267 c1_i32_269 k2_t30
  let c16_i32_571 : BitVec 32 := 16#32
  let v266 : BitVec 32 := Scalar.muli arg10 c16_i32_571
  let v272 : Index := Scalar.indexCast v266
  ![29, v272.toNat]
def k2_off92 (k2_t30 : Fin k2_t30_loop.trips) : Fin 2 → Nat :=
  let c13_i32_572 : BitVec 32 := 13#32
  let v276 : Index := Scalar.indexCast c13_i32_572
  let c0_i32_267 : BitVec 32 := 0#32
  let c1_i32_269 : BitVec 32 := 1#32
  let arg10 : BitVec 32 := Scf.iv c0_i32_267 c1_i32_269 k2_t30
  let c16_i32_571 : BitVec 32 := 16#32
  let v266 : BitVec 32 := Scalar.muli arg10 c16_i32_571
  let v277 : Index := Scalar.indexCast v266
  ![13, v277.toNat]
@[reducible] def k2_t31_loop : Scf.Loop 32 :=
  let c0_i32_272 : BitVec 32 := 0#32
  let c64_i32_273 : BitVec 32 := 64#32
  let v130 : BitVec 32 := Scalar.addi c0_i32_272 c64_i32_273
  let c1_i32_274 : BitVec 32 := 1#32
  ⟨c0_i32_272, v130, c1_i32_274⟩
def k2_off93 (k2_t31 : Fin k2_t31_loop.trips) : Fin 2 → Nat :=
  let c14_i32 : BitVec 32 := 14#32
  let v267 : Index := Scalar.indexCast c14_i32
  let c0_i32_272 : BitVec 32 := 0#32
  let c1_i32_274 : BitVec 32 := 1#32
  let arg10 : BitVec 32 := Scf.iv c0_i32_272 c1_i32_274 k2_t31
  let c16_i32_571 : BitVec 32 := 16#32
  let v266 : BitVec 32 := Scalar.muli arg10 c16_i32_571
  let v268 : Index := Scalar.indexCast v266
  ![14, v268.toNat]
def k2_off94 (k2_t31 : Fin k2_t31_loop.trips) : Fin 2 → Nat :=
  let c30_i32 : BitVec 32 := 30#32
  let v271 : Index := Scalar.indexCast c30_i32
  let c0_i32_272 : BitVec 32 := 0#32
  let c1_i32_274 : BitVec 32 := 1#32
  let arg10 : BitVec 32 := Scf.iv c0_i32_272 c1_i32_274 k2_t31
  let c16_i32_571 : BitVec 32 := 16#32
  let v266 : BitVec 32 := Scalar.muli arg10 c16_i32_571
  let v272 : Index := Scalar.indexCast v266
  ![30, v272.toNat]
def k2_off95 (k2_t31 : Fin k2_t31_loop.trips) : Fin 2 → Nat :=
  let c14_i32_572 : BitVec 32 := 14#32
  let v276 : Index := Scalar.indexCast c14_i32_572
  let c0_i32_272 : BitVec 32 := 0#32
  let c1_i32_274 : BitVec 32 := 1#32
  let arg10 : BitVec 32 := Scf.iv c0_i32_272 c1_i32_274 k2_t31
  let c16_i32_571 : BitVec 32 := 16#32
  let v266 : BitVec 32 := Scalar.muli arg10 c16_i32_571
  let v277 : Index := Scalar.indexCast v266
  ![14, v277.toNat]
@[reducible] def k2_t32_loop : Scf.Loop 32 :=
  let c0_i32_277 : BitVec 32 := 0#32
  let c64_i32_278 : BitVec 32 := 64#32
  let v132 : BitVec 32 := Scalar.addi c0_i32_277 c64_i32_278
  let c1_i32_279 : BitVec 32 := 1#32
  ⟨c0_i32_277, v132, c1_i32_279⟩
def k2_off96 (k2_t32 : Fin k2_t32_loop.trips) : Fin 2 → Nat :=
  let c15_i32 : BitVec 32 := 15#32
  let v267 : Index := Scalar.indexCast c15_i32
  let c0_i32_277 : BitVec 32 := 0#32
  let c1_i32_279 : BitVec 32 := 1#32
  let arg10 : BitVec 32 := Scf.iv c0_i32_277 c1_i32_279 k2_t32
  let c16_i32_571 : BitVec 32 := 16#32
  let v266 : BitVec 32 := Scalar.muli arg10 c16_i32_571
  let v268 : Index := Scalar.indexCast v266
  ![15, v268.toNat]
def k2_off97 (k2_t32 : Fin k2_t32_loop.trips) : Fin 2 → Nat :=
  let c31_i32 : BitVec 32 := 31#32
  let v271 : Index := Scalar.indexCast c31_i32
  let c0_i32_277 : BitVec 32 := 0#32
  let c1_i32_279 : BitVec 32 := 1#32
  let arg10 : BitVec 32 := Scf.iv c0_i32_277 c1_i32_279 k2_t32
  let c16_i32_571 : BitVec 32 := 16#32
  let v266 : BitVec 32 := Scalar.muli arg10 c16_i32_571
  let v272 : Index := Scalar.indexCast v266
  ![31, v272.toNat]
def k2_off98 (k2_t32 : Fin k2_t32_loop.trips) : Fin 2 → Nat :=
  let c15_i32_572 : BitVec 32 := 15#32
  let v276 : Index := Scalar.indexCast c15_i32_572
  let c0_i32_277 : BitVec 32 := 0#32
  let c1_i32_279 : BitVec 32 := 1#32
  let arg10 : BitVec 32 := Scf.iv c0_i32_277 c1_i32_279 k2_t32
  let c16_i32_571 : BitVec 32 := 16#32
  let v266 : BitVec 32 := Scalar.muli arg10 c16_i32_571
  let v277 : Index := Scalar.indexCast v266
  ![15, v277.toNat]
@[reducible] def k2_t33_loop : Scf.Loop 32 :=
  let c0_i32_347 : BitVec 32 := 0#32
  let c64_i32_348 : BitVec 32 := 64#32
  let v168 : BitVec 32 := Scalar.addi c0_i32_347 c64_i32_348
  let c1_i32_349 : BitVec 32 := 1#32
  ⟨c0_i32_347, v168, c1_i32_349⟩
def k2_off99 (k2_t33 : Fin k2_t33_loop.trips) : Fin 2 → Nat :=
  let c0_i32_572 : BitVec 32 := 0#32
  let v267 : Index := Scalar.indexCast c0_i32_572
  let c0_i32_347 : BitVec 32 := 0#32
  let c1_i32_349 : BitVec 32 := 1#32
  let arg10 : BitVec 32 := Scf.iv c0_i32_347 c1_i32_349 k2_t33
  let c16_i32_571 : BitVec 32 := 16#32
  let v266 : BitVec 32 := Scalar.muli arg10 c16_i32_571
  let v268 : Index := Scalar.indexCast v266
  ![0, v268.toNat]
def k2_off100 (k2_t33 : Fin k2_t33_loop.trips) : Fin 2 → Nat :=
  let c16_i32_573 : BitVec 32 := 16#32
  let v271 : Index := Scalar.indexCast c16_i32_573
  let c0_i32_347 : BitVec 32 := 0#32
  let c1_i32_349 : BitVec 32 := 1#32
  let arg10 : BitVec 32 := Scf.iv c0_i32_347 c1_i32_349 k2_t33
  let c16_i32_571 : BitVec 32 := 16#32
  let v266 : BitVec 32 := Scalar.muli arg10 c16_i32_571
  let v272 : Index := Scalar.indexCast v266
  ![16, v272.toNat]
def k2_off101 (k2_t33 : Fin k2_t33_loop.trips) : Fin 2 → Nat :=
  let c0_i32_574 : BitVec 32 := 0#32
  let v276 : Index := Scalar.indexCast c0_i32_574
  let c0_i32_347 : BitVec 32 := 0#32
  let c1_i32_349 : BitVec 32 := 1#32
  let arg10 : BitVec 32 := Scf.iv c0_i32_347 c1_i32_349 k2_t33
  let c16_i32_571 : BitVec 32 := 16#32
  let v266 : BitVec 32 := Scalar.muli arg10 c16_i32_571
  let v277 : Index := Scalar.indexCast v266
  ![0, v277.toNat]
@[reducible] def k2_t34_loop : Scf.Loop 32 :=
  let c0_i32_352 : BitVec 32 := 0#32
  let c64_i32_353 : BitVec 32 := 64#32
  let v170 : BitVec 32 := Scalar.addi c0_i32_352 c64_i32_353
  let c1_i32_354 : BitVec 32 := 1#32
  ⟨c0_i32_352, v170, c1_i32_354⟩
def k2_off102 (k2_t34 : Fin k2_t34_loop.trips) : Fin 2 → Nat :=
  let c1_i32_572 : BitVec 32 := 1#32
  let v267 : Index := Scalar.indexCast c1_i32_572
  let c0_i32_352 : BitVec 32 := 0#32
  let c1_i32_354 : BitVec 32 := 1#32
  let arg10 : BitVec 32 := Scf.iv c0_i32_352 c1_i32_354 k2_t34
  let c16_i32_571 : BitVec 32 := 16#32
  let v266 : BitVec 32 := Scalar.muli arg10 c16_i32_571
  let v268 : Index := Scalar.indexCast v266
  ![1, v268.toNat]
def k2_off103 (k2_t34 : Fin k2_t34_loop.trips) : Fin 2 → Nat :=
  let c17_i32 : BitVec 32 := 17#32
  let v271 : Index := Scalar.indexCast c17_i32
  let c0_i32_352 : BitVec 32 := 0#32
  let c1_i32_354 : BitVec 32 := 1#32
  let arg10 : BitVec 32 := Scf.iv c0_i32_352 c1_i32_354 k2_t34
  let c16_i32_571 : BitVec 32 := 16#32
  let v266 : BitVec 32 := Scalar.muli arg10 c16_i32_571
  let v272 : Index := Scalar.indexCast v266
  ![17, v272.toNat]
def k2_off104 (k2_t34 : Fin k2_t34_loop.trips) : Fin 2 → Nat :=
  let c1_i32_573 : BitVec 32 := 1#32
  let v276 : Index := Scalar.indexCast c1_i32_573
  let c0_i32_352 : BitVec 32 := 0#32
  let c1_i32_354 : BitVec 32 := 1#32
  let arg10 : BitVec 32 := Scf.iv c0_i32_352 c1_i32_354 k2_t34
  let c16_i32_571 : BitVec 32 := 16#32
  let v266 : BitVec 32 := Scalar.muli arg10 c16_i32_571
  let v277 : Index := Scalar.indexCast v266
  ![1, v277.toNat]
@[reducible] def k2_t35_loop : Scf.Loop 32 :=
  let c0_i32_357 : BitVec 32 := 0#32
  let c64_i32_358 : BitVec 32 := 64#32
  let v172 : BitVec 32 := Scalar.addi c0_i32_357 c64_i32_358
  let c1_i32_359 : BitVec 32 := 1#32
  ⟨c0_i32_357, v172, c1_i32_359⟩
def k2_off105 (k2_t35 : Fin k2_t35_loop.trips) : Fin 2 → Nat :=
  let c2_i32_572 : BitVec 32 := 2#32
  let v267 : Index := Scalar.indexCast c2_i32_572
  let c0_i32_357 : BitVec 32 := 0#32
  let c1_i32_359 : BitVec 32 := 1#32
  let arg10 : BitVec 32 := Scf.iv c0_i32_357 c1_i32_359 k2_t35
  let c16_i32_571 : BitVec 32 := 16#32
  let v266 : BitVec 32 := Scalar.muli arg10 c16_i32_571
  let v268 : Index := Scalar.indexCast v266
  ![2, v268.toNat]
def k2_off106 (k2_t35 : Fin k2_t35_loop.trips) : Fin 2 → Nat :=
  let c18_i32 : BitVec 32 := 18#32
  let v271 : Index := Scalar.indexCast c18_i32
  let c0_i32_357 : BitVec 32 := 0#32
  let c1_i32_359 : BitVec 32 := 1#32
  let arg10 : BitVec 32 := Scf.iv c0_i32_357 c1_i32_359 k2_t35
  let c16_i32_571 : BitVec 32 := 16#32
  let v266 : BitVec 32 := Scalar.muli arg10 c16_i32_571
  let v272 : Index := Scalar.indexCast v266
  ![18, v272.toNat]
def k2_off107 (k2_t35 : Fin k2_t35_loop.trips) : Fin 2 → Nat :=
  let c2_i32_573 : BitVec 32 := 2#32
  let v276 : Index := Scalar.indexCast c2_i32_573
  let c0_i32_357 : BitVec 32 := 0#32
  let c1_i32_359 : BitVec 32 := 1#32
  let arg10 : BitVec 32 := Scf.iv c0_i32_357 c1_i32_359 k2_t35
  let c16_i32_571 : BitVec 32 := 16#32
  let v266 : BitVec 32 := Scalar.muli arg10 c16_i32_571
  let v277 : Index := Scalar.indexCast v266
  ![2, v277.toNat]
@[reducible] def k2_t36_loop : Scf.Loop 32 :=
  let c0_i32_362 : BitVec 32 := 0#32
  let c64_i32_363 : BitVec 32 := 64#32
  let v174 : BitVec 32 := Scalar.addi c0_i32_362 c64_i32_363
  let c1_i32_364 : BitVec 32 := 1#32
  ⟨c0_i32_362, v174, c1_i32_364⟩
def k2_off108 (k2_t36 : Fin k2_t36_loop.trips) : Fin 2 → Nat :=
  let c3_i32 : BitVec 32 := 3#32
  let v267 : Index := Scalar.indexCast c3_i32
  let c0_i32_362 : BitVec 32 := 0#32
  let c1_i32_364 : BitVec 32 := 1#32
  let arg10 : BitVec 32 := Scf.iv c0_i32_362 c1_i32_364 k2_t36
  let c16_i32_571 : BitVec 32 := 16#32
  let v266 : BitVec 32 := Scalar.muli arg10 c16_i32_571
  let v268 : Index := Scalar.indexCast v266
  ![3, v268.toNat]
def k2_off109 (k2_t36 : Fin k2_t36_loop.trips) : Fin 2 → Nat :=
  let c19_i32 : BitVec 32 := 19#32
  let v271 : Index := Scalar.indexCast c19_i32
  let c0_i32_362 : BitVec 32 := 0#32
  let c1_i32_364 : BitVec 32 := 1#32
  let arg10 : BitVec 32 := Scf.iv c0_i32_362 c1_i32_364 k2_t36
  let c16_i32_571 : BitVec 32 := 16#32
  let v266 : BitVec 32 := Scalar.muli arg10 c16_i32_571
  let v272 : Index := Scalar.indexCast v266
  ![19, v272.toNat]
def k2_off110 (k2_t36 : Fin k2_t36_loop.trips) : Fin 2 → Nat :=
  let c3_i32_572 : BitVec 32 := 3#32
  let v276 : Index := Scalar.indexCast c3_i32_572
  let c0_i32_362 : BitVec 32 := 0#32
  let c1_i32_364 : BitVec 32 := 1#32
  let arg10 : BitVec 32 := Scf.iv c0_i32_362 c1_i32_364 k2_t36
  let c16_i32_571 : BitVec 32 := 16#32
  let v266 : BitVec 32 := Scalar.muli arg10 c16_i32_571
  let v277 : Index := Scalar.indexCast v266
  ![3, v277.toNat]
@[reducible] def k2_t37_loop : Scf.Loop 32 :=
  let c0_i32_367 : BitVec 32 := 0#32
  let c64_i32_368 : BitVec 32 := 64#32
  let v176 : BitVec 32 := Scalar.addi c0_i32_367 c64_i32_368
  let c1_i32_369 : BitVec 32 := 1#32
  ⟨c0_i32_367, v176, c1_i32_369⟩
def k2_off111 (k2_t37 : Fin k2_t37_loop.trips) : Fin 2 → Nat :=
  let c4_i32 : BitVec 32 := 4#32
  let v267 : Index := Scalar.indexCast c4_i32
  let c0_i32_367 : BitVec 32 := 0#32
  let c1_i32_369 : BitVec 32 := 1#32
  let arg10 : BitVec 32 := Scf.iv c0_i32_367 c1_i32_369 k2_t37
  let c16_i32_571 : BitVec 32 := 16#32
  let v266 : BitVec 32 := Scalar.muli arg10 c16_i32_571
  let v268 : Index := Scalar.indexCast v266
  ![4, v268.toNat]
def k2_off112 (k2_t37 : Fin k2_t37_loop.trips) : Fin 2 → Nat :=
  let c20_i32 : BitVec 32 := 20#32
  let v271 : Index := Scalar.indexCast c20_i32
  let c0_i32_367 : BitVec 32 := 0#32
  let c1_i32_369 : BitVec 32 := 1#32
  let arg10 : BitVec 32 := Scf.iv c0_i32_367 c1_i32_369 k2_t37
  let c16_i32_571 : BitVec 32 := 16#32
  let v266 : BitVec 32 := Scalar.muli arg10 c16_i32_571
  let v272 : Index := Scalar.indexCast v266
  ![20, v272.toNat]
def k2_off113 (k2_t37 : Fin k2_t37_loop.trips) : Fin 2 → Nat :=
  let c4_i32_572 : BitVec 32 := 4#32
  let v276 : Index := Scalar.indexCast c4_i32_572
  let c0_i32_367 : BitVec 32 := 0#32
  let c1_i32_369 : BitVec 32 := 1#32
  let arg10 : BitVec 32 := Scf.iv c0_i32_367 c1_i32_369 k2_t37
  let c16_i32_571 : BitVec 32 := 16#32
  let v266 : BitVec 32 := Scalar.muli arg10 c16_i32_571
  let v277 : Index := Scalar.indexCast v266
  ![4, v277.toNat]
@[reducible] def k2_t38_loop : Scf.Loop 32 :=
  let c0_i32_372 : BitVec 32 := 0#32
  let c64_i32_373 : BitVec 32 := 64#32
  let v178 : BitVec 32 := Scalar.addi c0_i32_372 c64_i32_373
  let c1_i32_374 : BitVec 32 := 1#32
  ⟨c0_i32_372, v178, c1_i32_374⟩
def k2_off114 (k2_t38 : Fin k2_t38_loop.trips) : Fin 2 → Nat :=
  let c5_i32 : BitVec 32 := 5#32
  let v267 : Index := Scalar.indexCast c5_i32
  let c0_i32_372 : BitVec 32 := 0#32
  let c1_i32_374 : BitVec 32 := 1#32
  let arg10 : BitVec 32 := Scf.iv c0_i32_372 c1_i32_374 k2_t38
  let c16_i32_571 : BitVec 32 := 16#32
  let v266 : BitVec 32 := Scalar.muli arg10 c16_i32_571
  let v268 : Index := Scalar.indexCast v266
  ![5, v268.toNat]
def k2_off115 (k2_t38 : Fin k2_t38_loop.trips) : Fin 2 → Nat :=
  let c21_i32 : BitVec 32 := 21#32
  let v271 : Index := Scalar.indexCast c21_i32
  let c0_i32_372 : BitVec 32 := 0#32
  let c1_i32_374 : BitVec 32 := 1#32
  let arg10 : BitVec 32 := Scf.iv c0_i32_372 c1_i32_374 k2_t38
  let c16_i32_571 : BitVec 32 := 16#32
  let v266 : BitVec 32 := Scalar.muli arg10 c16_i32_571
  let v272 : Index := Scalar.indexCast v266
  ![21, v272.toNat]
def k2_off116 (k2_t38 : Fin k2_t38_loop.trips) : Fin 2 → Nat :=
  let c5_i32_572 : BitVec 32 := 5#32
  let v276 : Index := Scalar.indexCast c5_i32_572
  let c0_i32_372 : BitVec 32 := 0#32
  let c1_i32_374 : BitVec 32 := 1#32
  let arg10 : BitVec 32 := Scf.iv c0_i32_372 c1_i32_374 k2_t38
  let c16_i32_571 : BitVec 32 := 16#32
  let v266 : BitVec 32 := Scalar.muli arg10 c16_i32_571
  let v277 : Index := Scalar.indexCast v266
  ![5, v277.toNat]
@[reducible] def k2_t39_loop : Scf.Loop 32 :=
  let c0_i32_377 : BitVec 32 := 0#32
  let c64_i32_378 : BitVec 32 := 64#32
  let v180 : BitVec 32 := Scalar.addi c0_i32_377 c64_i32_378
  let c1_i32_379 : BitVec 32 := 1#32
  ⟨c0_i32_377, v180, c1_i32_379⟩
def k2_off117 (k2_t39 : Fin k2_t39_loop.trips) : Fin 2 → Nat :=
  let c6_i32 : BitVec 32 := 6#32
  let v267 : Index := Scalar.indexCast c6_i32
  let c0_i32_377 : BitVec 32 := 0#32
  let c1_i32_379 : BitVec 32 := 1#32
  let arg10 : BitVec 32 := Scf.iv c0_i32_377 c1_i32_379 k2_t39
  let c16_i32_571 : BitVec 32 := 16#32
  let v266 : BitVec 32 := Scalar.muli arg10 c16_i32_571
  let v268 : Index := Scalar.indexCast v266
  ![6, v268.toNat]
def k2_off118 (k2_t39 : Fin k2_t39_loop.trips) : Fin 2 → Nat :=
  let c22_i32 : BitVec 32 := 22#32
  let v271 : Index := Scalar.indexCast c22_i32
  let c0_i32_377 : BitVec 32 := 0#32
  let c1_i32_379 : BitVec 32 := 1#32
  let arg10 : BitVec 32 := Scf.iv c0_i32_377 c1_i32_379 k2_t39
  let c16_i32_571 : BitVec 32 := 16#32
  let v266 : BitVec 32 := Scalar.muli arg10 c16_i32_571
  let v272 : Index := Scalar.indexCast v266
  ![22, v272.toNat]
def k2_off119 (k2_t39 : Fin k2_t39_loop.trips) : Fin 2 → Nat :=
  let c6_i32_572 : BitVec 32 := 6#32
  let v276 : Index := Scalar.indexCast c6_i32_572
  let c0_i32_377 : BitVec 32 := 0#32
  let c1_i32_379 : BitVec 32 := 1#32
  let arg10 : BitVec 32 := Scf.iv c0_i32_377 c1_i32_379 k2_t39
  let c16_i32_571 : BitVec 32 := 16#32
  let v266 : BitVec 32 := Scalar.muli arg10 c16_i32_571
  let v277 : Index := Scalar.indexCast v266
  ![6, v277.toNat]
@[reducible] def k2_t40_loop : Scf.Loop 32 :=
  let c0_i32_382 : BitVec 32 := 0#32
  let c64_i32_383 : BitVec 32 := 64#32
  let v182 : BitVec 32 := Scalar.addi c0_i32_382 c64_i32_383
  let c1_i32_384 : BitVec 32 := 1#32
  ⟨c0_i32_382, v182, c1_i32_384⟩
def k2_off120 (k2_t40 : Fin k2_t40_loop.trips) : Fin 2 → Nat :=
  let c7_i32 : BitVec 32 := 7#32
  let v267 : Index := Scalar.indexCast c7_i32
  let c0_i32_382 : BitVec 32 := 0#32
  let c1_i32_384 : BitVec 32 := 1#32
  let arg10 : BitVec 32 := Scf.iv c0_i32_382 c1_i32_384 k2_t40
  let c16_i32_571 : BitVec 32 := 16#32
  let v266 : BitVec 32 := Scalar.muli arg10 c16_i32_571
  let v268 : Index := Scalar.indexCast v266
  ![7, v268.toNat]
def k2_off121 (k2_t40 : Fin k2_t40_loop.trips) : Fin 2 → Nat :=
  let c23_i32 : BitVec 32 := 23#32
  let v271 : Index := Scalar.indexCast c23_i32
  let c0_i32_382 : BitVec 32 := 0#32
  let c1_i32_384 : BitVec 32 := 1#32
  let arg10 : BitVec 32 := Scf.iv c0_i32_382 c1_i32_384 k2_t40
  let c16_i32_571 : BitVec 32 := 16#32
  let v266 : BitVec 32 := Scalar.muli arg10 c16_i32_571
  let v272 : Index := Scalar.indexCast v266
  ![23, v272.toNat]
def k2_off122 (k2_t40 : Fin k2_t40_loop.trips) : Fin 2 → Nat :=
  let c7_i32_572 : BitVec 32 := 7#32
  let v276 : Index := Scalar.indexCast c7_i32_572
  let c0_i32_382 : BitVec 32 := 0#32
  let c1_i32_384 : BitVec 32 := 1#32
  let arg10 : BitVec 32 := Scf.iv c0_i32_382 c1_i32_384 k2_t40
  let c16_i32_571 : BitVec 32 := 16#32
  let v266 : BitVec 32 := Scalar.muli arg10 c16_i32_571
  let v277 : Index := Scalar.indexCast v266
  ![7, v277.toNat]
@[reducible] def k2_t41_loop : Scf.Loop 32 :=
  let c0_i32_387 : BitVec 32 := 0#32
  let c64_i32_388 : BitVec 32 := 64#32
  let v184 : BitVec 32 := Scalar.addi c0_i32_387 c64_i32_388
  let c1_i32_389 : BitVec 32 := 1#32
  ⟨c0_i32_387, v184, c1_i32_389⟩
def k2_off123 (k2_t41 : Fin k2_t41_loop.trips) : Fin 2 → Nat :=
  let c8_i32 : BitVec 32 := 8#32
  let v267 : Index := Scalar.indexCast c8_i32
  let c0_i32_387 : BitVec 32 := 0#32
  let c1_i32_389 : BitVec 32 := 1#32
  let arg10 : BitVec 32 := Scf.iv c0_i32_387 c1_i32_389 k2_t41
  let c16_i32_571 : BitVec 32 := 16#32
  let v266 : BitVec 32 := Scalar.muli arg10 c16_i32_571
  let v268 : Index := Scalar.indexCast v266
  ![8, v268.toNat]
def k2_off124 (k2_t41 : Fin k2_t41_loop.trips) : Fin 2 → Nat :=
  let c24_i32 : BitVec 32 := 24#32
  let v271 : Index := Scalar.indexCast c24_i32
  let c0_i32_387 : BitVec 32 := 0#32
  let c1_i32_389 : BitVec 32 := 1#32
  let arg10 : BitVec 32 := Scf.iv c0_i32_387 c1_i32_389 k2_t41
  let c16_i32_571 : BitVec 32 := 16#32
  let v266 : BitVec 32 := Scalar.muli arg10 c16_i32_571
  let v272 : Index := Scalar.indexCast v266
  ![24, v272.toNat]
def k2_off125 (k2_t41 : Fin k2_t41_loop.trips) : Fin 2 → Nat :=
  let c8_i32_572 : BitVec 32 := 8#32
  let v276 : Index := Scalar.indexCast c8_i32_572
  let c0_i32_387 : BitVec 32 := 0#32
  let c1_i32_389 : BitVec 32 := 1#32
  let arg10 : BitVec 32 := Scf.iv c0_i32_387 c1_i32_389 k2_t41
  let c16_i32_571 : BitVec 32 := 16#32
  let v266 : BitVec 32 := Scalar.muli arg10 c16_i32_571
  let v277 : Index := Scalar.indexCast v266
  ![8, v277.toNat]
@[reducible] def k2_t42_loop : Scf.Loop 32 :=
  let c0_i32_392 : BitVec 32 := 0#32
  let c64_i32_393 : BitVec 32 := 64#32
  let v186 : BitVec 32 := Scalar.addi c0_i32_392 c64_i32_393
  let c1_i32_394 : BitVec 32 := 1#32
  ⟨c0_i32_392, v186, c1_i32_394⟩
def k2_off126 (k2_t42 : Fin k2_t42_loop.trips) : Fin 2 → Nat :=
  let c9_i32 : BitVec 32 := 9#32
  let v267 : Index := Scalar.indexCast c9_i32
  let c0_i32_392 : BitVec 32 := 0#32
  let c1_i32_394 : BitVec 32 := 1#32
  let arg10 : BitVec 32 := Scf.iv c0_i32_392 c1_i32_394 k2_t42
  let c16_i32_571 : BitVec 32 := 16#32
  let v266 : BitVec 32 := Scalar.muli arg10 c16_i32_571
  let v268 : Index := Scalar.indexCast v266
  ![9, v268.toNat]
def k2_off127 (k2_t42 : Fin k2_t42_loop.trips) : Fin 2 → Nat :=
  let c25_i32 : BitVec 32 := 25#32
  let v271 : Index := Scalar.indexCast c25_i32
  let c0_i32_392 : BitVec 32 := 0#32
  let c1_i32_394 : BitVec 32 := 1#32
  let arg10 : BitVec 32 := Scf.iv c0_i32_392 c1_i32_394 k2_t42
  let c16_i32_571 : BitVec 32 := 16#32
  let v266 : BitVec 32 := Scalar.muli arg10 c16_i32_571
  let v272 : Index := Scalar.indexCast v266
  ![25, v272.toNat]
def k2_off128 (k2_t42 : Fin k2_t42_loop.trips) : Fin 2 → Nat :=
  let c9_i32_572 : BitVec 32 := 9#32
  let v276 : Index := Scalar.indexCast c9_i32_572
  let c0_i32_392 : BitVec 32 := 0#32
  let c1_i32_394 : BitVec 32 := 1#32
  let arg10 : BitVec 32 := Scf.iv c0_i32_392 c1_i32_394 k2_t42
  let c16_i32_571 : BitVec 32 := 16#32
  let v266 : BitVec 32 := Scalar.muli arg10 c16_i32_571
  let v277 : Index := Scalar.indexCast v266
  ![9, v277.toNat]
@[reducible] def k2_t43_loop : Scf.Loop 32 :=
  let c0_i32_397 : BitVec 32 := 0#32
  let c64_i32_398 : BitVec 32 := 64#32
  let v188 : BitVec 32 := Scalar.addi c0_i32_397 c64_i32_398
  let c1_i32_399 : BitVec 32 := 1#32
  ⟨c0_i32_397, v188, c1_i32_399⟩
def k2_off129 (k2_t43 : Fin k2_t43_loop.trips) : Fin 2 → Nat :=
  let c10_i32 : BitVec 32 := 10#32
  let v267 : Index := Scalar.indexCast c10_i32
  let c0_i32_397 : BitVec 32 := 0#32
  let c1_i32_399 : BitVec 32 := 1#32
  let arg10 : BitVec 32 := Scf.iv c0_i32_397 c1_i32_399 k2_t43
  let c16_i32_571 : BitVec 32 := 16#32
  let v266 : BitVec 32 := Scalar.muli arg10 c16_i32_571
  let v268 : Index := Scalar.indexCast v266
  ![10, v268.toNat]
def k2_off130 (k2_t43 : Fin k2_t43_loop.trips) : Fin 2 → Nat :=
  let c26_i32 : BitVec 32 := 26#32
  let v271 : Index := Scalar.indexCast c26_i32
  let c0_i32_397 : BitVec 32 := 0#32
  let c1_i32_399 : BitVec 32 := 1#32
  let arg10 : BitVec 32 := Scf.iv c0_i32_397 c1_i32_399 k2_t43
  let c16_i32_571 : BitVec 32 := 16#32
  let v266 : BitVec 32 := Scalar.muli arg10 c16_i32_571
  let v272 : Index := Scalar.indexCast v266
  ![26, v272.toNat]
def k2_off131 (k2_t43 : Fin k2_t43_loop.trips) : Fin 2 → Nat :=
  let c10_i32_572 : BitVec 32 := 10#32
  let v276 : Index := Scalar.indexCast c10_i32_572
  let c0_i32_397 : BitVec 32 := 0#32
  let c1_i32_399 : BitVec 32 := 1#32
  let arg10 : BitVec 32 := Scf.iv c0_i32_397 c1_i32_399 k2_t43
  let c16_i32_571 : BitVec 32 := 16#32
  let v266 : BitVec 32 := Scalar.muli arg10 c16_i32_571
  let v277 : Index := Scalar.indexCast v266
  ![10, v277.toNat]
@[reducible] def k2_t44_loop : Scf.Loop 32 :=
  let c0_i32_402 : BitVec 32 := 0#32
  let c64_i32_403 : BitVec 32 := 64#32
  let v190 : BitVec 32 := Scalar.addi c0_i32_402 c64_i32_403
  let c1_i32_404 : BitVec 32 := 1#32
  ⟨c0_i32_402, v190, c1_i32_404⟩
def k2_off132 (k2_t44 : Fin k2_t44_loop.trips) : Fin 2 → Nat :=
  let c11_i32 : BitVec 32 := 11#32
  let v267 : Index := Scalar.indexCast c11_i32
  let c0_i32_402 : BitVec 32 := 0#32
  let c1_i32_404 : BitVec 32 := 1#32
  let arg10 : BitVec 32 := Scf.iv c0_i32_402 c1_i32_404 k2_t44
  let c16_i32_571 : BitVec 32 := 16#32
  let v266 : BitVec 32 := Scalar.muli arg10 c16_i32_571
  let v268 : Index := Scalar.indexCast v266
  ![11, v268.toNat]
def k2_off133 (k2_t44 : Fin k2_t44_loop.trips) : Fin 2 → Nat :=
  let c27_i32 : BitVec 32 := 27#32
  let v271 : Index := Scalar.indexCast c27_i32
  let c0_i32_402 : BitVec 32 := 0#32
  let c1_i32_404 : BitVec 32 := 1#32
  let arg10 : BitVec 32 := Scf.iv c0_i32_402 c1_i32_404 k2_t44
  let c16_i32_571 : BitVec 32 := 16#32
  let v266 : BitVec 32 := Scalar.muli arg10 c16_i32_571
  let v272 : Index := Scalar.indexCast v266
  ![27, v272.toNat]
def k2_off134 (k2_t44 : Fin k2_t44_loop.trips) : Fin 2 → Nat :=
  let c11_i32_572 : BitVec 32 := 11#32
  let v276 : Index := Scalar.indexCast c11_i32_572
  let c0_i32_402 : BitVec 32 := 0#32
  let c1_i32_404 : BitVec 32 := 1#32
  let arg10 : BitVec 32 := Scf.iv c0_i32_402 c1_i32_404 k2_t44
  let c16_i32_571 : BitVec 32 := 16#32
  let v266 : BitVec 32 := Scalar.muli arg10 c16_i32_571
  let v277 : Index := Scalar.indexCast v266
  ![11, v277.toNat]
@[reducible] def k2_t45_loop : Scf.Loop 32 :=
  let c0_i32_407 : BitVec 32 := 0#32
  let c64_i32_408 : BitVec 32 := 64#32
  let v192 : BitVec 32 := Scalar.addi c0_i32_407 c64_i32_408
  let c1_i32_409 : BitVec 32 := 1#32
  ⟨c0_i32_407, v192, c1_i32_409⟩
def k2_off135 (k2_t45 : Fin k2_t45_loop.trips) : Fin 2 → Nat :=
  let c12_i32 : BitVec 32 := 12#32
  let v267 : Index := Scalar.indexCast c12_i32
  let c0_i32_407 : BitVec 32 := 0#32
  let c1_i32_409 : BitVec 32 := 1#32
  let arg10 : BitVec 32 := Scf.iv c0_i32_407 c1_i32_409 k2_t45
  let c16_i32_571 : BitVec 32 := 16#32
  let v266 : BitVec 32 := Scalar.muli arg10 c16_i32_571
  let v268 : Index := Scalar.indexCast v266
  ![12, v268.toNat]
def k2_off136 (k2_t45 : Fin k2_t45_loop.trips) : Fin 2 → Nat :=
  let c28_i32 : BitVec 32 := 28#32
  let v271 : Index := Scalar.indexCast c28_i32
  let c0_i32_407 : BitVec 32 := 0#32
  let c1_i32_409 : BitVec 32 := 1#32
  let arg10 : BitVec 32 := Scf.iv c0_i32_407 c1_i32_409 k2_t45
  let c16_i32_571 : BitVec 32 := 16#32
  let v266 : BitVec 32 := Scalar.muli arg10 c16_i32_571
  let v272 : Index := Scalar.indexCast v266
  ![28, v272.toNat]
def k2_off137 (k2_t45 : Fin k2_t45_loop.trips) : Fin 2 → Nat :=
  let c12_i32_572 : BitVec 32 := 12#32
  let v276 : Index := Scalar.indexCast c12_i32_572
  let c0_i32_407 : BitVec 32 := 0#32
  let c1_i32_409 : BitVec 32 := 1#32
  let arg10 : BitVec 32 := Scf.iv c0_i32_407 c1_i32_409 k2_t45
  let c16_i32_571 : BitVec 32 := 16#32
  let v266 : BitVec 32 := Scalar.muli arg10 c16_i32_571
  let v277 : Index := Scalar.indexCast v266
  ![12, v277.toNat]
@[reducible] def k2_t46_loop : Scf.Loop 32 :=
  let c0_i32_412 : BitVec 32 := 0#32
  let c64_i32_413 : BitVec 32 := 64#32
  let v194 : BitVec 32 := Scalar.addi c0_i32_412 c64_i32_413
  let c1_i32_414 : BitVec 32 := 1#32
  ⟨c0_i32_412, v194, c1_i32_414⟩
def k2_off138 (k2_t46 : Fin k2_t46_loop.trips) : Fin 2 → Nat :=
  let c13_i32 : BitVec 32 := 13#32
  let v267 : Index := Scalar.indexCast c13_i32
  let c0_i32_412 : BitVec 32 := 0#32
  let c1_i32_414 : BitVec 32 := 1#32
  let arg10 : BitVec 32 := Scf.iv c0_i32_412 c1_i32_414 k2_t46
  let c16_i32_571 : BitVec 32 := 16#32
  let v266 : BitVec 32 := Scalar.muli arg10 c16_i32_571
  let v268 : Index := Scalar.indexCast v266
  ![13, v268.toNat]
def k2_off139 (k2_t46 : Fin k2_t46_loop.trips) : Fin 2 → Nat :=
  let c29_i32 : BitVec 32 := 29#32
  let v271 : Index := Scalar.indexCast c29_i32
  let c0_i32_412 : BitVec 32 := 0#32
  let c1_i32_414 : BitVec 32 := 1#32
  let arg10 : BitVec 32 := Scf.iv c0_i32_412 c1_i32_414 k2_t46
  let c16_i32_571 : BitVec 32 := 16#32
  let v266 : BitVec 32 := Scalar.muli arg10 c16_i32_571
  let v272 : Index := Scalar.indexCast v266
  ![29, v272.toNat]
def k2_off140 (k2_t46 : Fin k2_t46_loop.trips) : Fin 2 → Nat :=
  let c13_i32_572 : BitVec 32 := 13#32
  let v276 : Index := Scalar.indexCast c13_i32_572
  let c0_i32_412 : BitVec 32 := 0#32
  let c1_i32_414 : BitVec 32 := 1#32
  let arg10 : BitVec 32 := Scf.iv c0_i32_412 c1_i32_414 k2_t46
  let c16_i32_571 : BitVec 32 := 16#32
  let v266 : BitVec 32 := Scalar.muli arg10 c16_i32_571
  let v277 : Index := Scalar.indexCast v266
  ![13, v277.toNat]
@[reducible] def k2_t47_loop : Scf.Loop 32 :=
  let c0_i32_417 : BitVec 32 := 0#32
  let c64_i32_418 : BitVec 32 := 64#32
  let v196 : BitVec 32 := Scalar.addi c0_i32_417 c64_i32_418
  let c1_i32_419 : BitVec 32 := 1#32
  ⟨c0_i32_417, v196, c1_i32_419⟩
def k2_off141 (k2_t47 : Fin k2_t47_loop.trips) : Fin 2 → Nat :=
  let c14_i32 : BitVec 32 := 14#32
  let v267 : Index := Scalar.indexCast c14_i32
  let c0_i32_417 : BitVec 32 := 0#32
  let c1_i32_419 : BitVec 32 := 1#32
  let arg10 : BitVec 32 := Scf.iv c0_i32_417 c1_i32_419 k2_t47
  let c16_i32_571 : BitVec 32 := 16#32
  let v266 : BitVec 32 := Scalar.muli arg10 c16_i32_571
  let v268 : Index := Scalar.indexCast v266
  ![14, v268.toNat]
def k2_off142 (k2_t47 : Fin k2_t47_loop.trips) : Fin 2 → Nat :=
  let c30_i32 : BitVec 32 := 30#32
  let v271 : Index := Scalar.indexCast c30_i32
  let c0_i32_417 : BitVec 32 := 0#32
  let c1_i32_419 : BitVec 32 := 1#32
  let arg10 : BitVec 32 := Scf.iv c0_i32_417 c1_i32_419 k2_t47
  let c16_i32_571 : BitVec 32 := 16#32
  let v266 : BitVec 32 := Scalar.muli arg10 c16_i32_571
  let v272 : Index := Scalar.indexCast v266
  ![30, v272.toNat]
def k2_off143 (k2_t47 : Fin k2_t47_loop.trips) : Fin 2 → Nat :=
  let c14_i32_572 : BitVec 32 := 14#32
  let v276 : Index := Scalar.indexCast c14_i32_572
  let c0_i32_417 : BitVec 32 := 0#32
  let c1_i32_419 : BitVec 32 := 1#32
  let arg10 : BitVec 32 := Scf.iv c0_i32_417 c1_i32_419 k2_t47
  let c16_i32_571 : BitVec 32 := 16#32
  let v266 : BitVec 32 := Scalar.muli arg10 c16_i32_571
  let v277 : Index := Scalar.indexCast v266
  ![14, v277.toNat]
@[reducible] def k2_t48_loop : Scf.Loop 32 :=
  let c0_i32_422 : BitVec 32 := 0#32
  let c64_i32_423 : BitVec 32 := 64#32
  let v198 : BitVec 32 := Scalar.addi c0_i32_422 c64_i32_423
  let c1_i32_424 : BitVec 32 := 1#32
  ⟨c0_i32_422, v198, c1_i32_424⟩
def k2_off144 (k2_t48 : Fin k2_t48_loop.trips) : Fin 2 → Nat :=
  let c15_i32 : BitVec 32 := 15#32
  let v267 : Index := Scalar.indexCast c15_i32
  let c0_i32_422 : BitVec 32 := 0#32
  let c1_i32_424 : BitVec 32 := 1#32
  let arg10 : BitVec 32 := Scf.iv c0_i32_422 c1_i32_424 k2_t48
  let c16_i32_571 : BitVec 32 := 16#32
  let v266 : BitVec 32 := Scalar.muli arg10 c16_i32_571
  let v268 : Index := Scalar.indexCast v266
  ![15, v268.toNat]
def k2_off145 (k2_t48 : Fin k2_t48_loop.trips) : Fin 2 → Nat :=
  let c31_i32 : BitVec 32 := 31#32
  let v271 : Index := Scalar.indexCast c31_i32
  let c0_i32_422 : BitVec 32 := 0#32
  let c1_i32_424 : BitVec 32 := 1#32
  let arg10 : BitVec 32 := Scf.iv c0_i32_422 c1_i32_424 k2_t48
  let c16_i32_571 : BitVec 32 := 16#32
  let v266 : BitVec 32 := Scalar.muli arg10 c16_i32_571
  let v272 : Index := Scalar.indexCast v266
  ![31, v272.toNat]
def k2_off146 (k2_t48 : Fin k2_t48_loop.trips) : Fin 2 → Nat :=
  let c15_i32_572 : BitVec 32 := 15#32
  let v276 : Index := Scalar.indexCast c15_i32_572
  let c0_i32_422 : BitVec 32 := 0#32
  let c1_i32_424 : BitVec 32 := 1#32
  let arg10 : BitVec 32 := Scf.iv c0_i32_422 c1_i32_424 k2_t48
  let c16_i32_571 : BitVec 32 := 16#32
  let v266 : BitVec 32 := Scalar.muli arg10 c16_i32_571
  let v277 : Index := Scalar.indexCast v266
  ![15, v277.toNat]
@[reducible] def k2_t49_loop : Scf.Loop 32 :=
  let c0_i32_492 : BitVec 32 := 0#32
  let c64_i32_493 : BitVec 32 := 64#32
  let v234 : BitVec 32 := Scalar.addi c0_i32_492 c64_i32_493
  let c1_i32_494 : BitVec 32 := 1#32
  ⟨c0_i32_492, v234, c1_i32_494⟩
def k2_off147 (k2_t49 : Fin k2_t49_loop.trips) : Fin 2 → Nat :=
  let c0_i32_572 : BitVec 32 := 0#32
  let v267 : Index := Scalar.indexCast c0_i32_572
  let c0_i32_492 : BitVec 32 := 0#32
  let c1_i32_494 : BitVec 32 := 1#32
  let arg10 : BitVec 32 := Scf.iv c0_i32_492 c1_i32_494 k2_t49
  let c16_i32_571 : BitVec 32 := 16#32
  let v266 : BitVec 32 := Scalar.muli arg10 c16_i32_571
  let v268 : Index := Scalar.indexCast v266
  ![0, v268.toNat]
def k2_off148 (k2_t49 : Fin k2_t49_loop.trips) : Fin 2 → Nat :=
  let c16_i32_573 : BitVec 32 := 16#32
  let v271 : Index := Scalar.indexCast c16_i32_573
  let c0_i32_492 : BitVec 32 := 0#32
  let c1_i32_494 : BitVec 32 := 1#32
  let arg10 : BitVec 32 := Scf.iv c0_i32_492 c1_i32_494 k2_t49
  let c16_i32_571 : BitVec 32 := 16#32
  let v266 : BitVec 32 := Scalar.muli arg10 c16_i32_571
  let v272 : Index := Scalar.indexCast v266
  ![16, v272.toNat]
def k2_off149 (k2_t49 : Fin k2_t49_loop.trips) : Fin 2 → Nat :=
  let c0_i32_574 : BitVec 32 := 0#32
  let v276 : Index := Scalar.indexCast c0_i32_574
  let c0_i32_492 : BitVec 32 := 0#32
  let c1_i32_494 : BitVec 32 := 1#32
  let arg10 : BitVec 32 := Scf.iv c0_i32_492 c1_i32_494 k2_t49
  let c16_i32_571 : BitVec 32 := 16#32
  let v266 : BitVec 32 := Scalar.muli arg10 c16_i32_571
  let v277 : Index := Scalar.indexCast v266
  ![0, v277.toNat]
@[reducible] def k2_t50_loop : Scf.Loop 32 :=
  let c0_i32_497 : BitVec 32 := 0#32
  let c64_i32_498 : BitVec 32 := 64#32
  let v236 : BitVec 32 := Scalar.addi c0_i32_497 c64_i32_498
  let c1_i32_499 : BitVec 32 := 1#32
  ⟨c0_i32_497, v236, c1_i32_499⟩
def k2_off150 (k2_t50 : Fin k2_t50_loop.trips) : Fin 2 → Nat :=
  let c1_i32_572 : BitVec 32 := 1#32
  let v267 : Index := Scalar.indexCast c1_i32_572
  let c0_i32_497 : BitVec 32 := 0#32
  let c1_i32_499 : BitVec 32 := 1#32
  let arg10 : BitVec 32 := Scf.iv c0_i32_497 c1_i32_499 k2_t50
  let c16_i32_571 : BitVec 32 := 16#32
  let v266 : BitVec 32 := Scalar.muli arg10 c16_i32_571
  let v268 : Index := Scalar.indexCast v266
  ![1, v268.toNat]
def k2_off151 (k2_t50 : Fin k2_t50_loop.trips) : Fin 2 → Nat :=
  let c17_i32 : BitVec 32 := 17#32
  let v271 : Index := Scalar.indexCast c17_i32
  let c0_i32_497 : BitVec 32 := 0#32
  let c1_i32_499 : BitVec 32 := 1#32
  let arg10 : BitVec 32 := Scf.iv c0_i32_497 c1_i32_499 k2_t50
  let c16_i32_571 : BitVec 32 := 16#32
  let v266 : BitVec 32 := Scalar.muli arg10 c16_i32_571
  let v272 : Index := Scalar.indexCast v266
  ![17, v272.toNat]
def k2_off152 (k2_t50 : Fin k2_t50_loop.trips) : Fin 2 → Nat :=
  let c1_i32_573 : BitVec 32 := 1#32
  let v276 : Index := Scalar.indexCast c1_i32_573
  let c0_i32_497 : BitVec 32 := 0#32
  let c1_i32_499 : BitVec 32 := 1#32
  let arg10 : BitVec 32 := Scf.iv c0_i32_497 c1_i32_499 k2_t50
  let c16_i32_571 : BitVec 32 := 16#32
  let v266 : BitVec 32 := Scalar.muli arg10 c16_i32_571
  let v277 : Index := Scalar.indexCast v266
  ![1, v277.toNat]
@[reducible] def k2_t51_loop : Scf.Loop 32 :=
  let c0_i32_502 : BitVec 32 := 0#32
  let c64_i32_503 : BitVec 32 := 64#32
  let v238 : BitVec 32 := Scalar.addi c0_i32_502 c64_i32_503
  let c1_i32_504 : BitVec 32 := 1#32
  ⟨c0_i32_502, v238, c1_i32_504⟩
def k2_off153 (k2_t51 : Fin k2_t51_loop.trips) : Fin 2 → Nat :=
  let c2_i32_572 : BitVec 32 := 2#32
  let v267 : Index := Scalar.indexCast c2_i32_572
  let c0_i32_502 : BitVec 32 := 0#32
  let c1_i32_504 : BitVec 32 := 1#32
  let arg10 : BitVec 32 := Scf.iv c0_i32_502 c1_i32_504 k2_t51
  let c16_i32_571 : BitVec 32 := 16#32
  let v266 : BitVec 32 := Scalar.muli arg10 c16_i32_571
  let v268 : Index := Scalar.indexCast v266
  ![2, v268.toNat]
def k2_off154 (k2_t51 : Fin k2_t51_loop.trips) : Fin 2 → Nat :=
  let c18_i32 : BitVec 32 := 18#32
  let v271 : Index := Scalar.indexCast c18_i32
  let c0_i32_502 : BitVec 32 := 0#32
  let c1_i32_504 : BitVec 32 := 1#32
  let arg10 : BitVec 32 := Scf.iv c0_i32_502 c1_i32_504 k2_t51
  let c16_i32_571 : BitVec 32 := 16#32
  let v266 : BitVec 32 := Scalar.muli arg10 c16_i32_571
  let v272 : Index := Scalar.indexCast v266
  ![18, v272.toNat]
def k2_off155 (k2_t51 : Fin k2_t51_loop.trips) : Fin 2 → Nat :=
  let c2_i32_573 : BitVec 32 := 2#32
  let v276 : Index := Scalar.indexCast c2_i32_573
  let c0_i32_502 : BitVec 32 := 0#32
  let c1_i32_504 : BitVec 32 := 1#32
  let arg10 : BitVec 32 := Scf.iv c0_i32_502 c1_i32_504 k2_t51
  let c16_i32_571 : BitVec 32 := 16#32
  let v266 : BitVec 32 := Scalar.muli arg10 c16_i32_571
  let v277 : Index := Scalar.indexCast v266
  ![2, v277.toNat]
@[reducible] def k2_t52_loop : Scf.Loop 32 :=
  let c0_i32_507 : BitVec 32 := 0#32
  let c64_i32_508 : BitVec 32 := 64#32
  let v240 : BitVec 32 := Scalar.addi c0_i32_507 c64_i32_508
  let c1_i32_509 : BitVec 32 := 1#32
  ⟨c0_i32_507, v240, c1_i32_509⟩
def k2_off156 (k2_t52 : Fin k2_t52_loop.trips) : Fin 2 → Nat :=
  let c3_i32 : BitVec 32 := 3#32
  let v267 : Index := Scalar.indexCast c3_i32
  let c0_i32_507 : BitVec 32 := 0#32
  let c1_i32_509 : BitVec 32 := 1#32
  let arg10 : BitVec 32 := Scf.iv c0_i32_507 c1_i32_509 k2_t52
  let c16_i32_571 : BitVec 32 := 16#32
  let v266 : BitVec 32 := Scalar.muli arg10 c16_i32_571
  let v268 : Index := Scalar.indexCast v266
  ![3, v268.toNat]
def k2_off157 (k2_t52 : Fin k2_t52_loop.trips) : Fin 2 → Nat :=
  let c19_i32 : BitVec 32 := 19#32
  let v271 : Index := Scalar.indexCast c19_i32
  let c0_i32_507 : BitVec 32 := 0#32
  let c1_i32_509 : BitVec 32 := 1#32
  let arg10 : BitVec 32 := Scf.iv c0_i32_507 c1_i32_509 k2_t52
  let c16_i32_571 : BitVec 32 := 16#32
  let v266 : BitVec 32 := Scalar.muli arg10 c16_i32_571
  let v272 : Index := Scalar.indexCast v266
  ![19, v272.toNat]
def k2_off158 (k2_t52 : Fin k2_t52_loop.trips) : Fin 2 → Nat :=
  let c3_i32_572 : BitVec 32 := 3#32
  let v276 : Index := Scalar.indexCast c3_i32_572
  let c0_i32_507 : BitVec 32 := 0#32
  let c1_i32_509 : BitVec 32 := 1#32
  let arg10 : BitVec 32 := Scf.iv c0_i32_507 c1_i32_509 k2_t52
  let c16_i32_571 : BitVec 32 := 16#32
  let v266 : BitVec 32 := Scalar.muli arg10 c16_i32_571
  let v277 : Index := Scalar.indexCast v266
  ![3, v277.toNat]
@[reducible] def k2_t53_loop : Scf.Loop 32 :=
  let c0_i32_512 : BitVec 32 := 0#32
  let c64_i32_513 : BitVec 32 := 64#32
  let v242 : BitVec 32 := Scalar.addi c0_i32_512 c64_i32_513
  let c1_i32_514 : BitVec 32 := 1#32
  ⟨c0_i32_512, v242, c1_i32_514⟩
def k2_off159 (k2_t53 : Fin k2_t53_loop.trips) : Fin 2 → Nat :=
  let c4_i32 : BitVec 32 := 4#32
  let v267 : Index := Scalar.indexCast c4_i32
  let c0_i32_512 : BitVec 32 := 0#32
  let c1_i32_514 : BitVec 32 := 1#32
  let arg10 : BitVec 32 := Scf.iv c0_i32_512 c1_i32_514 k2_t53
  let c16_i32_571 : BitVec 32 := 16#32
  let v266 : BitVec 32 := Scalar.muli arg10 c16_i32_571
  let v268 : Index := Scalar.indexCast v266
  ![4, v268.toNat]
def k2_off160 (k2_t53 : Fin k2_t53_loop.trips) : Fin 2 → Nat :=
  let c20_i32 : BitVec 32 := 20#32
  let v271 : Index := Scalar.indexCast c20_i32
  let c0_i32_512 : BitVec 32 := 0#32
  let c1_i32_514 : BitVec 32 := 1#32
  let arg10 : BitVec 32 := Scf.iv c0_i32_512 c1_i32_514 k2_t53
  let c16_i32_571 : BitVec 32 := 16#32
  let v266 : BitVec 32 := Scalar.muli arg10 c16_i32_571
  let v272 : Index := Scalar.indexCast v266
  ![20, v272.toNat]
def k2_off161 (k2_t53 : Fin k2_t53_loop.trips) : Fin 2 → Nat :=
  let c4_i32_572 : BitVec 32 := 4#32
  let v276 : Index := Scalar.indexCast c4_i32_572
  let c0_i32_512 : BitVec 32 := 0#32
  let c1_i32_514 : BitVec 32 := 1#32
  let arg10 : BitVec 32 := Scf.iv c0_i32_512 c1_i32_514 k2_t53
  let c16_i32_571 : BitVec 32 := 16#32
  let v266 : BitVec 32 := Scalar.muli arg10 c16_i32_571
  let v277 : Index := Scalar.indexCast v266
  ![4, v277.toNat]
@[reducible] def k2_t54_loop : Scf.Loop 32 :=
  let c0_i32_517 : BitVec 32 := 0#32
  let c64_i32_518 : BitVec 32 := 64#32
  let v244 : BitVec 32 := Scalar.addi c0_i32_517 c64_i32_518
  let c1_i32_519 : BitVec 32 := 1#32
  ⟨c0_i32_517, v244, c1_i32_519⟩
def k2_off162 (k2_t54 : Fin k2_t54_loop.trips) : Fin 2 → Nat :=
  let c5_i32 : BitVec 32 := 5#32
  let v267 : Index := Scalar.indexCast c5_i32
  let c0_i32_517 : BitVec 32 := 0#32
  let c1_i32_519 : BitVec 32 := 1#32
  let arg10 : BitVec 32 := Scf.iv c0_i32_517 c1_i32_519 k2_t54
  let c16_i32_571 : BitVec 32 := 16#32
  let v266 : BitVec 32 := Scalar.muli arg10 c16_i32_571
  let v268 : Index := Scalar.indexCast v266
  ![5, v268.toNat]
def k2_off163 (k2_t54 : Fin k2_t54_loop.trips) : Fin 2 → Nat :=
  let c21_i32 : BitVec 32 := 21#32
  let v271 : Index := Scalar.indexCast c21_i32
  let c0_i32_517 : BitVec 32 := 0#32
  let c1_i32_519 : BitVec 32 := 1#32
  let arg10 : BitVec 32 := Scf.iv c0_i32_517 c1_i32_519 k2_t54
  let c16_i32_571 : BitVec 32 := 16#32
  let v266 : BitVec 32 := Scalar.muli arg10 c16_i32_571
  let v272 : Index := Scalar.indexCast v266
  ![21, v272.toNat]
def k2_off164 (k2_t54 : Fin k2_t54_loop.trips) : Fin 2 → Nat :=
  let c5_i32_572 : BitVec 32 := 5#32
  let v276 : Index := Scalar.indexCast c5_i32_572
  let c0_i32_517 : BitVec 32 := 0#32
  let c1_i32_519 : BitVec 32 := 1#32
  let arg10 : BitVec 32 := Scf.iv c0_i32_517 c1_i32_519 k2_t54
  let c16_i32_571 : BitVec 32 := 16#32
  let v266 : BitVec 32 := Scalar.muli arg10 c16_i32_571
  let v277 : Index := Scalar.indexCast v266
  ![5, v277.toNat]
@[reducible] def k2_t55_loop : Scf.Loop 32 :=
  let c0_i32_522 : BitVec 32 := 0#32
  let c64_i32_523 : BitVec 32 := 64#32
  let v246 : BitVec 32 := Scalar.addi c0_i32_522 c64_i32_523
  let c1_i32_524 : BitVec 32 := 1#32
  ⟨c0_i32_522, v246, c1_i32_524⟩
def k2_off165 (k2_t55 : Fin k2_t55_loop.trips) : Fin 2 → Nat :=
  let c6_i32 : BitVec 32 := 6#32
  let v267 : Index := Scalar.indexCast c6_i32
  let c0_i32_522 : BitVec 32 := 0#32
  let c1_i32_524 : BitVec 32 := 1#32
  let arg10 : BitVec 32 := Scf.iv c0_i32_522 c1_i32_524 k2_t55
  let c16_i32_571 : BitVec 32 := 16#32
  let v266 : BitVec 32 := Scalar.muli arg10 c16_i32_571
  let v268 : Index := Scalar.indexCast v266
  ![6, v268.toNat]
def k2_off166 (k2_t55 : Fin k2_t55_loop.trips) : Fin 2 → Nat :=
  let c22_i32 : BitVec 32 := 22#32
  let v271 : Index := Scalar.indexCast c22_i32
  let c0_i32_522 : BitVec 32 := 0#32
  let c1_i32_524 : BitVec 32 := 1#32
  let arg10 : BitVec 32 := Scf.iv c0_i32_522 c1_i32_524 k2_t55
  let c16_i32_571 : BitVec 32 := 16#32
  let v266 : BitVec 32 := Scalar.muli arg10 c16_i32_571
  let v272 : Index := Scalar.indexCast v266
  ![22, v272.toNat]
def k2_off167 (k2_t55 : Fin k2_t55_loop.trips) : Fin 2 → Nat :=
  let c6_i32_572 : BitVec 32 := 6#32
  let v276 : Index := Scalar.indexCast c6_i32_572
  let c0_i32_522 : BitVec 32 := 0#32
  let c1_i32_524 : BitVec 32 := 1#32
  let arg10 : BitVec 32 := Scf.iv c0_i32_522 c1_i32_524 k2_t55
  let c16_i32_571 : BitVec 32 := 16#32
  let v266 : BitVec 32 := Scalar.muli arg10 c16_i32_571
  let v277 : Index := Scalar.indexCast v266
  ![6, v277.toNat]
@[reducible] def k2_t56_loop : Scf.Loop 32 :=
  let c0_i32_527 : BitVec 32 := 0#32
  let c64_i32_528 : BitVec 32 := 64#32
  let v248 : BitVec 32 := Scalar.addi c0_i32_527 c64_i32_528
  let c1_i32_529 : BitVec 32 := 1#32
  ⟨c0_i32_527, v248, c1_i32_529⟩
def k2_off168 (k2_t56 : Fin k2_t56_loop.trips) : Fin 2 → Nat :=
  let c7_i32 : BitVec 32 := 7#32
  let v267 : Index := Scalar.indexCast c7_i32
  let c0_i32_527 : BitVec 32 := 0#32
  let c1_i32_529 : BitVec 32 := 1#32
  let arg10 : BitVec 32 := Scf.iv c0_i32_527 c1_i32_529 k2_t56
  let c16_i32_571 : BitVec 32 := 16#32
  let v266 : BitVec 32 := Scalar.muli arg10 c16_i32_571
  let v268 : Index := Scalar.indexCast v266
  ![7, v268.toNat]
def k2_off169 (k2_t56 : Fin k2_t56_loop.trips) : Fin 2 → Nat :=
  let c23_i32 : BitVec 32 := 23#32
  let v271 : Index := Scalar.indexCast c23_i32
  let c0_i32_527 : BitVec 32 := 0#32
  let c1_i32_529 : BitVec 32 := 1#32
  let arg10 : BitVec 32 := Scf.iv c0_i32_527 c1_i32_529 k2_t56
  let c16_i32_571 : BitVec 32 := 16#32
  let v266 : BitVec 32 := Scalar.muli arg10 c16_i32_571
  let v272 : Index := Scalar.indexCast v266
  ![23, v272.toNat]
def k2_off170 (k2_t56 : Fin k2_t56_loop.trips) : Fin 2 → Nat :=
  let c7_i32_572 : BitVec 32 := 7#32
  let v276 : Index := Scalar.indexCast c7_i32_572
  let c0_i32_527 : BitVec 32 := 0#32
  let c1_i32_529 : BitVec 32 := 1#32
  let arg10 : BitVec 32 := Scf.iv c0_i32_527 c1_i32_529 k2_t56
  let c16_i32_571 : BitVec 32 := 16#32
  let v266 : BitVec 32 := Scalar.muli arg10 c16_i32_571
  let v277 : Index := Scalar.indexCast v266
  ![7, v277.toNat]
@[reducible] def k2_t57_loop : Scf.Loop 32 :=
  let c0_i32_532 : BitVec 32 := 0#32
  let c64_i32_533 : BitVec 32 := 64#32
  let v250 : BitVec 32 := Scalar.addi c0_i32_532 c64_i32_533
  let c1_i32_534 : BitVec 32 := 1#32
  ⟨c0_i32_532, v250, c1_i32_534⟩
def k2_off171 (k2_t57 : Fin k2_t57_loop.trips) : Fin 2 → Nat :=
  let c8_i32 : BitVec 32 := 8#32
  let v267 : Index := Scalar.indexCast c8_i32
  let c0_i32_532 : BitVec 32 := 0#32
  let c1_i32_534 : BitVec 32 := 1#32
  let arg10 : BitVec 32 := Scf.iv c0_i32_532 c1_i32_534 k2_t57
  let c16_i32_571 : BitVec 32 := 16#32
  let v266 : BitVec 32 := Scalar.muli arg10 c16_i32_571
  let v268 : Index := Scalar.indexCast v266
  ![8, v268.toNat]
def k2_off172 (k2_t57 : Fin k2_t57_loop.trips) : Fin 2 → Nat :=
  let c24_i32 : BitVec 32 := 24#32
  let v271 : Index := Scalar.indexCast c24_i32
  let c0_i32_532 : BitVec 32 := 0#32
  let c1_i32_534 : BitVec 32 := 1#32
  let arg10 : BitVec 32 := Scf.iv c0_i32_532 c1_i32_534 k2_t57
  let c16_i32_571 : BitVec 32 := 16#32
  let v266 : BitVec 32 := Scalar.muli arg10 c16_i32_571
  let v272 : Index := Scalar.indexCast v266
  ![24, v272.toNat]
def k2_off173 (k2_t57 : Fin k2_t57_loop.trips) : Fin 2 → Nat :=
  let c8_i32_572 : BitVec 32 := 8#32
  let v276 : Index := Scalar.indexCast c8_i32_572
  let c0_i32_532 : BitVec 32 := 0#32
  let c1_i32_534 : BitVec 32 := 1#32
  let arg10 : BitVec 32 := Scf.iv c0_i32_532 c1_i32_534 k2_t57
  let c16_i32_571 : BitVec 32 := 16#32
  let v266 : BitVec 32 := Scalar.muli arg10 c16_i32_571
  let v277 : Index := Scalar.indexCast v266
  ![8, v277.toNat]
@[reducible] def k2_t58_loop : Scf.Loop 32 :=
  let c0_i32_537 : BitVec 32 := 0#32
  let c64_i32_538 : BitVec 32 := 64#32
  let v252 : BitVec 32 := Scalar.addi c0_i32_537 c64_i32_538
  let c1_i32_539 : BitVec 32 := 1#32
  ⟨c0_i32_537, v252, c1_i32_539⟩
def k2_off174 (k2_t58 : Fin k2_t58_loop.trips) : Fin 2 → Nat :=
  let c9_i32 : BitVec 32 := 9#32
  let v267 : Index := Scalar.indexCast c9_i32
  let c0_i32_537 : BitVec 32 := 0#32
  let c1_i32_539 : BitVec 32 := 1#32
  let arg10 : BitVec 32 := Scf.iv c0_i32_537 c1_i32_539 k2_t58
  let c16_i32_571 : BitVec 32 := 16#32
  let v266 : BitVec 32 := Scalar.muli arg10 c16_i32_571
  let v268 : Index := Scalar.indexCast v266
  ![9, v268.toNat]
def k2_off175 (k2_t58 : Fin k2_t58_loop.trips) : Fin 2 → Nat :=
  let c25_i32 : BitVec 32 := 25#32
  let v271 : Index := Scalar.indexCast c25_i32
  let c0_i32_537 : BitVec 32 := 0#32
  let c1_i32_539 : BitVec 32 := 1#32
  let arg10 : BitVec 32 := Scf.iv c0_i32_537 c1_i32_539 k2_t58
  let c16_i32_571 : BitVec 32 := 16#32
  let v266 : BitVec 32 := Scalar.muli arg10 c16_i32_571
  let v272 : Index := Scalar.indexCast v266
  ![25, v272.toNat]
def k2_off176 (k2_t58 : Fin k2_t58_loop.trips) : Fin 2 → Nat :=
  let c9_i32_572 : BitVec 32 := 9#32
  let v276 : Index := Scalar.indexCast c9_i32_572
  let c0_i32_537 : BitVec 32 := 0#32
  let c1_i32_539 : BitVec 32 := 1#32
  let arg10 : BitVec 32 := Scf.iv c0_i32_537 c1_i32_539 k2_t58
  let c16_i32_571 : BitVec 32 := 16#32
  let v266 : BitVec 32 := Scalar.muli arg10 c16_i32_571
  let v277 : Index := Scalar.indexCast v266
  ![9, v277.toNat]
@[reducible] def k2_t59_loop : Scf.Loop 32 :=
  let c0_i32_542 : BitVec 32 := 0#32
  let c64_i32_543 : BitVec 32 := 64#32
  let v254 : BitVec 32 := Scalar.addi c0_i32_542 c64_i32_543
  let c1_i32_544 : BitVec 32 := 1#32
  ⟨c0_i32_542, v254, c1_i32_544⟩
def k2_off177 (k2_t59 : Fin k2_t59_loop.trips) : Fin 2 → Nat :=
  let c10_i32 : BitVec 32 := 10#32
  let v267 : Index := Scalar.indexCast c10_i32
  let c0_i32_542 : BitVec 32 := 0#32
  let c1_i32_544 : BitVec 32 := 1#32
  let arg10 : BitVec 32 := Scf.iv c0_i32_542 c1_i32_544 k2_t59
  let c16_i32_571 : BitVec 32 := 16#32
  let v266 : BitVec 32 := Scalar.muli arg10 c16_i32_571
  let v268 : Index := Scalar.indexCast v266
  ![10, v268.toNat]
def k2_off178 (k2_t59 : Fin k2_t59_loop.trips) : Fin 2 → Nat :=
  let c26_i32 : BitVec 32 := 26#32
  let v271 : Index := Scalar.indexCast c26_i32
  let c0_i32_542 : BitVec 32 := 0#32
  let c1_i32_544 : BitVec 32 := 1#32
  let arg10 : BitVec 32 := Scf.iv c0_i32_542 c1_i32_544 k2_t59
  let c16_i32_571 : BitVec 32 := 16#32
  let v266 : BitVec 32 := Scalar.muli arg10 c16_i32_571
  let v272 : Index := Scalar.indexCast v266
  ![26, v272.toNat]
def k2_off179 (k2_t59 : Fin k2_t59_loop.trips) : Fin 2 → Nat :=
  let c10_i32_572 : BitVec 32 := 10#32
  let v276 : Index := Scalar.indexCast c10_i32_572
  let c0_i32_542 : BitVec 32 := 0#32
  let c1_i32_544 : BitVec 32 := 1#32
  let arg10 : BitVec 32 := Scf.iv c0_i32_542 c1_i32_544 k2_t59
  let c16_i32_571 : BitVec 32 := 16#32
  let v266 : BitVec 32 := Scalar.muli arg10 c16_i32_571
  let v277 : Index := Scalar.indexCast v266
  ![10, v277.toNat]
@[reducible] def k2_t60_loop : Scf.Loop 32 :=
  let c0_i32_547 : BitVec 32 := 0#32
  let c64_i32_548 : BitVec 32 := 64#32
  let v256 : BitVec 32 := Scalar.addi c0_i32_547 c64_i32_548
  let c1_i32_549 : BitVec 32 := 1#32
  ⟨c0_i32_547, v256, c1_i32_549⟩
def k2_off180 (k2_t60 : Fin k2_t60_loop.trips) : Fin 2 → Nat :=
  let c11_i32 : BitVec 32 := 11#32
  let v267 : Index := Scalar.indexCast c11_i32
  let c0_i32_547 : BitVec 32 := 0#32
  let c1_i32_549 : BitVec 32 := 1#32
  let arg10 : BitVec 32 := Scf.iv c0_i32_547 c1_i32_549 k2_t60
  let c16_i32_571 : BitVec 32 := 16#32
  let v266 : BitVec 32 := Scalar.muli arg10 c16_i32_571
  let v268 : Index := Scalar.indexCast v266
  ![11, v268.toNat]
def k2_off181 (k2_t60 : Fin k2_t60_loop.trips) : Fin 2 → Nat :=
  let c27_i32 : BitVec 32 := 27#32
  let v271 : Index := Scalar.indexCast c27_i32
  let c0_i32_547 : BitVec 32 := 0#32
  let c1_i32_549 : BitVec 32 := 1#32
  let arg10 : BitVec 32 := Scf.iv c0_i32_547 c1_i32_549 k2_t60
  let c16_i32_571 : BitVec 32 := 16#32
  let v266 : BitVec 32 := Scalar.muli arg10 c16_i32_571
  let v272 : Index := Scalar.indexCast v266
  ![27, v272.toNat]
def k2_off182 (k2_t60 : Fin k2_t60_loop.trips) : Fin 2 → Nat :=
  let c11_i32_572 : BitVec 32 := 11#32
  let v276 : Index := Scalar.indexCast c11_i32_572
  let c0_i32_547 : BitVec 32 := 0#32
  let c1_i32_549 : BitVec 32 := 1#32
  let arg10 : BitVec 32 := Scf.iv c0_i32_547 c1_i32_549 k2_t60
  let c16_i32_571 : BitVec 32 := 16#32
  let v266 : BitVec 32 := Scalar.muli arg10 c16_i32_571
  let v277 : Index := Scalar.indexCast v266
  ![11, v277.toNat]
@[reducible] def k2_t61_loop : Scf.Loop 32 :=
  let c0_i32_552 : BitVec 32 := 0#32
  let c64_i32_553 : BitVec 32 := 64#32
  let v258 : BitVec 32 := Scalar.addi c0_i32_552 c64_i32_553
  let c1_i32_554 : BitVec 32 := 1#32
  ⟨c0_i32_552, v258, c1_i32_554⟩
def k2_off183 (k2_t61 : Fin k2_t61_loop.trips) : Fin 2 → Nat :=
  let c12_i32 : BitVec 32 := 12#32
  let v267 : Index := Scalar.indexCast c12_i32
  let c0_i32_552 : BitVec 32 := 0#32
  let c1_i32_554 : BitVec 32 := 1#32
  let arg10 : BitVec 32 := Scf.iv c0_i32_552 c1_i32_554 k2_t61
  let c16_i32_571 : BitVec 32 := 16#32
  let v266 : BitVec 32 := Scalar.muli arg10 c16_i32_571
  let v268 : Index := Scalar.indexCast v266
  ![12, v268.toNat]
def k2_off184 (k2_t61 : Fin k2_t61_loop.trips) : Fin 2 → Nat :=
  let c28_i32 : BitVec 32 := 28#32
  let v271 : Index := Scalar.indexCast c28_i32
  let c0_i32_552 : BitVec 32 := 0#32
  let c1_i32_554 : BitVec 32 := 1#32
  let arg10 : BitVec 32 := Scf.iv c0_i32_552 c1_i32_554 k2_t61
  let c16_i32_571 : BitVec 32 := 16#32
  let v266 : BitVec 32 := Scalar.muli arg10 c16_i32_571
  let v272 : Index := Scalar.indexCast v266
  ![28, v272.toNat]
def k2_off185 (k2_t61 : Fin k2_t61_loop.trips) : Fin 2 → Nat :=
  let c12_i32_572 : BitVec 32 := 12#32
  let v276 : Index := Scalar.indexCast c12_i32_572
  let c0_i32_552 : BitVec 32 := 0#32
  let c1_i32_554 : BitVec 32 := 1#32
  let arg10 : BitVec 32 := Scf.iv c0_i32_552 c1_i32_554 k2_t61
  let c16_i32_571 : BitVec 32 := 16#32
  let v266 : BitVec 32 := Scalar.muli arg10 c16_i32_571
  let v277 : Index := Scalar.indexCast v266
  ![12, v277.toNat]
@[reducible] def k2_t62_loop : Scf.Loop 32 :=
  let c0_i32_557 : BitVec 32 := 0#32
  let c64_i32_558 : BitVec 32 := 64#32
  let v260 : BitVec 32 := Scalar.addi c0_i32_557 c64_i32_558
  let c1_i32_559 : BitVec 32 := 1#32
  ⟨c0_i32_557, v260, c1_i32_559⟩
def k2_off186 (k2_t62 : Fin k2_t62_loop.trips) : Fin 2 → Nat :=
  let c13_i32 : BitVec 32 := 13#32
  let v267 : Index := Scalar.indexCast c13_i32
  let c0_i32_557 : BitVec 32 := 0#32
  let c1_i32_559 : BitVec 32 := 1#32
  let arg10 : BitVec 32 := Scf.iv c0_i32_557 c1_i32_559 k2_t62
  let c16_i32_571 : BitVec 32 := 16#32
  let v266 : BitVec 32 := Scalar.muli arg10 c16_i32_571
  let v268 : Index := Scalar.indexCast v266
  ![13, v268.toNat]
def k2_off187 (k2_t62 : Fin k2_t62_loop.trips) : Fin 2 → Nat :=
  let c29_i32 : BitVec 32 := 29#32
  let v271 : Index := Scalar.indexCast c29_i32
  let c0_i32_557 : BitVec 32 := 0#32
  let c1_i32_559 : BitVec 32 := 1#32
  let arg10 : BitVec 32 := Scf.iv c0_i32_557 c1_i32_559 k2_t62
  let c16_i32_571 : BitVec 32 := 16#32
  let v266 : BitVec 32 := Scalar.muli arg10 c16_i32_571
  let v272 : Index := Scalar.indexCast v266
  ![29, v272.toNat]
def k2_off188 (k2_t62 : Fin k2_t62_loop.trips) : Fin 2 → Nat :=
  let c13_i32_572 : BitVec 32 := 13#32
  let v276 : Index := Scalar.indexCast c13_i32_572
  let c0_i32_557 : BitVec 32 := 0#32
  let c1_i32_559 : BitVec 32 := 1#32
  let arg10 : BitVec 32 := Scf.iv c0_i32_557 c1_i32_559 k2_t62
  let c16_i32_571 : BitVec 32 := 16#32
  let v266 : BitVec 32 := Scalar.muli arg10 c16_i32_571
  let v277 : Index := Scalar.indexCast v266
  ![13, v277.toNat]
@[reducible] def k2_t63_loop : Scf.Loop 32 :=
  let c0_i32_562 : BitVec 32 := 0#32
  let c64_i32_563 : BitVec 32 := 64#32
  let v262 : BitVec 32 := Scalar.addi c0_i32_562 c64_i32_563
  let c1_i32_564 : BitVec 32 := 1#32
  ⟨c0_i32_562, v262, c1_i32_564⟩
def k2_off189 (k2_t63 : Fin k2_t63_loop.trips) : Fin 2 → Nat :=
  let c14_i32 : BitVec 32 := 14#32
  let v267 : Index := Scalar.indexCast c14_i32
  let c0_i32_562 : BitVec 32 := 0#32
  let c1_i32_564 : BitVec 32 := 1#32
  let arg10 : BitVec 32 := Scf.iv c0_i32_562 c1_i32_564 k2_t63
  let c16_i32_571 : BitVec 32 := 16#32
  let v266 : BitVec 32 := Scalar.muli arg10 c16_i32_571
  let v268 : Index := Scalar.indexCast v266
  ![14, v268.toNat]
def k2_off190 (k2_t63 : Fin k2_t63_loop.trips) : Fin 2 → Nat :=
  let c30_i32 : BitVec 32 := 30#32
  let v271 : Index := Scalar.indexCast c30_i32
  let c0_i32_562 : BitVec 32 := 0#32
  let c1_i32_564 : BitVec 32 := 1#32
  let arg10 : BitVec 32 := Scf.iv c0_i32_562 c1_i32_564 k2_t63
  let c16_i32_571 : BitVec 32 := 16#32
  let v266 : BitVec 32 := Scalar.muli arg10 c16_i32_571
  let v272 : Index := Scalar.indexCast v266
  ![30, v272.toNat]
def k2_off191 (k2_t63 : Fin k2_t63_loop.trips) : Fin 2 → Nat :=
  let c14_i32_572 : BitVec 32 := 14#32
  let v276 : Index := Scalar.indexCast c14_i32_572
  let c0_i32_562 : BitVec 32 := 0#32
  let c1_i32_564 : BitVec 32 := 1#32
  let arg10 : BitVec 32 := Scf.iv c0_i32_562 c1_i32_564 k2_t63
  let c16_i32_571 : BitVec 32 := 16#32
  let v266 : BitVec 32 := Scalar.muli arg10 c16_i32_571
  let v277 : Index := Scalar.indexCast v266
  ![14, v277.toNat]
@[reducible] def k2_t64_loop : Scf.Loop 32 :=
  let c0_i32_567 : BitVec 32 := 0#32
  let c64_i32_568 : BitVec 32 := 64#32
  let v264 : BitVec 32 := Scalar.addi c0_i32_567 c64_i32_568
  let c1_i32_569 : BitVec 32 := 1#32
  ⟨c0_i32_567, v264, c1_i32_569⟩
def k2_off192 (k2_t64 : Fin k2_t64_loop.trips) : Fin 2 → Nat :=
  let c15_i32 : BitVec 32 := 15#32
  let v267 : Index := Scalar.indexCast c15_i32
  let c0_i32_567 : BitVec 32 := 0#32
  let c1_i32_569 : BitVec 32 := 1#32
  let arg10 : BitVec 32 := Scf.iv c0_i32_567 c1_i32_569 k2_t64
  let c16_i32_571 : BitVec 32 := 16#32
  let v266 : BitVec 32 := Scalar.muli arg10 c16_i32_571
  let v268 : Index := Scalar.indexCast v266
  ![15, v268.toNat]
def k2_off193 (k2_t64 : Fin k2_t64_loop.trips) : Fin 2 → Nat :=
  let c31_i32 : BitVec 32 := 31#32
  let v271 : Index := Scalar.indexCast c31_i32
  let c0_i32_567 : BitVec 32 := 0#32
  let c1_i32_569 : BitVec 32 := 1#32
  let arg10 : BitVec 32 := Scf.iv c0_i32_567 c1_i32_569 k2_t64
  let c16_i32_571 : BitVec 32 := 16#32
  let v266 : BitVec 32 := Scalar.muli arg10 c16_i32_571
  let v272 : Index := Scalar.indexCast v266
  ![31, v272.toNat]
def k2_off194 (k2_t64 : Fin k2_t64_loop.trips) : Fin 2 → Nat :=
  let c15_i32_572 : BitVec 32 := 15#32
  let v276 : Index := Scalar.indexCast c15_i32_572
  let c0_i32_567 : BitVec 32 := 0#32
  let c1_i32_569 : BitVec 32 := 1#32
  let arg10 : BitVec 32 := Scf.iv c0_i32_567 c1_i32_569 k2_t64
  let c16_i32_571 : BitVec 32 := 16#32
  let v266 : BitVec 32 := Scalar.muli arg10 c16_i32_571
  let v277 : Index := Scalar.indexCast v266
  ![15, v277.toNat]
abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S2048x1024 : Shape := ⟨2, ![2048, 1024]⟩
abbrev S2048 : Shape := ⟨1, ![2048]⟩
abbrev S2048x128 : Shape := ⟨2, ![2048, 128]⟩
abbrev S40 : Shape := ⟨1, ![40]⟩
abbrev S8x2816x1024 : Shape := ⟨3, ![8, 2816, 1024]⟩
abbrev S8x1024x2816 : Shape := ⟨3, ![8, 1024, 2816]⟩
abbrev S2048x1 : Shape := ⟨2, ![2048, 1]⟩
abbrev S2048x2 : Shape := ⟨2, ![2048, 2]⟩
abbrev S2048x2x1 : Shape := ⟨3, ![2048, 2, 1]⟩
abbrev S1x1x8 : Shape := ⟨3, ![1, 1, 8]⟩
abbrev S2048x2x8 : Shape := ⟨3, ![2048, 2, 8]⟩
abbrev S2048x8 : Shape := ⟨2, ![2048, 8]⟩
abbrev S_ : Shape := ⟨0, ![]⟩
abbrev S1x2816x1024 : Shape := ⟨3, ![1, 2816, 1024]⟩
abbrev S2816x1024 : Shape := ⟨2, ![2816, 1024]⟩
abbrev S1024x2816 : Shape := ⟨2, ![1024, 2816]⟩
abbrev S2048x2816 : Shape := ⟨2, ![2048, 2816]⟩
abbrev S1x1024x2816 : Shape := ⟨3, ![1, 1024, 2816]⟩

abbrev nBuf : Space → Nat
  | .hbm => 238
  | .vmem => 0
  | .smem => 0
  | _ => 0

abbrev hbmTy0_0 (i : Nat) : BufTy := match i % 128 with
  | 0 => ⟨S2048x1024, .f32⟩
  | 1 => ⟨S2048, .i32⟩
  | 2 => ⟨S2048, .i32⟩
  | 3 => ⟨S2048x128, .f32⟩
  | 4 => ⟨S2048x128, .f32⟩
  | 5 => ⟨S40, .i32⟩
  | 6 => ⟨S8x2816x1024, .f32⟩
  | 7 => ⟨S8x2816x1024, .f32⟩
  | 8 => ⟨S8x1024x2816, .f32⟩
  | 9 => ⟨S2048, .i32⟩
  | 10 => ⟨S2048, .i32⟩
  | 11 => ⟨S2048x1, .i32⟩
  | 12 => ⟨S2048x1, .i32⟩
  | 13 => ⟨S2048x2, .i32⟩
  | 14 => ⟨S2048x1, .f32⟩
  | 15 => ⟨S2048, .f32⟩
  | 16 => ⟨S2048x1, .f32⟩
  | 17 => ⟨S2048, .f32⟩
  | 18 => ⟨S2048x1, .f32⟩
  | 19 => ⟨S2048x1, .f32⟩
  | 20 => ⟨S2048x2, .f32⟩
  | 21 => ⟨S2048x2x1, .i32⟩
  | 22 => ⟨S1x1x8, .i32⟩
  | 23 => ⟨S2048x2x8, .i32⟩
  | 24 => ⟨S2048x2x8, .i32⟩
  | 25 => ⟨S2048x2x8, .i1⟩
  | 26 => ⟨S2048x2x8, .f32⟩
  | 27 => ⟨S2048x8, .f32⟩
  | 28 => ⟨S_, .f32⟩
  | 29 => ⟨S2048x1024, .f32⟩
  | 30 => ⟨S1x2816x1024, .f32⟩
  | 31 => ⟨S2816x1024, .f32⟩
  | 32 => ⟨S1024x2816, .f32⟩
  | 33 => ⟨S2048x2816, .f32⟩
  | 34 => ⟨S1x2816x1024, .f32⟩
  | 35 => ⟨S2816x1024, .f32⟩
  | 36 => ⟨S1024x2816, .f32⟩
  | 37 => ⟨S2048x2816, .f32⟩
  | 38 => ⟨S2048x2816, .f32⟩
  | 39 => ⟨S2048x2816, .f32⟩
  | 40 => ⟨S_, .f32⟩
  | 41 => ⟨S2048x2816, .f32⟩
  | 42 => ⟨S2048x2816, .f32⟩
  | 43 => ⟨S_, .f32⟩
  | 44 => ⟨S2048x2816, .f32⟩
  | 45 => ⟨S2048x2816, .f32⟩
  | 46 => ⟨S2048x2816, .f32⟩
  | 47 => ⟨S2048x2816, .f32⟩
  | 48 => ⟨S1x1024x2816, .f32⟩
  | 49 => ⟨S1024x2816, .f32⟩
  | 50 => ⟨S2816x1024, .f32⟩
  | 51 => ⟨S2048x1024, .f32⟩
  | 52 => ⟨S2048x1, .f32⟩
  | 53 => ⟨S2048x1024, .f32⟩
  | 54 => ⟨S2048x1024, .f32⟩
  | 55 => ⟨S2048x1024, .f32⟩
  | 56 => ⟨S1x2816x1024, .f32⟩
  | 57 => ⟨S2816x1024, .f32⟩
  | 58 => ⟨S1024x2816, .f32⟩
  | 59 => ⟨S2048x2816, .f32⟩
  | 60 => ⟨S1x2816x1024, .f32⟩
  | 61 => ⟨S2816x1024, .f32⟩
  | 62 => ⟨S1024x2816, .f32⟩
  | 63 => ⟨S2048x2816, .f32⟩
  | 64 => ⟨S2048x2816, .f32⟩
  | 65 => ⟨S2048x2816, .f32⟩
  | 66 => ⟨S_, .f32⟩
  | 67 => ⟨S2048x2816, .f32⟩
  | 68 => ⟨S2048x2816, .f32⟩
  | 69 => ⟨S_, .f32⟩
  | 70 => ⟨S2048x2816, .f32⟩
  | 71 => ⟨S2048x2816, .f32⟩
  | 72 => ⟨S2048x2816, .f32⟩
  | 73 => ⟨S2048x2816, .f32⟩
  | 74 => ⟨S1x1024x2816, .f32⟩
  | 75 => ⟨S1024x2816, .f32⟩
  | 76 => ⟨S2816x1024, .f32⟩
  | 77 => ⟨S2048x1024, .f32⟩
  | 78 => ⟨S2048x1, .f32⟩
  | 79 => ⟨S2048x1024, .f32⟩
  | 80 => ⟨S2048x1024, .f32⟩
  | 81 => ⟨S2048x1024, .f32⟩
  | 82 => ⟨S1x2816x1024, .f32⟩
  | 83 => ⟨S2816x1024, .f32⟩
  | 84 => ⟨S1024x2816, .f32⟩
  | 85 => ⟨S2048x2816, .f32⟩
  | 86 => ⟨S1x2816x1024, .f32⟩
  | 87 => ⟨S2816x1024, .f32⟩
  | 88 => ⟨S1024x2816, .f32⟩
  | 89 => ⟨S2048x2816, .f32⟩
  | 90 => ⟨S2048x2816, .f32⟩
  | 91 => ⟨S2048x2816, .f32⟩
  | 92 => ⟨S_, .f32⟩
  | 93 => ⟨S2048x2816, .f32⟩
  | 94 => ⟨S2048x2816, .f32⟩
  | 95 => ⟨S_, .f32⟩
  | 96 => ⟨S2048x2816, .f32⟩
  | 97 => ⟨S2048x2816, .f32⟩
  | 98 => ⟨S2048x2816, .f32⟩
  | 99 => ⟨S2048x2816, .f32⟩
  | 100 => ⟨S1x1024x2816, .f32⟩
  | 101 => ⟨S1024x2816, .f32⟩
  | 102 => ⟨S2816x1024, .f32⟩
  | 103 => ⟨S2048x1024, .f32⟩
  | 104 => ⟨S2048x1, .f32⟩
  | 105 => ⟨S2048x1024, .f32⟩
  | 106 => ⟨S2048x1024, .f32⟩
  | 107 => ⟨S2048x1024, .f32⟩
  | 108 => ⟨S1x2816x1024, .f32⟩
  | 109 => ⟨S2816x1024, .f32⟩
  | 110 => ⟨S1024x2816, .f32⟩
  | 111 => ⟨S2048x2816, .f32⟩
  | 112 => ⟨S1x2816x1024, .f32⟩
  | 113 => ⟨S2816x1024, .f32⟩
  | 114 => ⟨S1024x2816, .f32⟩
  | 115 => ⟨S2048x2816, .f32⟩
  | 116 => ⟨S2048x2816, .f32⟩
  | 117 => ⟨S2048x2816, .f32⟩
  | 118 => ⟨S_, .f32⟩
  | 119 => ⟨S2048x2816, .f32⟩
  | 120 => ⟨S2048x2816, .f32⟩
  | 121 => ⟨S_, .f32⟩
  | 122 => ⟨S2048x2816, .f32⟩
  | 123 => ⟨S2048x2816, .f32⟩
  | 124 => ⟨S2048x2816, .f32⟩
  | 125 => ⟨S2048x2816, .f32⟩
  | 126 => ⟨S1x1024x2816, .f32⟩
  | 127 => ⟨S1024x2816, .f32⟩
  | _ => ⟨S2048x1024, .f32⟩

abbrev hbmTy0_1 (i : Nat) : BufTy := match i % 128 with
  | 0 => ⟨S2816x1024, .f32⟩
  | 1 => ⟨S2048x1024, .f32⟩
  | 2 => ⟨S2048x1, .f32⟩
  | 3 => ⟨S2048x1024, .f32⟩
  | 4 => ⟨S2048x1024, .f32⟩
  | 5 => ⟨S2048x1024, .f32⟩
  | 6 => ⟨S1x2816x1024, .f32⟩
  | 7 => ⟨S2816x1024, .f32⟩
  | 8 => ⟨S1024x2816, .f32⟩
  | 9 => ⟨S2048x2816, .f32⟩
  | 10 => ⟨S1x2816x1024, .f32⟩
  | 11 => ⟨S2816x1024, .f32⟩
  | 12 => ⟨S1024x2816, .f32⟩
  | 13 => ⟨S2048x2816, .f32⟩
  | 14 => ⟨S2048x2816, .f32⟩
  | 15 => ⟨S2048x2816, .f32⟩
  | 16 => ⟨S_, .f32⟩
  | 17 => ⟨S2048x2816, .f32⟩
  | 18 => ⟨S2048x2816, .f32⟩
  | 19 => ⟨S_, .f32⟩
  | 20 => ⟨S2048x2816, .f32⟩
  | 21 => ⟨S2048x2816, .f32⟩
  | 22 => ⟨S2048x2816, .f32⟩
  | 23 => ⟨S2048x2816, .f32⟩
  | 24 => ⟨S1x1024x2816, .f32⟩
  | 25 => ⟨S1024x2816, .f32⟩
  | 26 => ⟨S2816x1024, .f32⟩
  | 27 => ⟨S2048x1024, .f32⟩
  | 28 => ⟨S2048x1, .f32⟩
  | 29 => ⟨S2048x1024, .f32⟩
  | 30 => ⟨S2048x1024, .f32⟩
  | 31 => ⟨S2048x1024, .f32⟩
  | 32 => ⟨S1x2816x1024, .f32⟩
  | 33 => ⟨S2816x1024, .f32⟩
  | 34 => ⟨S1024x2816, .f32⟩
  | 35 => ⟨S2048x2816, .f32⟩
  | 36 => ⟨S1x2816x1024, .f32⟩
  | 37 => ⟨S2816x1024, .f32⟩
  | 38 => ⟨S1024x2816, .f32⟩
  | 39 => ⟨S2048x2816, .f32⟩
  | 40 => ⟨S2048x2816, .f32⟩
  | 41 => ⟨S2048x2816, .f32⟩
  | 42 => ⟨S_, .f32⟩
  | 43 => ⟨S2048x2816, .f32⟩
  | 44 => ⟨S2048x2816, .f32⟩
  | 45 => ⟨S_, .f32⟩
  | 46 => ⟨S2048x2816, .f32⟩
  | 47 => ⟨S2048x2816, .f32⟩
  | 48 => ⟨S2048x2816, .f32⟩
  | 49 => ⟨S2048x2816, .f32⟩
  | 50 => ⟨S1x1024x2816, .f32⟩
  | 51 => ⟨S1024x2816, .f32⟩
  | 52 => ⟨S2816x1024, .f32⟩
  | 53 => ⟨S2048x1024, .f32⟩
  | 54 => ⟨S2048x1, .f32⟩
  | 55 => ⟨S2048x1024, .f32⟩
  | 56 => ⟨S2048x1024, .f32⟩
  | 57 => ⟨S2048x1024, .f32⟩
  | 58 => ⟨S1x2816x1024, .f32⟩
  | 59 => ⟨S2816x1024, .f32⟩
  | 60 => ⟨S1024x2816, .f32⟩
  | 61 => ⟨S2048x2816, .f32⟩
  | 62 => ⟨S1x2816x1024, .f32⟩
  | 63 => ⟨S2816x1024, .f32⟩
  | 64 => ⟨S1024x2816, .f32⟩
  | 65 => ⟨S2048x2816, .f32⟩
  | 66 => ⟨S2048x2816, .f32⟩
  | 67 => ⟨S2048x2816, .f32⟩
  | 68 => ⟨S_, .f32⟩
  | 69 => ⟨S2048x2816, .f32⟩
  | 70 => ⟨S2048x2816, .f32⟩
  | 71 => ⟨S_, .f32⟩
  | 72 => ⟨S2048x2816, .f32⟩
  | 73 => ⟨S2048x2816, .f32⟩
  | 74 => ⟨S2048x2816, .f32⟩
  | 75 => ⟨S2048x2816, .f32⟩
  | 76 => ⟨S1x1024x2816, .f32⟩
  | 77 => ⟨S1024x2816, .f32⟩
  | 78 => ⟨S2816x1024, .f32⟩
  | 79 => ⟨S2048x1024, .f32⟩
  | 80 => ⟨S2048x1, .f32⟩
  | 81 => ⟨S2048x1024, .f32⟩
  | 82 => ⟨S2048x1024, .f32⟩
  | 83 => ⟨S2048x1024, .f32⟩
  | 84 => ⟨S1x2816x1024, .f32⟩
  | 85 => ⟨S2816x1024, .f32⟩
  | 86 => ⟨S1024x2816, .f32⟩
  | 87 => ⟨S2048x2816, .f32⟩
  | 88 => ⟨S1x2816x1024, .f32⟩
  | 89 => ⟨S2816x1024, .f32⟩
  | 90 => ⟨S1024x2816, .f32⟩
  | 91 => ⟨S2048x2816, .f32⟩
  | 92 => ⟨S2048x2816, .f32⟩
  | 93 => ⟨S2048x2816, .f32⟩
  | 94 => ⟨S_, .f32⟩
  | 95 => ⟨S2048x2816, .f32⟩
  | 96 => ⟨S2048x2816, .f32⟩
  | 97 => ⟨S_, .f32⟩
  | 98 => ⟨S2048x2816, .f32⟩
  | 99 => ⟨S2048x2816, .f32⟩
  | 100 => ⟨S2048x2816, .f32⟩
  | 101 => ⟨S2048x2816, .f32⟩
  | 102 => ⟨S1x1024x2816, .f32⟩
  | 103 => ⟨S1024x2816, .f32⟩
  | 104 => ⟨S2816x1024, .f32⟩
  | 105 => ⟨S2048x1024, .f32⟩
  | 106 => ⟨S2048x1, .f32⟩
  | 107 => ⟨S2048x1024, .f32⟩
  | 108 => ⟨S2048x1024, .f32⟩
  | 109 => ⟨S2048x1024, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v10 : Ref sig .tc := ⟨.hbm, 26, rfl⟩
abbrev main_v11 : Ref sig .tc := ⟨.hbm, 27, rfl⟩
abbrev main_cst : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_call1_v0 : Ref sig .tc := ⟨.hbm, 38, rfl⟩
abbrev main_call1_v1 : Ref sig .tc := ⟨.hbm, 39, rfl⟩
abbrev main_call1_cst : Ref sig .tc := ⟨.hbm, 40, rfl⟩
abbrev main_call1_v2 : Ref sig .tc := ⟨.hbm, 41, rfl⟩
abbrev main_call1_v3 : Ref sig .tc := ⟨.hbm, 42, rfl⟩
abbrev main_call1_cst_0 : Ref sig .tc := ⟨.hbm, 43, rfl⟩
abbrev main_call1_v4 : Ref sig .tc := ⟨.hbm, 44, rfl⟩
abbrev main_call1_v5 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_call2_v0 : Ref sig .tc := ⟨.hbm, 64, rfl⟩
abbrev main_call2_v1 : Ref sig .tc := ⟨.hbm, 65, rfl⟩
abbrev main_call2_cst : Ref sig .tc := ⟨.hbm, 66, rfl⟩
abbrev main_call2_v2 : Ref sig .tc := ⟨.hbm, 67, rfl⟩
abbrev main_call2_v3 : Ref sig .tc := ⟨.hbm, 68, rfl⟩
abbrev main_call2_cst_0 : Ref sig .tc := ⟨.hbm, 69, rfl⟩
abbrev main_call2_v4 : Ref sig .tc := ⟨.hbm, 70, rfl⟩
abbrev main_call2_v5 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_call3_v0 : Ref sig .tc := ⟨.hbm, 90, rfl⟩
abbrev main_call3_v1 : Ref sig .tc := ⟨.hbm, 91, rfl⟩
abbrev main_call3_cst : Ref sig .tc := ⟨.hbm, 92, rfl⟩
abbrev main_call3_v2 : Ref sig .tc := ⟨.hbm, 93, rfl⟩
abbrev main_call3_v3 : Ref sig .tc := ⟨.hbm, 94, rfl⟩
abbrev main_call3_cst_0 : Ref sig .tc := ⟨.hbm, 95, rfl⟩
abbrev main_call3_v4 : Ref sig .tc := ⟨.hbm, 96, rfl⟩
abbrev main_call3_v5 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_call4_v0 : Ref sig .tc := ⟨.hbm, 116, rfl⟩
abbrev main_call4_v1 : Ref sig .tc := ⟨.hbm, 117, rfl⟩
abbrev main_call4_cst : Ref sig .tc := ⟨.hbm, 118, rfl⟩
abbrev main_call4_v2 : Ref sig .tc := ⟨.hbm, 119, rfl⟩
abbrev main_call4_v3 : Ref sig .tc := ⟨.hbm, 120, rfl⟩
abbrev main_call4_cst_0 : Ref sig .tc := ⟨.hbm, 121, rfl⟩
abbrev main_call4_v4 : Ref sig .tc := ⟨.hbm, 122, rfl⟩
abbrev main_call4_v5 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_call5_v0 : Ref sig .tc := ⟨.hbm, 142, rfl⟩
abbrev main_call5_v1 : Ref sig .tc := ⟨.hbm, 143, rfl⟩
abbrev main_call5_cst : Ref sig .tc := ⟨.hbm, 144, rfl⟩
abbrev main_call5_v2 : Ref sig .tc := ⟨.hbm, 145, rfl⟩
abbrev main_call5_v3 : Ref sig .tc := ⟨.hbm, 146, rfl⟩
abbrev main_call5_cst_0 : Ref sig .tc := ⟨.hbm, 147, rfl⟩
abbrev main_call5_v4 : Ref sig .tc := ⟨.hbm, 148, rfl⟩
abbrev main_call5_v5 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev main_v110 : Ref sig .tc := ⟨.hbm, 167, rfl⟩
abbrev main_call6_v0 : Ref sig .tc := ⟨.hbm, 168, rfl⟩
abbrev main_call6_v1 : Ref sig .tc := ⟨.hbm, 169, rfl⟩
abbrev main_call6_cst : Ref sig .tc := ⟨.hbm, 170, rfl⟩
abbrev main_call6_v2 : Ref sig .tc := ⟨.hbm, 171, rfl⟩
abbrev main_call6_v3 : Ref sig .tc := ⟨.hbm, 172, rfl⟩
abbrev main_call6_cst_0 : Ref sig .tc := ⟨.hbm, 173, rfl⟩
abbrev main_call6_v4 : Ref sig .tc := ⟨.hbm, 174, rfl⟩
abbrev main_call6_v5 : Ref sig .tc := ⟨.hbm, 175, rfl⟩
abbrev main_v111 : Ref sig .tc := ⟨.hbm, 176, rfl⟩
abbrev main_v112 : Ref sig .tc := ⟨.hbm, 177, rfl⟩
abbrev main_v113 : Ref sig .tc := ⟨.hbm, 178, rfl⟩
abbrev main_v114 : Ref sig .tc := ⟨.hbm, 179, rfl⟩
abbrev main_v115 : Ref sig .tc := ⟨.hbm, 180, rfl⟩
abbrev main_v116 : Ref sig .tc := ⟨.hbm, 181, rfl⟩
abbrev main_v117 : Ref sig .tc := ⟨.hbm, 182, rfl⟩
abbrev main_v118 : Ref sig .tc := ⟨.hbm, 183, rfl⟩
abbrev main_v119 : Ref sig .tc := ⟨.hbm, 184, rfl⟩
abbrev main_v120 : Ref sig .tc := ⟨.hbm, 185, rfl⟩
abbrev main_v121 : Ref sig .tc := ⟨.hbm, 186, rfl⟩
abbrev main_v122 : Ref sig .tc := ⟨.hbm, 187, rfl⟩
abbrev main_v123 : Ref sig .tc := ⟨.hbm, 188, rfl⟩
abbrev main_v124 : Ref sig .tc := ⟨.hbm, 189, rfl⟩
abbrev main_v125 : Ref sig .tc := ⟨.hbm, 190, rfl⟩
abbrev main_v126 : Ref sig .tc := ⟨.hbm, 191, rfl⟩
abbrev main_v127 : Ref sig .tc := ⟨.hbm, 192, rfl⟩
abbrev main_v128 : Ref sig .tc := ⟨.hbm, 193, rfl⟩
abbrev main_call7_v0 : Ref sig .tc := ⟨.hbm, 194, rfl⟩
abbrev main_call7_v1 : Ref sig .tc := ⟨.hbm, 195, rfl⟩
abbrev main_call7_cst : Ref sig .tc := ⟨.hbm, 196, rfl⟩
abbrev main_call7_v2 : Ref sig .tc := ⟨.hbm, 197, rfl⟩
abbrev main_call7_v3 : Ref sig .tc := ⟨.hbm, 198, rfl⟩
abbrev main_call7_cst_0 : Ref sig .tc := ⟨.hbm, 199, rfl⟩
abbrev main_call7_v4 : Ref sig .tc := ⟨.hbm, 200, rfl⟩
abbrev main_call7_v5 : Ref sig .tc := ⟨.hbm, 201, rfl⟩
abbrev main_v129 : Ref sig .tc := ⟨.hbm, 202, rfl⟩
abbrev main_v130 : Ref sig .tc := ⟨.hbm, 203, rfl⟩
abbrev main_v131 : Ref sig .tc := ⟨.hbm, 204, rfl⟩
abbrev main_v132 : Ref sig .tc := ⟨.hbm, 205, rfl⟩
abbrev main_v133 : Ref sig .tc := ⟨.hbm, 206, rfl⟩
abbrev main_v134 : Ref sig .tc := ⟨.hbm, 207, rfl⟩
abbrev main_v135 : Ref sig .tc := ⟨.hbm, 208, rfl⟩
abbrev main_v136 : Ref sig .tc := ⟨.hbm, 209, rfl⟩
abbrev main_v137 : Ref sig .tc := ⟨.hbm, 210, rfl⟩
abbrev main_v138 : Ref sig .tc := ⟨.hbm, 211, rfl⟩
abbrev main_v139 : Ref sig .tc := ⟨.hbm, 212, rfl⟩
abbrev main_v140 : Ref sig .tc := ⟨.hbm, 213, rfl⟩
abbrev main_v141 : Ref sig .tc := ⟨.hbm, 214, rfl⟩
abbrev main_v142 : Ref sig .tc := ⟨.hbm, 215, rfl⟩
abbrev main_v143 : Ref sig .tc := ⟨.hbm, 216, rfl⟩
abbrev main_v144 : Ref sig .tc := ⟨.hbm, 217, rfl⟩
abbrev main_v145 : Ref sig .tc := ⟨.hbm, 218, rfl⟩
abbrev main_v146 : Ref sig .tc := ⟨.hbm, 219, rfl⟩
abbrev main_call8_v0 : Ref sig .tc := ⟨.hbm, 220, rfl⟩
abbrev main_call8_v1 : Ref sig .tc := ⟨.hbm, 221, rfl⟩
abbrev main_call8_cst : Ref sig .tc := ⟨.hbm, 222, rfl⟩
abbrev main_call8_v2 : Ref sig .tc := ⟨.hbm, 223, rfl⟩
abbrev main_call8_v3 : Ref sig .tc := ⟨.hbm, 224, rfl⟩
abbrev main_call8_cst_0 : Ref sig .tc := ⟨.hbm, 225, rfl⟩
abbrev main_call8_v4 : Ref sig .tc := ⟨.hbm, 226, rfl⟩
abbrev main_call8_v5 : Ref sig .tc := ⟨.hbm, 227, rfl⟩
abbrev main_v147 : Ref sig .tc := ⟨.hbm, 228, rfl⟩
abbrev main_v148 : Ref sig .tc := ⟨.hbm, 229, rfl⟩
abbrev main_v149 : Ref sig .tc := ⟨.hbm, 230, rfl⟩
abbrev main_v150 : Ref sig .tc := ⟨.hbm, 231, rfl⟩
abbrev main_v151 : Ref sig .tc := ⟨.hbm, 232, rfl⟩
abbrev main_v152 : Ref sig .tc := ⟨.hbm, 233, rfl⟩
abbrev main_v153 : Ref sig .tc := ⟨.hbm, 234, rfl⟩
abbrev main_v154 : Ref sig .tc := ⟨.hbm, 235, rfl⟩
abbrev main_v155 : Ref sig .tc := ⟨.hbm, 236, rfl⟩
abbrev main_v156 : Ref sig .tc := ⟨.hbm, 237, rfl⟩

abbrev nD : Nat := 1
abbrev τ : Topo := Topo.v7x

variable {F : FTy → Type} [FloatOps F]
-- ==== Proof.Comb.Text.lean ====
/-
  The text of the combine's tile program, told as what it is: four chunks of sixteen tokens, each chunk two index
  fetches, eight gathers of 128 columns, sixteen row additions, one write-out. The printer wrote the unrolled program
  as eighteen parts that cut across the chunks; `cc2_k_eq` says the parts in order are the chunks in order.
-/
module

public import proofs.«01_k».proof.Proof.Gen.KernelIdeal
public import proofs.«01_k».proof.Proof.Gen.KernelIdeal.Skeleton
public import Idealize.ShloMosaic.Lib.SparseCore.Quiescent
public import Idealize.ShloMosaic.Lib.SparseCore.Stream
public import Idealize.ShloMosaic.Lib.Tactic

@[expose] public section

noncomputable section

namespace Cert.Proof.Comb

open Cert.KernelIdeal Cert.KernelIdeal.Gen
open Idealize.ShloMosaic Idealize.SL.Sem

variable {F : FTy → Type} [FloatOps F]

/-! ## A list of programs in order -/

/-- The programs `f a` for `a` along a list, one after another. -/
def seqL {E : Type → Type} {A : Type} (f : A → Prog E PUnit.{1}) : List A → Prog E PUnit.{1}
  | [] => pure ⟨⟩
  | a :: l => f a >>= fun _ => seqL f l

theorem seqL_nil {E : Type → Type} {A : Type} (f : A → Prog E PUnit.{1}) : seqL f [] = pure ⟨⟩ := rfl
theorem seqL_cons {E : Type → Type} {A : Type} (f : A → Prog E PUnit.{1}) (a : A) (l : List A) : seqL f (a :: l) = f a >>= fun _ => seqL f l := rfl

/-! ## The pieces of a chunk -/

section Pieces

variable (i : grid2.Coords)

/-- The tile program's effects at mesh coordinates `i`. -/
abbrev TE (F : FTy → Type) (i : grid2.Coords) : Type → Type := TpuEff nD τ sig (Elt F) Λ₀ (.scVector ((i 0).castLE hcore2) ((i 1).castLE hsub2))

/-- Where chunk `j`'s tokens lie in a position list, and its rows in the result. -/
abbrev tokRect (j : Fin 4) : Rect S2048 := Rect.unit (s := S2048) (k2_off1 i (BitVec.ofNat 32 (16 * j.val))) S16.size (k2_off1_inb i j)
abbrev outRect (j : Fin 4) : Rect S2048x1024 := Rect.unit (s := S2048x1024) (k2_off50 i (BitVec.ofNat 32 (16 * j.val))) S16x1024.size (k2_off50_inb i j)

theorem halfInb (h : Fin 2) : ∀ a, (![16 * h.val] : Fin 1 → Nat) a + S16.size a ≤ S32.size a := by decide +revert
theorem colInbS (q : Fin 8) : ∀ a, (![0, 128 * q.val] : Fin 2 → Nat) a + S32x128.size a ≤ S32x1024.size a := by decide +revert
theorem colInbY (q : Fin 8) : ∀ a, (![0, 128 * q.val] : Fin 2 → Nat) a + S5120x128.size a ≤ S5120x1024.size a := by decide +revert

/-- The half of the index buffer a position list's sixteen words go to. -/
abbrev halfRect (h : Fin 2) : Rect S32 := Rect.unit (s := S32) ![16 * h.val] S16.size (halfInb h)
/-- 128 columns of the row buffer, and of the expert rows. -/
abbrev colRectS (q : Fin 8) : Rect S32x1024 := Rect.unit (s := S32x1024) ![0, 128 * q.val] S32x128.size (colInbS q)
abbrev colRectY (q : Fin 8) : Rect S5120x1024 := Rect.unit (s := S5120x1024) ![0, 128 * q.val] S5120x128.size (colInbY q)

/-- The windows the copies name. -/
abbrev tokW (j : Fin 4) (p : Memref sig .scVector .hbm S2048 .i32) : Memref sig .scVector .hbm S16 .i32 := p.slice (tokRect i j) (fun _ => rfl)
abbrev halfW (h : Fin 2) (ic : Memref sig .scVector .vmem S32 .i32) : Memref sig .scVector .vmem S16 .i32 := ic.slice (halfRect h) (fun _ => rfl)
abbrev colWY (q : Fin 8) (y : Memref sig .scVector .hbm S5120x1024 .f32) : Memref sig .scVector .hbm S5120x128 .f32 := y.slice (colRectY q) (fun _ => rfl)
abbrev colWS (q : Fin 8) (rc : Memref sig .scVector .vmem S32x1024 .f32) : Memref sig .scVector .vmem S32x128 .f32 := rc.slice (colRectS q) (fun _ => rfl)
abbrev outW (j : Fin 4) (out : Memref sig .scVector .hbm S2048x1024 .f32) : Memref sig .scVector .hbm S16x1024 .f32 := out.slice (outRect i j) (fun _ => rfl)

/-- Sixteen words of a position list fetched into half `h` of the index buffer. -/
def fetch (j : Fin 4) (h : Fin 2) (src : Memref sig .scVector .hbm S2048 .i32) (ic : Memref sig .scVector .vmem S32 .i32) (s : DmaSems sig S_) :
    Prog (TE F i) PUnit.{1} := do
  Prog.lift (.enqueueDma (tokW i j src) (.here (halfW h ic)) (.dma s.sem) (View.wordExact_bits rfl) (View.wordExact_bits rfl) ⟨Or.inl rfl, trivial⟩)
  Prog.lift (.waitDma2 s.sem (tokW i j src) (halfW h ic) (View.wordExact_bits rfl) (View.wordExact_bits rfl))

/-- 128 columns of the thirty-two rows the index buffer names, gathered. -/
def gatherCol (q : Fin 8) (y : Memref sig .scVector .hbm S5120x1024 .f32) (rc : Memref sig .scVector .vmem S32x1024 .f32)
    (ic : Memref sig .scVector .vmem S32 .i32) (s : DmaSems sig S_) : Prog (TE F i) PUnit.{1} := do
  SparseCore.enqueueIndirectGather rfl (colWY q y) (colWS q rc) gathers_S5120x128_S32x128 ic rfl s.sem (View.wordExact_bits rfl) rfl (Or.inl rfl)
  SparseCore.waitIndirectGather s.sem (colWY q y) (colWS q rc) (View.wordExact_bits rfl) (View.wordExact_bits rfl)

/-- Where trip `k` of a row's loop works: sixteen columns of one row. -/
abbrev rowOff (r : ℕ) (k : Fin k2_t1_loop.trips) : Fin 2 → Nat :=
  ![r, (Scalar.indexCast (Scalar.muli (Scf.iv 0#32 1#32 k) 16#32) : Index).toNat]

theorem rowOff_one (r : ℕ) (k : Fin k2_t1_loop.trips) : rowOff r k 1 = 16 * k.val := by
  show (Scalar.indexCast (Scalar.muli (Scf.iv 0#32 1#32 k) 16#32) : Index).toNat = 16 * k.val
  revert k; decide +kernel

theorem trips_eq : k2_t1_loop.trips = 64 := by decide

theorem rowInbS (r : Fin 32) (k : Fin k2_t1_loop.trips) : ∀ a, rowOff r.val k a + S1x16.size a ≤ S32x1024.size a := fun a => by
  have h := rowOff_one r.val k; have hk : k.val < 64 := trips_eq ▸ k.isLt; have hr := r.isLt
  match a with
  | 0 => show r.val + 1 ≤ 32; omega
  | 1 => rw [h]; show 16 * k.val + 16 ≤ 1024; omega
theorem rowInbO (r : Fin 16) (k : Fin k2_t1_loop.trips) : ∀ a, rowOff r.val k a + S1x16.size a ≤ S16x1024.size a := fun a => by
  have h := rowOff_one r.val k; have hk : k.val < 64 := trips_eq ▸ k.isLt; have hr := r.isLt
  match a with
  | 0 => show r.val + 1 ≤ 16; omega
  | 1 => rw [h]; show 16 * k.val + 16 ≤ 1024; omega

abbrev lo (r : Fin 16) : Fin 32 := ⟨r.val, by omega⟩
abbrev hi (r : Fin 16) : Fin 32 := ⟨16 + r.val, by omega⟩

/-- Sixteen columns of row `r` of the result buffer: the sum of rows `r` and `16 + r` of the row buffer. -/
def rowTrip (r : Fin 16) (rc : Memref sig .scVector .vmem S32x1024 .f32) (ov : Memref sig .scVector .vmem S16x1024 .f32)
    (k : Fin k2_t1_loop.trips) (_ : BitVec 32) : Prog (TE F i) (BitVec 32) := do
  let a : Vec F S1x16 .f32 ← Prog.lift (.load rc (Rect.unit (s := S32x1024) (rowOff (lo r).val k) S1x16.size (rowInbS (lo r) k)).toLoadRect (View.loadsAt_vmem h_S1x16))
  let b : Vec F S1x16 .f32 ← Prog.lift (.load rc (Rect.unit (s := S32x1024) (rowOff (hi r).val k) S1x16.size (rowInbS (hi r) k)).toLoadRect (View.loadsAt_vmem h_S1x16))
  let _ : Vec F S1x16 .f32 ← Prog.lift (.load ov (Rect.unit (s := S16x1024) (rowOff r.val k) S1x16.size (rowInbO r k)).toLoadRect (View.loadsAt_vmem h_S1x16))
  Prog.lift (.store ov (Rect.unit (s := S16x1024) (rowOff r.val k) S1x16.size (rowInbO r k)) (k2_pay1 a b) Finset.univ (View.stores_vmem_bits_univ h_S1x16 rfl) (.inl rfl))
  pure 0#32

def rowLoop (rc : Memref sig .scVector .vmem S32x1024 .f32) (ov : Memref sig .scVector .vmem S16x1024 .f32) (r : Fin 16) : Prog (TE F i) PUnit.{1} := do
  let _ : BitVec 32 ← Scf.Loop.for k2_t1_loop k2_t1_ok 0#32 (rowTrip (F := F) i r rc ov)
  pure ⟨⟩

/-- The sixteen rows of a chunk's result, written out. -/
def writeOut (j : Fin 4) (ov : Memref sig .scVector .vmem S16x1024 .f32) (hov : ov.IsWhole) (out : Memref sig .scVector .hbm S2048x1024 .f32) (s : DmaSems sig S_) :
    Prog (TE F i) PUnit.{1} := do
  Prog.lift (.enqueueDma ov (.here (outW i j out)) (.dma s.sem) hov.wordExact (View.wordExact_bits rfl) ⟨Or.inl rfl, trivial⟩)
  Prog.lift (.waitDma2 s.sem ov (outW i j out) hov.wordExact (View.wordExact_bits rfl))

/-- One chunk of sixteen tokens. -/
def chunk (y : Memref sig .scVector .hbm S5120x1024 .f32) (p0 p1 : Memref sig .scVector .hbm S2048 .i32) (out : Memref sig .scVector .hbm S2048x1024 .f32)
    (rc : Memref sig .scVector .vmem S32x1024 .f32) (ic : Memref sig .scVector .vmem S32 .i32) (ov : Memref sig .scVector .vmem S16x1024 .f32) (hov : ov.IsWhole)
    (sg : DmaSems sig S_) (sa sb sc : Fin 4 → DmaSems sig S_) (j : Fin 4) : Prog (TE F i) PUnit.{1} := do
  fetch i j 0 p0 ic (sa j)
  fetch i j 1 p1 ic (sb j)
  seqL (fun q => gatherCol i q y rc ic sg) (List.finRange 8)
  seqL (rowLoop i rc ov) (List.finRange 16)
  writeOut i j ov hov out (sc j)

end Pieces

theorem finRange4 : List.finRange 4 = [0, 1, 2, 3] := by decide
theorem finRange8 : List.finRange 8 = [0, 1, 2, 3, 4, 5, 6, 7] := by decide
theorem finRange16 : List.finRange 16 = [0, 1, 2, 3, 4, 5, 6, 7, 8, 9, 10, 11, 12, 13, 14, 15] := by decide

set_option maxRecDepth 4096 in
set_option maxHeartbeats 8000000 in
/-- The printed tile program is its four chunks in order. -/
theorem cc2_k_eq (i : grid2.Coords) (y : Memref sig .scVector .hbm S5120x1024 .f32) (hy : y.IsWhole) (p0 : Memref sig .scVector .hbm S2048 .i32) (h0 : p0.IsWhole)
    (p1 : Memref sig .scVector .hbm S2048 .i32) (h1 : p1.IsWhole) (out : Memref sig .scVector .hbm S2048x1024 .f32) (ho : out.IsWhole)
    (rc : Memref sig .scVector .vmem S32x1024 .f32) (hrc : rc.IsWhole) (ic : Memref sig .scVector .vmem S32 .i32) (hic : ic.IsWhole)
    (ov : Memref sig .scVector .vmem S16x1024 .f32) (hov : ov.IsWhole) (sg s0 s1 s2 s3 s4 s5 s6 s7 s8 s9 s10 s11 : DmaSems sig S_) :
    cc2_k (F := F) i y hy p0 h0 p1 h1 out ho rc hrc ic hic ov hov sg s0 s1 s2 s3 s4 s5 s6 s7 s8 s9 s10 s11
      = seqL (chunk (F := F) i y p0 p1 out rc ic ov hov sg ![s0, s3, s6, s9] ![s1, s4, s7, s10] ![s2, s5, s8, s11]) (List.finRange 4) := by
  rw [cc2_k_eq_skeleton]
  unfold cc2_k_skel k2_part18
  rw [k2_part1_eq_skeleton, k2_part2_eq_skeleton, k2_part3_eq_skeleton, k2_part4_eq_skeleton, k2_part5_eq_skeleton, k2_part6_eq_skeleton, k2_part7_eq_skeleton, k2_part8_eq_skeleton, k2_part9_eq_skeleton, k2_part10_eq_skeleton, k2_part11_eq_skeleton, k2_part12_eq_skeleton, k2_part13_eq_skeleton, k2_part14_eq_skeleton, k2_part15_eq_skeleton, k2_part16_eq_skeleton, k2_part17_eq_skeleton]
  unfold k2_part1_skel k2_part2_skel k2_part3_skel k2_part4_skel k2_part5_skel k2_part6_skel k2_part7_skel k2_part8_skel k2_part9_skel k2_part10_skel k2_part11_skel k2_part12_skel k2_part13_skel k2_part14_skel k2_part15_skel k2_part16_skel k2_part17_skel
  simp only [bind_assoc, pure_bind]
  rw [finRange4]
  simp only [seqL_cons, seqL_nil]
  unfold chunk
  rw [finRange8, finRange16]
  simp only [seqL_cons, seqL_nil]
  unfold fetch gatherCol rowLoop writeOut
  simp only [bind_assoc, pure_bind]
  rfl

end Cert.Proof.Comb

end
-- ==== Proof.Disp.Text.lean ====
/-
  The text of the dispatch's tile program, told as what it is: a tile of the first half of the tiles works on the first
  position list and its weights, a tile of the second half on the second; either does four chunks of thirty-two tokens,
  each chunk three fetches, eight scatters of 128 columns of its rows and one scatter of its weights. The printer wrote
  each half unrolled as ten parts that cut across the chunks; `cc0_k_eq` says the parts in order are the chunks in order.
-/
module

public import proofs.«01_k».proof.Proof.Comb.Text

@[expose] public section

noncomputable section

namespace Cert.Proof.Disp

open Cert.KernelIdeal Cert.KernelIdeal.Gen
open Cert.Proof.Comb (seqL seqL_nil seqL_cons finRange4 finRange8)
open Idealize.ShloMosaic Idealize.SL.Sem

variable {F : FTy → Type} [FloatOps F]

section Pieces

variable (i : grid0.Coords)

/-- The tile program's effects at mesh coordinates `i`. -/
abbrev TE (F : FTy → Type) (i : grid0.Coords) : Type → Type := TpuEff nD τ sig (Elt F) Λ₀ (.scVector ((i 0).castLE hcore0) ((i 1).castLE hsub0))

theorem colInbB (q : Fin 8) : ∀ a, (![0, 128 * q.val] : Fin 2 → Nat) a + S32x128.size a ≤ S32x1024.size a := by decide +revert
theorem colInbX (q : Fin 8) : ∀ a, (![0, 128 * q.val] : Fin 2 → Nat) a + S5120x128.size a ≤ S5120x1024.size a := by decide +revert

/-- 128 columns of the row buffer, and of the sorted rows. -/
abbrev colRectB (q : Fin 8) : Rect S32x1024 := Rect.unit (s := S32x1024) ![0, 128 * q.val] S32x128.size (colInbB q)
abbrev colRectX (q : Fin 8) : Rect S5120x1024 := Rect.unit (s := S5120x1024) ![0, 128 * q.val] S5120x128.size (colInbX q)
abbrev colB (q : Fin 8) (xb : Memref sig .scVector .vmem S32x1024 .f32) : Memref sig .scVector .vmem S32x128 .f32 := xb.slice (colRectB q) (fun _ => rfl)
abbrev colX (q : Fin 8) (xs : Memref sig .scVector .hbm S5120x1024 .f32) : Memref sig .scVector .hbm S5120x128 .f32 := xs.slice (colRectX q) (fun _ => rfl)
/-- The sorted weights, as the scatter names them: the whole array's window. -/
abbrev allW (ws : Memref sig .scVector .hbm S5120x128 .f32) : Memref sig .scVector .hbm S5120x128 .f32 :=
  ws.slice (Rect.unit (s := S5120x128) ![0, 0] S5120x128.size inb_S5120x128_S5120x128_0_0) (fun _ => rfl)

/-- A chunk's positions, rows and weights in their arrays, from an offset. -/
abbrev tokI (p : Memref sig .scVector .hbm S2048 .i32) (o : Fin 1 → ℕ) (h : ∀ a, o a + S32.size a ≤ S2048.size a) : Memref sig .scVector .hbm S32 .i32 :=
  p.slice (Rect.unit (s := S2048) o S32.size h) (fun _ => rfl)
abbrev tokX (x : Memref sig .scVector .hbm S2048x1024 .f32) (o : Fin 2 → ℕ) (h : ∀ a, o a + S32x1024.size a ≤ S2048x1024.size a) : Memref sig .scVector .hbm S32x1024 .f32 :=
  x.slice (Rect.unit (s := S2048x1024) o S32x1024.size h) (fun _ => rfl)
abbrev tokW (w : Memref sig .scVector .hbm S2048x128 .f32) (o : Fin 2 → ℕ) (h : ∀ a, o a + S32x128.size a ≤ S2048x128.size a) : Memref sig .scVector .hbm S32x128 .f32 :=
  w.slice (Rect.unit (s := S2048x128) o S32x128.size h) (fun _ => rfl)

/-- A window of an array in HBM fetched into a whole buffer of the tile. -/
def fetch {s : Shape} {e : EltTy} (src : Memref sig .scVector .hbm s e) (hs : src.view.WordExact) (dst : Memref sig .scVector .vmem s e) (hd : dst.IsWhole) (sm : DmaSems sig S_) :
    Prog (TE F i) PUnit.{1} := do
  Prog.lift (.enqueueDma src (.here dst) (.dma sm.sem) hs hd.wordExact ⟨Or.inl rfl, trivial⟩)
  Prog.lift (.waitDma2 sm.sem src dst hs hd.wordExact)

/-- Thirty-two rows of 128 words scattered to the rows the index buffer names. -/
def scatter (src : Memref sig .scVector .vmem S32x128 .f32) (hs : src.view.WordExact) (dst : Memref sig .scVector .hbm S5120x128 .f32) (hd : dst.view.WordExact)
    (ix : Memref sig .scVector .vmem S32 .i32) (sm : DmaSems sig S_) : Prog (TE F i) PUnit.{1} := do
  SparseCore.enqueueIndirectScatter rfl src dst gathers_S5120x128_S32x128 ix rfl sm.sem rfl (Or.inl rfl)
  SparseCore.waitIndirectScatter sm.sem src dst hs hd

/-- One chunk of thirty-two tokens. -/
def chunk (x : Memref sig .scVector .hbm S2048x1024 .f32) (p : Memref sig .scVector .hbm S2048 .i32) (w : Memref sig .scVector .hbm S2048x128 .f32)
    (xs : Memref sig .scVector .hbm S5120x1024 .f32) (ws : Memref sig .scVector .hbm S5120x128 .f32)
    (xb : Memref sig .scVector .vmem S32x1024 .f32) (hxb : xb.IsWhole) (wb : Memref sig .scVector .vmem S32x128 .f32) (hwb : wb.IsWhole)
    (ix : Memref sig .scVector .vmem S32 .i32) (hix : ix.IsWhole) (sg : DmaSems sig S_) (sp sx sw : Fin 4 → DmaSems sig S_)
    (op : Fin 4 → Fin 1 → ℕ) (hp : ∀ j a, op j a + S32.size a ≤ S2048.size a) (ox : Fin 4 → Fin 2 → ℕ) (hx : ∀ j a, ox j a + S32x1024.size a ≤ S2048x1024.size a)
    (ow : Fin 4 → Fin 2 → ℕ) (hw : ∀ j a, ow j a + S32x128.size a ≤ S2048x128.size a) (j : Fin 4) : Prog (TE F i) PUnit.{1} := do
  fetch i (tokI p (op j) (hp j)) (View.wordExact_bits rfl) ix hix (sp j)
  fetch i (tokX x (ox j) (hx j)) (View.wordExact_bits rfl) xb hxb (sx j)
  fetch i (tokW w (ow j) (hw j)) (View.wordExact_bits rfl) wb hwb (sw j)
  seqL (fun q => scatter i (colB q xb) (View.wordExact_bits rfl) (colX q xs) (View.wordExact_bits rfl) ix sg) (List.finRange 8)
  scatter i wb hwb.wordExact (allW ws) (View.wordExact_bits rfl) ix sg

end Pieces

set_option maxRecDepth 4096 in
set_option maxHeartbeats 8000000 in
/-- The printed tile program is the four chunks of its half in order. -/
theorem cc0_k_eq (i : grid0.Coords) (x : Memref sig .scVector .hbm S2048x1024 .f32) (hx : x.IsWhole) (p0 : Memref sig .scVector .hbm S2048 .i32) (h0 : p0.IsWhole)
    (p1 : Memref sig .scVector .hbm S2048 .i32) (h1 : p1.IsWhole) (w0 : Memref sig .scVector .hbm S2048x128 .f32) (hw0 : w0.IsWhole) (w1 : Memref sig .scVector .hbm S2048x128 .f32) (hw1 : w1.IsWhole)
    (xs : Memref sig .scVector .hbm S5120x1024 .f32) (hxs : xs.IsWhole) (ws : Memref sig .scVector .hbm S5120x128 .f32) (hws : ws.IsWhole)
    (xb : Memref sig .scVector .vmem S32x1024 .f32) (hxb : xb.IsWhole) (wb : Memref sig .scVector .vmem S32x128 .f32) (hwb : wb.IsWhole)
    (ix : Memref sig .scVector .vmem S32 .i32) (hix : ix.IsWhole) (sg s0 s1 s2 s3 s4 s5 s6 s7 s8 s9 s10 s11 s12 s13 s14 s15 s16 s17 s18 s19 s20 s21 s22 s23 : DmaSems sig S_) :
    cc0_k (F := F) i x hx p0 h0 p1 h1 w0 hw0 w1 hw1 xs hxs ws hws xb hxb wb hwb ix hix sg s0 s1 s2 s3 s4 s5 s6 s7 s8 s9 s10 s11 s12 s13 s14 s15 s16 s17 s18 s19 s20 s21 s22 s23
      = (if h : k0_cond1 i = 1#1 then
          seqL (chunk (F := F) i x p0 w0 xs ws xb hxb wb hwb ix hix sg ![s0, s3, s6, s9] ![s1, s4, s7, s10] ![s2, s5, s8, s11]
            (fun j => k0_off1 i (BitVec.ofNat 32 (32 * j.val))) (k0_off1_inb i h) (fun j => k0_off2 i (BitVec.ofNat 32 (32 * j.val))) (k0_off2_inb i h)
            (fun j => k0_off3 i (BitVec.ofNat 32 (32 * j.val))) (k0_off3_inb i h)) (List.finRange 4)
        else pure ⟨⟩) >>= fun _ =>
        (if h : k0_cond2 i = 1#1 then
          seqL (chunk (F := F) i x p1 w1 xs ws xb hxb wb hwb ix hix sg ![s12, s15, s18, s21] ![s13, s16, s19, s22] ![s14, s17, s20, s23]
            (fun j => k0_off4 i (BitVec.ofNat 32 (32 * j.val))) (k0_off4_inb i h) (fun j => k0_off5 i (BitVec.ofNat 32 (32 * j.val))) (k0_off5_inb i h)
            (fun j => k0_off6 i (BitVec.ofNat 32 (32 * j.val))) (k0_off6_inb i h)) (List.finRange 4)
        else pure ⟨⟩) >>= fun _ => pure ⟨⟩ := by
  rw [cc0_k_eq_skeleton]
  unfold cc0_k_skel
  rw [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel
  by_cases h1 : k0_cond1 i = 1#1 <;> by_cases h2 : k0_cond2 i = 1#1 <;>
    simp only [h1, h2, ↓reduceDIte, finRange4, seqL_cons, seqL_nil, chunk, finRange8, fetch, scatter, bind_assoc, pure_bind]
  all_goals rfl

end Cert.Proof.Disp

end
-- ==== Proof.Comb.Values.lean ====
/-
  What the combine computes, and the windows of its buffers by coordinates: the words of the index buffer, the
  gathered rows, their sums, and which elements of the result a chunk, a tile and a SparseCore write.
-/
module

public import proofs.«01_k».proof.Proof.Comb.Text
public import Idealize.ShloMosaic.Lib.Pointwise.Index

@[expose] public section

noncomputable section

namespace Cert.Proof.Comb

open Cert.KernelIdeal Cert.KernelIdeal.Gen
open Idealize.ShloMosaic Idealize.SL.Sem

variable {F : FTy → Type} [FloatOps F]

/-! ## The result -/

/-- The row of the expert rows a position word names. -/
def rowIx (v : BitVec 32) : Fin 5120 := ⟨v.toNat % 5120, Nat.mod_lt _ (by decide)⟩

theorem rowIx_val {v : BitVec 32} (h : v.toNat < 5120) : (rowIx v).val = v.toNat := Nat.mod_eq_of_lt h

/-- The combined rows: token `t`'s is the sum of the two expert rows its positions name. -/
def comb (Y : S5120x1024.Idx → Elt F .f32) (p0 p1 : S2048.Idx → BitVec 32) : S2048x1024.Idx → Elt F .f32 := fun x =>
  FloatOps.addf (φ := .f32) (Y (ix2 (rowIx (p0 (ix1 (x 0)))) (x 1))) (Y (ix2 (rowIx (p1 (ix1 (x 0)))) (x 1)))

/-! ## A chunk's buffers -/

section Chunk

variable (L : grid2.Coords) (j : Fin 4)

/-- The first token of a chunk. -/
def tok0 : ℕ := 128 * (L 1).val + 64 * (L 0).val + 16 * j.val

theorem L0_lt : (L 0).val < 2 := (L 0).isLt
theorem L1_lt : (L 1).val < 16 := (L 1).isLt

theorem tok0_le : tok0 L j + 16 ≤ 2048 := by
  have h0 := L0_lt L; have h1 := L1_lt L; have hj := j.isLt
  unfold tok0; omega

/-- Token `x` of a chunk. -/
def tok (x : Fin 16) : Fin 2048 := ⟨tok0 L j + x.val, by have h := tok0_le L j; omega⟩

/-- Word `x` of the index buffer once both fetches are in: the first sixteen are the chunk's first positions, the others its second. -/
def idxOf (p0 p1 : S2048.Idx → BitVec 32) (x : Fin 32) : BitVec 32 :=
  if h : x.val < 16 then p0 (ix1 (tok L j ⟨x.val, h⟩)) else p1 (ix1 (tok L j ⟨x.val - 16, by omega⟩))

/-- The gathered rows. -/
def rcOf (Y : S5120x1024.Idx → Elt F .f32) (p0 p1 : S2048.Idx → BitVec 32) : S32x1024.Idx → Elt F .f32 := fun x =>
  Y (ix2 (rowIx (idxOf L j p0 p1 (x 0))) (x 1))

/-- Their sums. -/
def ovOf (Y : S5120x1024.Idx → Elt F .f32) (p0 p1 : S2048.Idx → BitVec 32) : S16x1024.Idx → Elt F .f32 := fun x =>
  FloatOps.addf (φ := .f32) (rcOf L j Y p0 p1 (ix2 (lo (x 0)) (x 1))) (rcOf L j Y p0 p1 (ix2 (hi (x 0)) (x 1)))

theorem ovOf_eq (Y : S5120x1024.Idx → Elt F .f32) (p0 p1 : S2048.Idx → BitVec 32) (x : S16x1024.Idx) :
    ovOf L j Y p0 p1 x = comb Y p0 p1 (ix2 (tok L j (x 0)) (x 1)) := by
  have e0 : idxOf L j p0 p1 (lo (x 0)) = p0 (ix1 (tok L j (x 0))) := by
    unfold idxOf; rw [dif_pos (show (lo (x 0)).val < 16 from (x 0).isLt)]; rfl
  have e1 : idxOf L j p0 p1 (hi (x 0)) = p1 (ix1 (tok L j (x 0))) := by
    unfold idxOf; rw [dif_neg (show ¬(hi (x 0)).val < 16 by show ¬16 + (x 0).val < 16; omega)]
    congr 2; apply congrArg; exact Fin.ext (by show 16 + (x 0).val - 16 = (x 0).val; omega)
  show FloatOps.addf (Y (ix2 (rowIx (idxOf L j p0 p1 (lo (x 0)))) (x 1))) (Y (ix2 (rowIx (idxOf L j p0 p1 (hi (x 0)))) (x 1))) = _
  rw [e0, e1]; rfl

theorem idxOf_lt {p0 p1 : S2048.Idx → BitVec 32} (h0 : ∀ t, (p0 t).toNat < 5120) (h1 : ∀ t, (p1 t).toNat < 5120) (x : Fin 32) :
    (idxOf L j p0 p1 x).toNat < 5120 := by
  unfold idxOf; split <;> apply_assumption

end Chunk

/-- The addition of sixteen lanes, lane by lane. -/
theorem pay_eq (a b : Vec F S1x16 .f32) : k2_pay1 a b = addf a b := by
  funext x
  show FloatOps.addf (a _) (b _) = FloatOps.addf (a x) (b x)
  rw [Shape.reshapeEquiv_reshapeEquiv, Shape.reshapeEquiv_self]

/-! ## The elements of the result -/

def coreSet (c : ℕ) : Finset S2048x1024.Idx := Finset.univ.filter fun x => ((x 0).val / 64) % 2 = c
def tileSet (c s : ℕ) : Finset S2048x1024.Idx := Finset.univ.filter fun x => (x 0).val / 64 = 2 * s + c
def chunkSet (c s j : ℕ) : Finset S2048x1024.Idx := Finset.univ.filter fun x => (x 0).val / 16 = 4 * (2 * s + c) + j

theorem core_disjoint : ∀ c ∈ (Finset.univ : Finset (Fin 2)), ∀ c' ∈ (Finset.univ : Finset (Fin 2)), c ≠ c' → Disjoint (coreSet c.val) (coreSet c'.val) :=
  fun c _ c' _ h => Finset.disjoint_left.mpr fun x hx hx' => h (Fin.ext (((Finset.mem_filter.mp hx).2).symm.trans (Finset.mem_filter.mp hx').2))
theorem core_cover : (Finset.univ : Finset (Fin 2)).biUnion (fun c => coreSet c.val) = Finset.univ := by
  ext x; simp only [Finset.mem_biUnion, Finset.mem_univ, true_and, iff_true, coreSet, Finset.mem_filter]
  exact ⟨⟨((x 0).val / 64) % 2, Nat.mod_lt _ (by decide)⟩, rfl⟩
theorem tile_disjoint (c : ℕ) : ∀ s ∈ (Finset.univ : Finset (Fin 16)), ∀ s' ∈ (Finset.univ : Finset (Fin 16)), s ≠ s' → Disjoint (tileSet c s.val) (tileSet c s'.val) :=
  fun s _ s' _ h => Finset.disjoint_left.mpr fun x hx hx' => h (Fin.ext (by
    have h1 := (Finset.mem_filter.mp hx).2; have h2 := (Finset.mem_filter.mp hx').2; omega))
theorem tile_cover (c : ℕ) (hc : c < 2) : (Finset.univ : Finset (Fin 16)).biUnion (fun s => tileSet c s.val) = coreSet c := by
  ext x; simp only [Finset.mem_biUnion, Finset.mem_univ, true_and, coreSet, tileSet, Finset.mem_filter]
  have hx : (x 0).val < 2048 := (x 0).isLt
  constructor
  · rintro ⟨s, h⟩; omega
  · intro h; exact ⟨⟨(x 0).val / 128, by omega⟩, by show (x 0).val / 64 = 2 * ((x 0).val / 128) + c; omega⟩
theorem chunk_disjoint (c s : ℕ) : ∀ j ∈ (Finset.univ : Finset (Fin 4)), ∀ j' ∈ (Finset.univ : Finset (Fin 4)), j ≠ j' → Disjoint (chunkSet c s j.val) (chunkSet c s j'.val) :=
  fun j _ j' _ h => Finset.disjoint_left.mpr fun x hx hx' => h (Fin.ext (by
    have h1 := (Finset.mem_filter.mp hx).2; have h2 := (Finset.mem_filter.mp hx').2; omega))
theorem chunk_cover (c s : ℕ) : (Finset.univ : Finset (Fin 4)).biUnion (fun j => chunkSet c s j.val) = tileSet c s := by
  ext x; simp only [Finset.mem_biUnion, Finset.mem_univ, true_and, chunkSet, tileSet, Finset.mem_filter]
  constructor
  · rintro ⟨j, h⟩; have := j.isLt; omega
  · intro h; exact ⟨⟨(x 0).val / 16 % 4, Nat.mod_lt _ (by decide)⟩, by show (x 0).val / 16 = 4 * (2 * s + c) + (x 0).val / 16 % 4; omega⟩

end Cert.Proof.Comb

end
-- ==== Proof.Comb.Tile.lean ====
/-
  The tile program's pieces, each with what it leaves: the fetches, a gather of 128 columns, a row's additions, the
  write-out; and from them a chunk and the whole tile.
-/
module

public import proofs.«01_k».proof.Proof.Comb.Values
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.Proof.Comb

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The resource algebra: the handshakes' rounds library, the pipeline's, the transfers' counters -/

abbrev UH : Type := URounds (GSem nD τ sig) ℕ
abbrev UP : Type := URounds (GSem nD τ sig) Unit
abbrev UU : Type := UH × (UP × Counters)

local notation "𝕄" => MT nD τ sig (HIx 2) (Elt F) ℕ UU ℕ

abbrev 𝒱₀ : Variants := Variants.none

local notation "yV" => (Memref.whole Cert.KernelIdeal.main_v4_scv : Memref Cert.KernelIdeal.sig Kind.scVector Space.hbm Cert.KernelIdeal.S5120x1024 EltTy.f32)
local notation "aV" => (Memref.whole Cert.KernelIdeal.main_arg1_scv : Memref Cert.KernelIdeal.sig Kind.scVector Space.hbm Cert.KernelIdeal.S2048 EltTy.i32)
local notation "bV" => (Memref.whole Cert.KernelIdeal.main_arg2_scv : Memref Cert.KernelIdeal.sig Kind.scVector Space.hbm Cert.KernelIdeal.S2048 EltTy.i32)
local notation "oV" => (Memref.whole Cert.KernelIdeal.main_v5_scv : Memref Cert.KernelIdeal.sig Kind.scVector Space.hbm Cert.KernelIdeal.S2048x1024 EltTy.f32)
local notation "rV" => (Memref.whole Cert.KernelIdeal.cc2_scratch0 : Memref Cert.KernelIdeal.sig Kind.scVector Space.vmem Cert.KernelIdeal.S32x1024 EltTy.f32)
local notation "iV" => (Memref.whole Cert.KernelIdeal.cc2_scratch1 : Memref Cert.KernelIdeal.sig Kind.scVector Space.vmem Cert.KernelIdeal.S32 EltTy.i32)
local notation "vV" => (Memref.whole Cert.KernelIdeal.cc2_scratch2 : Memref Cert.KernelIdeal.sig Kind.scVector Space.vmem Cert.KernelIdeal.S16x1024 EltTy.f32)

abbrev cV (L : grid2.Coords) : Fin τ.nSC := (L 0).castLE hcore2
abbrev jV (L : grid2.Coords) : Fin τ.nSub := (L 1).castLE hsub2
/-- The tile's thread. -/
abbrev thr (d : Dev nD) (L : grid2.Coords) : Thread nD τ := V d (cV L) (jV L)

/-! ## A list of programs, by an invariant -/

theorem wp_seqL {E : Type → Type} {M : Type} [RA.URA M] {Mask : Sort*} (Fr : Mask → sProp M) (wpE : Mask → ∀ ⦃β : Type⦄, E β → sWPT M β) (Es : Mask)
    {n : ℕ} (f : Fin n → Prog E PUnit.{1}) (I : ℕ → sProp M) (h : ∀ k : Fin n, I k.val ⊢ wp Fr wpE Es (f k) (fun _ => I (k.val + 1))) :
    I 0 ⊢ wp Fr wpE Es (seqL f (List.finRange n)) (fun _ => I n) := by
  have key : ∀ (m k : ℕ), k + m = n → I k ⊢ wp Fr wpE Es (seqL f ((List.finRange n).drop k)) (fun _ => I n) := by
    intro m
    induction m with
    | zero =>
      intro k hk
      obtain rfl : k = n := by omega
      rw [List.drop_of_length_le (by simp), seqL_nil]
      show _ ⊢ wp _ _ _ (.ret _) _
      rw [wp_ret]
      iintro H; imodintro; iexact H
    | succ m ih =>
      intro k hk
      have hk' : k < n := by omega
      rw [List.drop_eq_getElem_cons (by simpa using hk'), seqL_cons, wp_bind]
      have e : (List.finRange n)[k]'(by simpa using hk') = ⟨k, hk'⟩ := by simp
      rw [e]
      exact (h ⟨k, hk'⟩).trans (wp_mono Fr _ _ fun _ => ih (k + 1) (by omega))
  exact key n 0 (by omega)

section Pieces

variable (d : Dev nD) (L : grid2.Coords) (j : Fin 4) (O : CellTallies nD τ sig (HIx 2)) (W : Waits sig (HIx 2))

/-- The tile's debt, at the waits recorded so far. -/
def owing : sProp 𝕄 := iprop(∃ W', ⌜∀ p ∈ W', p ∈ W ∨ p.2 = none⌝ ∗ owes (thr d L) O W')

/-- What the two fetches leave in the index buffer, word by word. -/
theorem idx_value (p0 : Buf (Elt F) ((aV).view.loc (thr d L))) (p1 : Buf (Elt F) ((bV).view.loc (thr d L)))
    (f : Buf (Elt F) ((iV).view.loc (thr d L))) (x : S32.Idx) :
    (iV).view.writes (Elt F) f [⟨halfRect 1, (tokW L j bV).view.read (Elt F) p1⟩, ⟨halfRect 0, (tokW L j aV).view.read (Elt F) p0⟩] x
      = idxOf L j p0 p1 (x 0) := by
  have hx : (x 0).val < 32 := (x 0).isLt
  have tokEq : ∀ y : S16.Idx, (tokRect L j).emb y = ix1 (tok L j (y 0)) := fun y => by
    refine (tokRect L j).emb_eq_of_coords y _ fun a => ?_
    match a with
    | 0 =>
      show tok0 L j + (y 0).val = k2_off1 L (BitVec.ofNat 32 (16 * j.val)) 0 + 1 * (y 0).val
      rw [k2_off1_eq]; show tok0 L j + (y 0).val = tok0 L j + 1 * (y 0).val; omega
  by_cases h : (x 0).val < 16
  · have e := View.read_writes_cons_miss_of_axis (iV).view f (⟨halfRect 1, (tokW L j bV).view.read (Elt F) p1⟩ : View.Piece (Elt F) S32 .i32)
      [⟨halfRect 0, (tokW L j aV).view.read (Elt F) p0⟩] x 0 16 16 rfl rfl rfl (.inl h)
    have e' := View.read_writes_cons_hit_of_coords (iV).view f (halfRect 0) ((tokW L j aV).view.read (Elt F) p0) [] (ix1 ⟨(x 0).val, h⟩) x
      (fun a => match a with | 0 => by show (x 0).val = 0 + 1 * (x 0).val; omega)
    refine e.trans (e'.trans ?_)
    show p0 ((tokRect L j).emb (ix1 ⟨(x 0).val, h⟩)) = _
    rw [tokEq]; unfold idxOf; rw [dif_pos h]; rfl
  · have e' := View.read_writes_cons_hit_of_coords (iV).view f (halfRect 1) ((tokW L j bV).view.read (Elt F) p1)
      [⟨halfRect 0, (tokW L j aV).view.read (Elt F) p0⟩] (ix1 ⟨(x 0).val - 16, by omega⟩) x
      (fun a => match a with | 0 => by show (x 0).val = 16 + 1 * ((x 0).val - 16); omega)
    refine e'.trans ?_
    show p1 ((tokRect L j).emb (ix1 ⟨(x 0).val - 16, by omega⟩)) = _
    rw [tokEq]; unfold idxOf; rw [dif_neg h]; rfl

/-- The two index fetches of a chunk: the index buffer ends at the chunk's words. -/
theorem fetch_spec (qa qb : PosShare TreeShare) (p0 : Buf (Elt F) ((aV).view.loc (thr d L))) (p1 : Buf (Elt F) ((bV).view.loc (thr d L)))
    (f : Buf (Elt F) ((iV).view.loc (thr d L))) (s s' : DmaSems sig S_) :
    iprop(Transfers.MayWaits (thr d L) (default : HIx 2) O ∗ ((aV).view.loc (thr d L) ↦{qa} p0) ∗ ((bV).view.loc (thr d L) ↦{qb} p1)
        ∗ ((iV).view.loc (thr d L) ↦{fullShare} f)
        ∗ semVal (thr d L, SemLoc.dma s.sem) 0 ∗ semVal (thr d L, SemLoc.dma s'.sem) 0 ∗ owing (F := F) d L O W)
      ⊢ wp frame (wpE (defs₀ (F := F)) 𝒱₀ (thr d L) none) Set.univ (fetch (F := F) L j 0 aV iV s >>= fun _ => fetch (F := F) L j 1 bV iV s')
          fun _ => iprop(((aV).view.loc (thr d L) ↦{qa} p0) ∗ ((bV).view.loc (thr d L) ↦{qb} p1)
            ∗ (∃ f : Buf (Elt F) ((iV).view.loc (thr d L)), ⌜∀ x : S32.Idx, f x = idxOf L j p0 p1 (x 0)⌝ ∗ (iV).view.loc (thr d L) ↦{fullShare} f)
            ∗ semVal (thr d L, SemLoc.dma s.sem) 0 ∗ semVal (thr d L, SemLoc.dma s'.sem) 0 ∗ owing (F := F) d L O W) := by
  unfold fetch owing
  iintro ⟨#Hmw, Ha, Hb, Hi, Hs, Hs', %W', %hW', HO⟩
  sl_exec (disch := exact View.amount_pos _ _ (show 0 < S16.numel by decide))
  sl_step
  isplitl [Ha]; · iexact Ha
  isplitl [Hb]; · iexact Hb
  isplitl [Hi]
  · iexists _; isplitr
    swap; · iexact Hi
    ipureintro; exact idx_value d L j p0 p1 f
  isplitl [Hs]; · iexact Hs
  isplitl [Hs']; · iexact Hs'
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW' p hp

theorem rowMajor32 (x : Fin 32) : (S32.rowMajor.symm (Fin.cast (rfl : (32 : ℕ) = S32.numel) x)) 0 = x := Fin.ext (by
  have h := Shape.rowMajor_val_one (d := ![32]) (S32.rowMajor.symm (Fin.cast (rfl : (32 : ℕ) = S32.numel) x))
  have e : (S32.rowMajor (S32.rowMajor.symm (Fin.cast (rfl : (32 : ℕ) = S32.numel) x))).val = x.val := by rw [Equiv.apply_symm_apply]; rfl
  exact h.symm.trans e)

/-- What a gather of columns `128 q …` leaves in the row buffer: those columns of the named rows, the others as they were. -/
theorem rows_value (q : Fin 8) (Y : Buf (Elt F) ((yV).view.loc (thr d L))) (p0 : S2048.Idx → BitVec 32) (p1 : S2048.Idx → BitVec 32)
    (h0 : ∀ t, (p0 t).toNat < 5120) (h1 : ∀ t, (p1 t).toNat < 5120)
    (fi : Buf (Elt F) ((iV).view.loc (thr d L))) (hfi : ∀ x : S32.Idx, fi x = idxOf L j p0 p1 (x 0))
    (g : Buf (Elt F) ((rV).view.loc (thr d L))) (hg : ∀ x : S32x1024.Idx, (x 1).val < 128 * q.val → g x = rcOf L j Y p0 p1 x)
    (hin : ∀ x, ((iV).view.read (Elt F) fi x).toNat < S5120x128.size gathers_S5120x128_S32x128.axis)
    (x : S32x1024.Idx) (hx : (x 1).val < 128 * (q.val + 1)) :
    (rV).view.writes (Elt F) g [⟨colRectS q, SparseCore.gatherPayload gathers_S5120x128_S32x128 ((colWY q yV).view.read (Elt F) Y)
      (SparseCore.rows ((iV).view.read (Elt F) fi) rfl hin)⟩] x = rcOf L j Y p0 p1 x := by
  by_cases h : (x 1).val < 128 * q.val
  · have e := View.read_writes_cons_miss_of_axis (rV).view g (⟨colRectS q, SparseCore.gatherPayload gathers_S5120x128_S32x128 ((colWY q yV).view.read (Elt F) Y)
      (SparseCore.rows ((iV).view.read (Elt F) fi) rfl hin)⟩ : View.Piece (Elt F) S32x1024 .f32) [] x 1 (128 * q.val) 128 rfl rfl rfl (.inl h)
    exact e.trans (hg x h)
  · have e := View.read_writes_cons_hit_of_coords (rV).view g (colRectS q) (SparseCore.gatherPayload gathers_S5120x128_S32x128 ((colWY q yV).view.read (Elt F) Y)
      (SparseCore.rows ((iV).view.read (Elt F) fi) rfl hin)) [] (ix2 (x 0) ⟨(x 1).val - 128 * q.val, by omega⟩) x
      (fun a => match a with
        | 0 => by show (x 0).val = 0 + 1 * (x 0).val; omega
        | 1 => by show (x 1).val = 128 * q.val + 1 * ((x 1).val - 128 * q.val); omega)
    refine e.trans ?_
    show Y ((colRectY q).emb (gathers_S5120x128_S32x128.idx (SparseCore.rows ((iV).view.read (Elt F) fi) rfl hin) (ix2 (x 0) ⟨(x 1).val - 128 * q.val, by omega⟩))) = rcOf L j Y p0 p1 x
    unfold rcOf
    refine congrArg Y ((colRectY q).emb_eq_of_coords _ _ fun a => ?_)
    match a with
    | 0 =>
      have hi := idxOf_lt L j h0 h1 (x 0)
      show (rowIx (idxOf L j p0 p1 (x 0))).val = 0 + 1 * (gathers_S5120x128_S32x128.idx _ _ gathers_S5120x128_S32x128.axis).val
      rw [Shape.Gathers.idx_axis, rowIx_val hi]
      have key : (fi (S32.rowMajor.symm (Fin.cast (rfl : (32 : ℕ) = S32.numel) (x 0)))).toNat = (idxOf L j p0 p1 (x 0)).toNat := by
        rw [hfi]; exact congrArg (fun w => (idxOf L j p0 p1 w).toNat) (rowMajor32 (x 0))
      show _ = 0 + 1 * (fi (S32.rowMajor.symm (Fin.cast (rfl : (32 : ℕ) = S32.numel) (x 0)))).toNat
      omega
    | 1 =>
      show (x 1).val = 128 * q.val + 1 * (gathers_S5120x128_S32x128.idx _ _ 1).val
      rw [Shape.Gathers.idx_of_ne _ _ _ _ (by decide)]
      show (x 1).val = 128 * q.val + 1 * ((x 1).val - 128 * q.val); omega

/-- One gather of 128 columns. -/
theorem gather_spec (q : Fin 8) (qy : PosShare TreeShare) (Y : Buf (Elt F) ((yV).view.loc (thr d L))) (p0 p1 : S2048.Idx → BitVec 32)
    (h0 : ∀ t, (p0 t).toNat < 5120) (h1 : ∀ t, (p1 t).toNat < 5120)
    (fi : Buf (Elt F) ((iV).view.loc (thr d L))) (hfi : ∀ x : S32.Idx, fi x = idxOf L j p0 p1 (x 0))
    (g : Buf (Elt F) ((rV).view.loc (thr d L))) (hg : ∀ x : S32x1024.Idx, (x 1).val < 128 * q.val → g x = rcOf L j Y p0 p1 x) (s : DmaSems sig S_) :
    iprop(Transfers.MayWaits (thr d L) (default : HIx 2) O ∗ ((yV).view.loc (thr d L) ↦{qy} Y)
        ∗ ((iV).view.loc (thr d L) ↦{fullShare} fi) ∗ ((rV).view.loc (thr d L) ↦{fullShare} g)
        ∗ semVal (thr d L, SemLoc.dma s.sem) 0 ∗ owing (F := F) d L O W)
      ⊢ wp frame (wpE (defs₀ (F := F)) 𝒱₀ (thr d L) none) Set.univ (gatherCol (F := F) L q yV rV iV s)
          fun _ => iprop(((yV).view.loc (thr d L) ↦{qy} Y)
            ∗ ((iV).view.loc (thr d L) ↦{fullShare} fi)
            ∗ (∃ g : Buf (Elt F) ((rV).view.loc (thr d L)), ⌜∀ x : S32x1024.Idx, (x 1).val < 128 * (q.val + 1) → g x = rcOf L j Y p0 p1 x⌝ ∗ (rV).view.loc (thr d L) ↦{fullShare} g)
            ∗ semVal (thr d L, SemLoc.dma s.sem) 0 ∗ owing (F := F) d L O W) := by
  have hin : ∀ x, ((iV).view.read (Elt F) fi x).toNat < S5120x128.size gathers_S5120x128_S32x128.axis := fun x => by
    show (fi x).toNat < 5120
    rw [hfi]; exact idxOf_lt L j h0 h1 _
  unfold gatherCol owing
  iintro ⟨#Hmw, Hy, Hi, Hr, Hs, %W', %hW', HO⟩
  sl_exec
  sl_step
  isplitl [Hy]; · iexact Hy
  isplitl [Hi]; · iexact Hi
  isplitl [Hr]
  · iexists _; isplitr
    swap; · iexact Hr
    ipureintro; exact rows_value d L j q Y p0 p1 h0 h1 fi hfi g hg hin
  isplitl [Hs]; · iexact Hs
  iexists _; isplitr
  swap; · iexact HO
  ipureintro; intro p hp
  rcases Finset.mem_insert.mp hp with hp | hp; · exact .inr (hp ▸ rfl)
  exact hW' p hp

/-- The sum of rows `r` and `16 + r` of the row buffer's contents. -/
def sums (g : S32x1024.Idx → Elt F .f32) : S16x1024.Idx → Elt F .f32 := fun x =>
  FloatOps.addf (φ := .f32) (g (ix2 (lo (x 0)) (x 1))) (g (ix2 (hi (x 0)) (x 1)))

abbrev rowRectS (r : Fin 32) (k : Fin k2_t1_loop.trips) : Rect S32x1024 := Rect.unit (s := S32x1024) (rowOff r.val k) S1x16.size (rowInbS r k)
abbrev rowRectO (r : Fin 16) (k : Fin k2_t1_loop.trips) : Rect S16x1024 := Rect.unit (s := S16x1024) (rowOff r.val k) S1x16.size (rowInbO r k)

/-- What a trip leaves in the result buffer. -/
theorem trip_value (r : Fin 16) (k : Fin k2_t1_loop.trips)
    (g : Buf (Elt F) ((rV).view.loc (thr d L))) (f : Buf (Elt F) ((vV).view.loc (thr d L)))
    (hf : ∀ x : S16x1024.Idx, (x 0).val < r.val ∨ (x 0).val = r.val ∧ (x 1).val < 16 * k.val → f x = sums g x)
    (x : S16x1024.Idx) (hx : (x 0).val < r.val ∨ (x 0).val = r.val ∧ (x 1).val < 16 * (k.val + 1)) :
    (vV).view.writes (Elt F) f [⟨rowRectO r k, k2_pay1 (F := F) ((rV).view.readAt (Elt F) (rowRectS (lo r) k).toLoadRect g)
      ((rV).view.readAt (Elt F) (rowRectS (hi r) k).toLoadRect g)⟩] x = sums g x := by
  have ho := rowOff_one r.val k
  by_cases h : (x 0).val < r.val ∨ (x 0).val = r.val ∧ (x 1).val < 16 * k.val
  · refine Eq.trans ?_ (hf x h)
    rcases h with h | h
    · exact View.read_writes_cons_miss_of_axis (vV).view f (⟨rowRectO r k, k2_pay1 (F := F) ((rV).view.readAt (Elt F) (rowRectS (lo r) k).toLoadRect g)
        ((rV).view.readAt (Elt F) (rowRectS (hi r) k).toLoadRect g)⟩ : View.Piece (Elt F) S16x1024 .f32) [] x 0 r.val 1 rfl rfl rfl (.inl h)
    · exact View.read_writes_cons_miss_of_axis (vV).view f (⟨rowRectO r k, k2_pay1 (F := F) ((rV).view.readAt (Elt F) (rowRectS (lo r) k).toLoadRect g)
        ((rV).view.readAt (Elt F) (rowRectS (hi r) k).toLoadRect g)⟩ : View.Piece (Elt F) S16x1024 .f32) [] x 1 (16 * k.val) 16 ho rfl rfl (.inl h.2)
  · have hr : (x 0).val = r.val := by omega
    have hk : 16 * k.val ≤ (x 1).val ∧ (x 1).val < 16 * k.val + 16 := by omega
    have e := View.read_writes_cons_hit_of_coords (vV).view f (rowRectO r k) (k2_pay1 (F := F) ((rV).view.readAt (Elt F) (rowRectS (lo r) k).toLoadRect g)
      ((rV).view.readAt (Elt F) (rowRectS (hi r) k).toLoadRect g)) [] (ix2 (0 : Fin 1) ⟨(x 1).val - 16 * k.val, by omega⟩) x
      (fun a => match a with
        | 0 => by show (x 0).val = r.val + 1 * 0; omega
        | 1 => by show (x 1).val = rowOff r.val k 1 + 1 * ((x 1).val - 16 * k.val); rw [ho]; omega)
    refine e.trans ?_
    rw [pay_eq]
    show FloatOps.addf (g ((rowRectS (lo r) k).emb _)) (g ((rowRectS (hi r) k).emb _)) = FloatOps.addf (g _) (g _)
    congr 2
    · refine (rowRectS (lo r) k).emb_eq_of_coords _ _ fun a => ?_
      match a with
      | 0 => show (x 0).val = r.val + 1 * 0; omega
      | 1 => show (x 1).val = rowOff r.val k 1 + 1 * ((x 1).val - 16 * k.val); rw [ho]; omega
    · refine (rowRectS (hi r) k).emb_eq_of_coords _ _ fun a => ?_
      match a with
      | 0 => show 16 + (x 0).val = 16 + r.val + 1 * 0; omega
      | 1 => show (x 1).val = rowOff r.val k 1 + 1 * ((x 1).val - 16 * k.val); rw [ho]; omega

/-- The row loop's invariant: the columns done of row `r`, and the rows before it, hold their sums. -/
def rowInv (g : Buf (Elt F) ((rV).view.loc (thr d L))) (r k : ℕ) : sProp 𝕄 :=
  iprop(((rV).view.loc (thr d L) ↦{fullShare} g)
    ∗ ∃ f : Buf (Elt F) ((vV).view.loc (thr d L)), ⌜∀ x : S16x1024.Idx, (x 0).val < r ∨ (x 0).val = r ∧ (x 1).val < 16 * k → f x = sums g x⌝
        ∗ (vV).view.loc (thr d L) ↦{fullShare} f)

/-- One trip of a row's loop. -/
theorem trip_spec (r : Fin 16) (k : Fin k2_t1_loop.trips) (acc : BitVec 32) (g : Buf (Elt F) ((rV).view.loc (thr d L))) :
    rowInv d L g r.val k.val
      ⊢ wp frame (wpE (defs₀ (F := F)) 𝒱₀ (thr d L) none) Set.univ (rowTrip (F := F) L r rV vV k acc) fun _ => rowInv d L g r.val (k.val + 1) := by
  unfold rowTrip rowInv
  iintro ⟨Hr, %f, %hf, Hv⟩
  sl_exec
  sl_step
  isplitl [Hr]; · iexact Hr
  iexists _; isplitr
  swap; · iexact Hv
  ipureintro; exact trip_value d L r k g f hf

/-- A row's loop. -/
theorem row_spec (r : Fin 16) (g : Buf (Elt F) ((rV).view.loc (thr d L))) :
    rowInv d L g r.val 0
      ⊢ wp frame (wpE (defs₀ (F := F)) 𝒱₀ (thr d L) none) Set.univ (rowLoop (F := F) L rV vV r) fun _ => rowInv d L g (r.val + 1) 0 := by
  unfold rowLoop
  iintro H
  iapply (Scf.wp_for_bind (I := fun k _ => rowInv d L g r.val k) (hbody := fun k acc => trip_spec d L r k acc g)) $$ H
  iintro %_ H
  sl_step
  unfold rowInv
  icases H with ⟨Hr, %f, %hf, Hv⟩
  isplitl [Hr]; · iexact Hr
  iexists f; isplitr
  swap; · iexact Hv
  ipureintro; intro x hx
  refine hf x ?_
  have h64 : Scf.trips k2_t1_loop.lb k2_t1_loop.ub k2_t1_loop.st = 64 := trips_eq
  have h1 : (x 1).val < 1024 := (x 1).isLt
  rw [h64]; omega

theorem outW_set : (outW L j oV).view.set = chunkSet (L 0).val (L 1).val j.val := by
  show ((View.whole (main_v5_scv : Ref sig .scVector)).slice (outRect L j)).set = _
  rw [View.set_slice]
  refine Eq.trans Finset.map_refl ?_
  ext x
  rw [Rect.mem_set_unit, k2_off50_eq]
  have hx : (x 1).val < 1024 := (x 1).isLt
  have h0 := L0_lt L; have h1 := L1_lt L; have hj := j.isLt
  unfold chunkSet; rw [Finset.mem_filter]
  constructor
  · intro h
    have e : 128 * (L 1).val + 64 * (L 0).val + 16 * j.val ≤ (x 0).val ∧ (x 0).val < 128 * (L 1).val + 64 * (L 0).val + 16 * j.val + 16 := h 0
    exact ⟨Finset.mem_univ _, by omega⟩
  · rintro ⟨-, h⟩ a
    match a with
    | 0 => show 128 * (L 1).val + 64 * (L 0).val + 16 * j.val ≤ (x 0).val ∧ (x 0).val < 128 * (L 1).val + 64 * (L 0).val + 16 * j.val + 16; omega
    | 1 => show 0 ≤ (x 1).val ∧ (x 1).val < 0 + 1024; omega

/-- What the write-out leaves in the chunk's rows of the result. -/
theorem out_value (f : Buf (Elt F) ((vV).view.loc (thr d L))) (g : Buf (Elt F) ((oV).view.loc (thr d L)))
    (Xo : S2048x1024.Idx → Elt F .f32) (hX : ∀ x : S16x1024.Idx, f x = Xo (ix2 (tok L j (x 0)) (x 1))) :
    ∀ i ∈ (outW L j oV).view.set, (outW L j oV).view.writes (Elt F) g [⟨Rect.whole S16x1024, (vV).view.read (Elt F) f⟩] i = Xo i := by
  intro i hi
  obtain ⟨y, -, rfl⟩ := Finset.mem_map.mp hi
  have e : (outW L j oV).view.read (Elt F) ((outW L j oV).view.writes (Elt F) g [⟨Rect.whole S16x1024, (vV).view.read (Elt F) f⟩]) y = f y :=
    View.read_writes_cons_hit_of_coords (outW L j oV).view g (Rect.whole S16x1024) ((vV).view.read (Elt F) f) [] y y
      (fun a => by show (y a).val = 0 + 1 * (y a).val; omega)
  have emb : (outRect L j).emb y = ix2 (tok L j (y 0)) (y 1) := by
    refine (outRect L j).emb_eq_of_coords y _ fun a => ?_
    match a with
    | 0 =>
      show tok0 L j + (y 0).val = k2_off50 L (BitVec.ofNat 32 (16 * j.val)) 0 + 1 * (y 0).val
      rw [k2_off50_eq]; show tok0 L j + (y 0).val = tok0 L j + 1 * (y 0).val; omega
    | 1 =>
      show (y 1).val = k2_off50 L (BitVec.ofNat 32 (16 * j.val)) 1 + 1 * (y 1).val
      rw [k2_off50_eq]; show (y 1).val = 0 + 1 * (y 1).val; omega
  replace e := e.trans ((hX y).trans (congrArg Xo emb.symm))
  generalize (outW L j oV).view.writes (Elt F) g [⟨Rect.whole S16x1024, (vV).view.read (Elt F) f⟩] = w at e ⊢
  exact e

/-- The write out. -/
theorem out_spec (f : Buf (Elt F) ((vV).view.loc (thr d L))) (g : Buf (Elt F) ((oV).view.loc (thr d L))) (s : DmaSems sig S_)
    (Xo : S2048x1024.Idx → Elt F .f32) (hX : ∀ x : S16x1024.Idx, f x = Xo (ix2 (tok L j (x 0)) (x 1))) :
    iprop(Transfers.MayWaits (thr d L) (default : HIx 2) O ∗ ((vV).view.loc (thr d L) ↦{fullShare} f)
        ∗ ((oV).view.loc (thr d L) ↦[chunkSet (L 0).val (L 1).val j.val]{fullShare} g)
        ∗ semVal (thr d L, SemLoc.dma s.sem) 0 ∗ owing (F := F) d L O W)
      ⊢ wp frame (wpE (defs₀ (F := F)) 𝒱₀ (thr d L) none) Set.univ (writeOut (F := F) L j vV (Memref.isWhole_whole _) oV s)
          fun _ => iprop(((vV).view.loc (thr d L) ↦{fullShare} f)
            ∗ ((oV).view.loc (thr d L) ↦[chunkSet (L 0).val (L 1).val j.val]{fullShare} Xo)
            ∗ semVal (thr d L, SemLoc.dma s.sem) 0 ∗ owing (F := F) d L O W) := by
  unfold writeOut owing
  rw [← outW_set]
  iintro ⟨#Hmw, Hv, Ho, Hs, %W', %hW', HO⟩
  ihave Ho' := (Entails.of_eq (show ((oV).view.loc (thr d L) ↦[(outW L j oV).view.set]{fullShare} g : sProp 𝕄)
      = (outW L j oV).view.loc (thr d L) ↦[(outW L j oV).view.set]{fullShare} g from rfl)) $$ Ho
  sl_exec (disch := exact View.amount_pos _ _ (show 0 < S16x1024.numel by decide))
  sl_step
  isplitl [Hv]; · iexact Hv
  isplitl [Ho']
  · iapply (Entails.of_eq (pointsTo_congr (out_value d L j f g Xo hX))) $$ Ho'
  isplitl [Hs]; · iexact Hs
  iexists _; isplitr
  swap; · iexact HO
  ipureintro; intro p hp
  rcases Finset.mem_insert.mp hp with hp | hp; · exact .inr (hp ▸ rfl)
  exact hW' p hp

/-! ## A chunk -/

variable (qy qa qb : PosShare TreeShare) (Y : Buf (Elt F) ((yV).view.loc (thr d L))) (p0 : Buf (Elt F) ((aV).view.loc (thr d L))) (p1 : Buf (Elt F) ((bV).view.loc (thr d L)))

/-- What a chunk works with besides its semaphores and its rows of the result: the operands' shares, the three scratch
    buffers at whatever they hold, the gathers' semaphore at zero, the debt. -/
def work (sg : DmaSems sig S_) : sProp 𝕄 :=
  iprop(((yV).view.loc (thr d L) ↦{qy} Y) ∗ ((aV).view.loc (thr d L) ↦{qa} p0) ∗ ((bV).view.loc (thr d L) ↦{qb} p1)
    ∗ (∃ f : Buf (Elt F) ((rV).view.loc (thr d L)), (rV).view.loc (thr d L) ↦{fullShare} f)
    ∗ (∃ f : Buf (Elt F) ((iV).view.loc (thr d L)), (iV).view.loc (thr d L) ↦{fullShare} f)
    ∗ (∃ f : Buf (Elt F) ((vV).view.loc (thr d L)), (vV).view.loc (thr d L) ↦{fullShare} f)
    ∗ semVal (thr d L, SemLoc.dma sg.sem) 0 ∗ owing (F := F) d L O W)

/-- The eight gathers: the row buffer ends at the named rows. -/
theorem gathers_spec (h0 : ∀ t, (p0 t).toNat < 5120) (h1 : ∀ t, (p1 t).toNat < 5120)
    (fi : Buf (Elt F) ((iV).view.loc (thr d L))) (hfi : ∀ x : S32.Idx, fi x = idxOf L j p0 p1 (x 0))
    (g : Buf (Elt F) ((rV).view.loc (thr d L))) (s : DmaSems sig S_) :
    iprop(Transfers.MayWaits (thr d L) (default : HIx 2) O ∗ ((yV).view.loc (thr d L) ↦{qy} Y)
        ∗ ((iV).view.loc (thr d L) ↦{fullShare} fi) ∗ ((rV).view.loc (thr d L) ↦{fullShare} g)
        ∗ semVal (thr d L, SemLoc.dma s.sem) 0 ∗ owing (F := F) d L O W)
      ⊢ wp frame (wpE (defs₀ (F := F)) 𝒱₀ (thr d L) none) Set.univ (seqL (fun q => gatherCol (F := F) L q yV rV iV s) (List.finRange 8))
          fun _ => iprop(((yV).view.loc (thr d L) ↦{qy} Y) ∗ ((iV).view.loc (thr d L) ↦{fullShare} fi)
            ∗ ((rV).view.loc (thr d L) ↦{fullShare} rcOf L j Y p0 p1)
            ∗ semVal (thr d L, SemLoc.dma s.sem) 0 ∗ owing (F := F) d L O W) := by
  let I : ℕ → sProp 𝕄 := fun q => iprop(Transfers.MayWaits (thr d L) (default : HIx 2) O ∗ ((yV).view.loc (thr d L) ↦{qy} Y)
    ∗ ((iV).view.loc (thr d L) ↦{fullShare} fi)
    ∗ (∃ g : Buf (Elt F) ((rV).view.loc (thr d L)), ⌜∀ x : S32x1024.Idx, (x 1).val < 128 * q → g x = rcOf L j Y p0 p1 x⌝ ∗ (rV).view.loc (thr d L) ↦{fullShare} g)
    ∗ semVal (thr d L, SemLoc.dma s.sem) 0 ∗ owing (F := F) d L O W)
  have step : ∀ q : Fin 8, I q.val ⊢ wp frame (wpE (defs₀ (F := F)) 𝒱₀ (thr d L) none) Set.univ (gatherCol (F := F) L q yV rV iV s) fun _ => I (q.val + 1) := by
    intro q
    show iprop(_ ∗ _ ∗ _ ∗ (∃ g, _ ∗ _) ∗ _ ∗ _) ⊢ _
    iintro ⟨#Hmw, Hy, Hi, ⟨%g, %hg, Hr⟩, Hs, HO⟩
    iapply wp_wand_r
    isplitl [Hy Hi Hr Hs HO]
    · iapply (gather_spec d L j O W q qy Y p0 p1 h0 h1 fi hfi g hg s)
      isplitr; · iexact Hmw
      isplitl [Hy]; · iexact Hy
      isplitl [Hi]; · iexact Hi
      isplitl [Hr]; · iexact Hr
      isplitl [Hs] <;> iassumption
    iintro %_ ⟨Hy, Hi, Hr, Hs, HO⟩
    isplitr; · iexact Hmw
    isplitl [Hy]; · iexact Hy
    isplitl [Hi]; · iexact Hi
    isplitl [Hr]; · iexact Hr
    isplitl [Hs] <;> iassumption
  iintro ⟨Hmw, Hy, Hi, Hr, Hs, HO⟩
  iapply wp_wand_r
  isplitl [Hmw Hy Hi Hr Hs HO]
  · iapply (wp_seqL _ _ _ _ I step)
    isplitl [Hmw]; · iexact Hmw
    isplitl [Hy]; · iexact Hy
    isplitl [Hi]; · iexact Hi
    isplitl [Hr]
    · iexists g; isplitr
      swap; · iexact Hr
      ipureintro; intro x hx; exact absurd hx (by omega)
    isplitl [Hs] <;> iassumption
  iintro %_ ⟨-, Hy, Hi, ⟨%g, %hg, Hr⟩, Hs, HO⟩
  isplitl [Hy]; · iexact Hy
  isplitl [Hi]; · iexact Hi
  isplitl [Hr]
  · obtain rfl : g = rcOf L j Y p0 p1 := funext fun x => hg x (x 1).isLt
    iexact Hr
  isplitl [Hs] <;> iassumption

/-- One chunk: its rows of the result end at the combined rows. -/
theorem chunk_spec (h0 : ∀ t, (p0 t).toNat < 5120) (h1 : ∀ t, (p1 t).toNat < 5120) (sg : DmaSems sig S_) (sa sb sc : Fin 4 → DmaSems sig S_)
    (go : Buf (Elt F) ((oV).view.loc (thr d L))) :
    iprop(Transfers.MayWaits (thr d L) (default : HIx 2) O ∗ work d L O W qy qa qb Y p0 p1 sg
        ∗ semVal (thr d L, SemLoc.dma (sa j).sem) 0 ∗ semVal (thr d L, SemLoc.dma (sb j).sem) 0 ∗ semVal (thr d L, SemLoc.dma (sc j).sem) 0
        ∗ ((oV).view.loc (thr d L) ↦[chunkSet (L 0).val (L 1).val j.val]{fullShare} go))
      ⊢ wp frame (wpE (defs₀ (F := F)) 𝒱₀ (thr d L) none) Set.univ (chunk (F := F) L yV aV bV oV rV iV vV (Memref.isWhole_whole _) sg sa sb sc j)
          fun _ => iprop(work d L O W qy qa qb Y p0 p1 sg
            ∗ semVal (thr d L, SemLoc.dma (sa j).sem) 0 ∗ semVal (thr d L, SemLoc.dma (sb j).sem) 0 ∗ semVal (thr d L, SemLoc.dma (sc j).sem) 0
            ∗ ((oV).view.loc (thr d L) ↦[chunkSet (L 0).val (L 1).val j.val]{fullShare} comb Y p0 p1)) := by
  unfold chunk work
  rw [← bind_assoc, wp_bind]
  iintro ⟨#Hmw, ⟨Hy, Ha, Hb, ⟨%fr, Hr⟩, ⟨%fi, Hi⟩, ⟨%fv, Hv⟩, Hg, HO⟩, Hsa, Hsb, Hsc, Ho⟩
  iapply wp_wand_r
  isplitl [Ha Hb Hi Hsa Hsb HO]
  · iapply (fetch_spec d L j O W qa qb p0 p1 fi (sa j) (sb j))
    isplitr; · iexact Hmw
    isplitl [Ha]; · iexact Ha
    isplitl [Hb]; · iexact Hb
    isplitl [Hi]; · iexact Hi
    isplitl [Hsa]; · iexact Hsa
    isplitl [Hsb] <;> iassumption
  iintro %_ ⟨Ha, Hb, ⟨%fi, %hfi, Hi⟩, Hsa, Hsb, HO⟩
  rw [wp_bind]
  iapply wp_wand_r
  isplitl [Hy Hi Hr Hg HO]
  · iapply (gathers_spec d L j O W qy Y p0 p1 h0 h1 fi hfi fr sg)
    isplitr; · iexact Hmw
    isplitl [Hy]; · iexact Hy
    isplitl [Hi]; · iexact Hi
    isplitl [Hr]; · iexact Hr
    isplitl [Hg] <;> iassumption
  iintro %_ ⟨Hy, Hi, Hr, Hg, HO⟩
  rw [wp_bind]
  iapply wp_wand_r
  isplitl [Hr Hv]
  · iapply (wp_seqL _ _ _ _ (fun r => rowInv d L (rcOf L j Y p0 p1) r 0) (fun r => row_spec d L r (rcOf L j Y p0 p1)))
    unfold rowInv
    isplitl [Hr]; · iexact Hr
    iexists fv; isplitr
    swap; · iexact Hv
    ipureintro; intro x hx; exact absurd hx (by omega)
  iintro %_ H
  unfold rowInv
  icases H with ⟨Hr, %fv, %hfv, Hv⟩
  iapply wp_wand_r
  isplitl [Hv Ho Hsc HO]
  · iapply (out_spec d L j O W fv go (sc j) (comb Y p0 p1) (fun x => (hfv x (.inl (x 0).isLt)).trans (ovOf_eq L j Y p0 p1 x)))
    isplitr; · iexact Hmw
    isplitl [Hv]; · iexact Hv
    isplitl [Ho]; · iexact Ho
    isplitl [Hsc] <;> iassumption
  iintro %_ ⟨Hv, Ho, Hsc, HO⟩
  isplitr [Hsa Hsb Hsc Ho]
  · isplitl [Hy]; · iexact Hy
    isplitl [Ha]; · iexact Ha
    isplitl [Hb]; · iexact Hb
    isplitl [Hr]; · iexists _; iexact Hr
    isplitl [Hi]; · iexists _; iexact Hi
    isplitl [Hv]; · iexists _; iexact Hv
    isplitl [Hg] <;> iassumption
  isplitl [Hsa]; · iexact Hsa
  isplitl [Hsb]; · iexact Hsb
  isplitl [Hsc] <;> iassumption

end Pieces

end Cert.Proof.Comb

end
-- ==== Proof.Disp.Values.lean ====
/-
  The dispatch by coordinates: which tokens a tile and a chunk handle, which elements of the sorted rows and weights are
  a tile's own (those whose row one of its tokens' positions names), and what a scatter of thirty-two rows leaves there.
-/
module

public import proofs.«01_k».proof.Proof.Disp.Text
public import proofs.«01_k».proof.Proof.Comb.Tile
public import Idealize.ShloMosaic.Lib.SparseCore.Scatter
public import Idealize.ShloMosaic.Lib.Pointwise.Index

@[expose] public section

noncomputable section

namespace Cert.Proof.Disp

open Cert.KernelIdeal Cert.KernelIdeal.Gen
open Cert.Proof.Comb (rowMajor32)
open Idealize.ShloMosaic Idealize.SL.Sem
open Idealize.ShloMosaic.SparseCore (S V T)

variable {F : FTy → Type} [FloatOps F]

/-! ## Where a chunk's tokens lie -/

def coordsV (c : Fin (grid0.bound 0)) (s : Fin (grid0.bound 1)) : grid0.Coords :=
  fun | 0 => c | 1 => s | ⟨_ + 2, h⟩ => absurd h (Nat.not_lt.2 (Nat.le_add_left _ _))

/-- Which list a tile works on, and which of the list's sixteen tiles it is. -/
def half (c s : ℕ) : ℕ := s / 8
def lane (c s : ℕ) : ℕ := (2 * s + c) % 16

theorem coords_eta (L : grid0.Coords) : L = coordsV (L 0) (L 1) := by
  funext a; match a with | 0 => rfl | 1 => rfl

theorem cond1_iff (L : grid0.Coords) : k0_cond1 L = 1#1 ↔ (L 1).val < 8 := by
  rw [coords_eta L]; generalize L 0 = c; generalize L 1 = s; revert c s; decide +kernel
theorem cond2_iff (L : grid0.Coords) : k0_cond2 L = 1#1 ↔ 8 ≤ (L 1).val := by
  rw [coords_eta L]; generalize L 0 = c; generalize L 1 = s; revert c s; decide +kernel

section Chunk

variable (L : grid0.Coords) (j : Fin 4)

/-- The first token of a chunk. -/
def tok0 : ℕ := 128 * lane (L 0).val (L 1).val + 32 * j.val

theorem lane_lt : lane (L 0).val (L 1).val < 16 := Nat.mod_lt _ (by decide)
theorem tok0_le : tok0 L j + 32 ≤ 2048 := by
  have h := lane_lt L; have hj := j.isLt; unfold tok0; omega

/-- Token `x` of a chunk. -/
def tok (x : Fin 32) : Fin 2048 := ⟨tok0 L j + x.val, by have h := tok0_le L j; omega⟩

theorem off1_eq : k0_off1 L (BitVec.ofNat 32 (32 * j.val)) 0 = tok0 L j := by
  unfold tok0; rw [coords_eta L]; generalize L 0 = c; generalize L 1 = s; revert c s j; decide +kernel
theorem off2_eq : k0_off2 L (BitVec.ofNat 32 (32 * j.val)) 0 = tok0 L j ∧ k0_off2 L (BitVec.ofNat 32 (32 * j.val)) 1 = 0 := by
  unfold tok0; rw [coords_eta L]; generalize L 0 = c; generalize L 1 = s; revert c s j; decide +kernel
theorem off3_eq : k0_off3 L (BitVec.ofNat 32 (32 * j.val)) 0 = tok0 L j ∧ k0_off3 L (BitVec.ofNat 32 (32 * j.val)) 1 = 0 := by
  unfold tok0; rw [coords_eta L]; generalize L 0 = c; generalize L 1 = s; revert c s j; decide +kernel
theorem off4_eq : k0_off4 L (BitVec.ofNat 32 (32 * j.val)) 0 = tok0 L j := by
  unfold tok0; rw [coords_eta L]; generalize L 0 = c; generalize L 1 = s; revert c s j; decide +kernel
theorem off5_eq : k0_off5 L (BitVec.ofNat 32 (32 * j.val)) 0 = tok0 L j ∧ k0_off5 L (BitVec.ofNat 32 (32 * j.val)) 1 = 0 := by
  unfold tok0; rw [coords_eta L]; generalize L 0 = c; generalize L 1 = s; revert c s j; decide +kernel
theorem off6_eq : k0_off6 L (BitVec.ofNat 32 (32 * j.val)) 0 = tok0 L j ∧ k0_off6 L (BitVec.ofNat 32 (32 * j.val)) 1 = 0 := by
  unfold tok0; rw [coords_eta L]; generalize L 0 = c; generalize L 1 = s; revert c s j; decide +kernel

end Chunk

/-! ## A scatter's rows -/

local notation "sV" => (Memref.whole Cert.KernelIdeal.main_v0_0_scv : Memref Cert.KernelIdeal.sig Kind.scVector Space.hbm Cert.KernelIdeal.S5120x1024 EltTy.f32)
local notation "tV" => (Memref.whole Cert.KernelIdeal.main_v0_1_scv : Memref Cert.KernelIdeal.sig Kind.scVector Space.hbm Cert.KernelIdeal.S5120x128 EltTy.f32)
local notation "bV" => (Memref.whole Cert.KernelIdeal.cc0_scratch0 : Memref Cert.KernelIdeal.sig Kind.scVector Space.vmem Cert.KernelIdeal.S32x1024 EltTy.f32)
local notation "cV" => (Memref.whole Cert.KernelIdeal.cc0_scratch1 : Memref Cert.KernelIdeal.sig Kind.scVector Space.vmem Cert.KernelIdeal.S32x128 EltTy.f32)

abbrev coreOf (L : grid0.Coords) : Fin τ.nSC := (L 0).castLE hcore0
abbrev subOf (L : grid0.Coords) : Fin τ.nSub := (L 1).castLE hsub0
/-- The tile's thread. -/
abbrev thr (d : Dev nD) (L : grid0.Coords) : Thread nD τ := V d (coreOf L) (subOf L)

abbrev gax : Fin S5120x128.rank := gathers_S5120x128_S32x128.axis

theorem mem_rowRect (r : Fin (S5120x128.size gax)) (y : S5120x128.Idx) : y ∈ (S5120x128.rowRect gax r).set ↔ (y 0).val = r.val := by
  refine (Rect.mem_set_unit (s := S5120x128) (off := fun b => if b = gax then r.val else 0) (size := (S5120x128.rowShape gax).size)).trans ?_
  have hy : (y 1).val < 128 := (y 1).isLt
  constructor
  · intro h
    have e : r.val ≤ (y 0).val ∧ (y 0).val < r.val + 1 := h 0
    omega
  · intro h a
    match a with
    | 0 => show r.val ≤ (y 0).val ∧ (y 0).val < r.val + 1; omega
    | 1 => show 0 ≤ (y 1).val ∧ (y 1).val < 0 + 128; omega

theorem mem_colRow (q : Fin 8) (r : Fin (S5120x128.size gax)) (i : S5120x1024.Idx) :
    i ∈ ((colX q sV).view.slice (S5120x128.rowRect gax r)).set ↔ (i 0).val = r.val ∧ 128 * q.val ≤ (i 1).val ∧ (i 1).val < 128 * q.val + 128 := by
  rw [View.set_slice, Finset.mem_map]
  constructor
  · rintro ⟨y, hy, rfl⟩
    have h0 := (mem_rowRect r y).mp hy
    have hy1 : (y 1).val < 128 := (y 1).isLt
    refine ⟨?_, ?_, ?_⟩
    · show 0 + 1 * (y 0).val = r.val; omega
    · show 128 * q.val ≤ 128 * q.val + 1 * (y 1).val; omega
    · show 128 * q.val + 1 * (y 1).val < 128 * q.val + 128; omega
  · rintro ⟨h0, h1, h2⟩
    refine ⟨ix2 (i 0) ⟨(i 1).val - 128 * q.val, by omega⟩, (mem_rowRect r _).mpr h0, ?_⟩
    refine (colRectX q).emb_eq_of_coords _ _ fun a => ?_
    match a with
    | 0 => show (i 0).val = 0 + 1 * (i 0).val; omega
    | 1 => show (i 1).val = 128 * q.val + 1 * ((i 1).val - 128 * q.val); omega

theorem mem_allRow (r : Fin (S5120x128.size gax)) (i : S5120x128.Idx) :
    i ∈ ((allW tV).view.slice (S5120x128.rowRect gax r)).set ↔ (i 0).val = r.val := by
  rw [View.set_slice, Finset.mem_map]
  constructor
  · rintro ⟨y, hy, rfl⟩
    have h0 := (mem_rowRect r y).mp hy
    show 0 + 1 * (y 0).val = r.val; omega
  · intro h0
    refine ⟨i, (mem_rowRect r _).mpr h0, ?_⟩
    refine (Rect.unit (s := S5120x128) ![0, 0] S5120x128.size inb_S5120x128_S5120x128_0_0).emb_eq_of_coords _ _ fun a => ?_
    match a with
    | 0 => show (i 0).val = 0 + 1 * (i 0).val; omega
    | 1 => show (i 1).val = 0 + 1 * (i 1).val; omega

section Scatter

variable (d : Dev nD) (L : grid0.Coords)

/-- A scattered element of 128 columns of the rows: its row's source row, at its column. -/
theorem col_hit (q : Fin 8) (r : Fin 32 → Fin (S5120x128.size gax)) (hr : Function.Injective r) (fs : S32x1024.Idx → Elt F .f32) (fd : S5120x1024.Idx → Elt F .f32)
    (k : Fin 32) (i : S5120x1024.Idx) (h0 : (i 0).val = (r k).val) (h1 : 128 * q.val ≤ (i 1).val ∧ (i 1).val < 128 * q.val + 128) :
    SparseCore.scatterBuf (F := F) (thr d L) (colX q sV).view gax r
      (SparseCore.scatterRowPayload (F := F) (thr d L) (colB q bV) gathers_S5120x128_S32x128 fs) fd i = fs (ix2 k (i 1)) := by
  have hi := (mem_colRow q (r k) i).mpr ⟨h0, h1⟩
  refine (SparseCore.scatterBuf_of_mem (thr d L) (colX q sV).view gax r hr _ fd hi).trans ?_
  obtain ⟨y, -, rfl⟩ := Finset.mem_map.mp hi
  refine (View.write_emb_of_mem _ _ (Finset.mem_univ y)).trans ?_
  show fs ((colRectB q).emb ((S32x128.rowRect gathers_S5120x128_S32x128.axis' k).emb _)) = fs _
  refine congrArg fs ((colRectB q).emb_eq_of_coords _ _ fun a => ?_)
  match a with
  | 0 =>
    have hy0 : (y 0).val < 1 := (y 0).isLt
    have e : ((Shape.idxEquiv gathers_S5120x128_S32x128.rowShape_eq).symm y (0 : Fin 2)).val = (y 0).val := Shape.idxEquiv_symm_apply_val _ y _
    show k.val = 0 + 1 * (k.val + 1 * ((Shape.idxEquiv gathers_S5120x128_S32x128.rowShape_eq).symm y (0 : Fin 2)).val); omega
  | 1 =>
    have e : ((Shape.idxEquiv gathers_S5120x128_S32x128.rowShape_eq).symm y (1 : Fin 2)).val = (y 1).val := Shape.idxEquiv_symm_apply_val _ y _
    show 128 * q.val + 1 * (0 + 1 * (y 1).val) = 128 * q.val + 1 * (0 + 1 * ((Shape.idxEquiv gathers_S5120x128_S32x128.rowShape_eq).symm y (1 : Fin 2)).val); omega

theorem col_miss (q : Fin 8) (r : Fin 32 → Fin (S5120x128.size gax)) (fs : S32x1024.Idx → Elt F .f32) (fd : S5120x1024.Idx → Elt F .f32)
    (i : S5120x1024.Idx) (h : ∀ k, (i 0).val = (r k).val → ¬(128 * q.val ≤ (i 1).val ∧ (i 1).val < 128 * q.val + 128)) :
    SparseCore.scatterBuf (F := F) (thr d L) (colX q sV).view gax r
      (SparseCore.scatterRowPayload (F := F) (thr d L) (colB q bV) gathers_S5120x128_S32x128 fs) fd i = fd i := by
  refine SparseCore.scatterBuf_of_not_mem _ _ _ _ _ _ fun hm => ?_
  obtain ⟨k, -, hk⟩ := Finset.mem_biUnion.mp hm
  have e := (mem_colRow q (r k) i).mp hk
  exact h k e.1 e.2

/-- A scattered element of the weights. -/
theorem all_hit (r : Fin 32 → Fin (S5120x128.size gax)) (hr : Function.Injective r) (fs : S32x128.Idx → Elt F .f32) (fd : S5120x128.Idx → Elt F .f32)
    (k : Fin 32) (i : S5120x128.Idx) (h0 : (i 0).val = (r k).val) :
    SparseCore.scatterBuf (F := F) (thr d L) (allW tV).view gax r
      (SparseCore.scatterRowPayload (F := F) (thr d L) cV gathers_S5120x128_S32x128 fs) fd i = fs (ix2 k (i 1)) := by
  have hi := (mem_allRow (r k) i).mpr h0
  refine (SparseCore.scatterBuf_of_mem (thr d L) (allW tV).view gax r hr _ fd hi).trans ?_
  obtain ⟨y, -, rfl⟩ := Finset.mem_map.mp hi
  refine (View.write_emb_of_mem _ _ (Finset.mem_univ y)).trans ?_
  show fs ((S32x128.rowRect gathers_S5120x128_S32x128.axis' k).emb _) = fs _
  refine congrArg fs ((S32x128.rowRect gathers_S5120x128_S32x128.axis' k).emb_eq_of_coords _ _ fun a => ?_)
  match a with
  | 0 =>
    have hy0 : (y 0).val < 1 := (y 0).isLt
    have e : ((Shape.idxEquiv gathers_S5120x128_S32x128.rowShape_eq).symm y (0 : Fin 2)).val = (y 0).val := Shape.idxEquiv_symm_apply_val _ y _
    show k.val = k.val + 1 * ((Shape.idxEquiv gathers_S5120x128_S32x128.rowShape_eq).symm y (0 : Fin 2)).val; omega
  | 1 =>
    have e : ((Shape.idxEquiv gathers_S5120x128_S32x128.rowShape_eq).symm y (1 : Fin 2)).val = (y 1).val := Shape.idxEquiv_symm_apply_val _ y _
    show 0 + 1 * (0 + 1 * (y 1).val) = 0 + 1 * ((Shape.idxEquiv gathers_S5120x128_S32x128.rowShape_eq).symm y (1 : Fin 2)).val; omega

theorem all_miss (r : Fin 32 → Fin (S5120x128.size gax)) (fs : S32x128.Idx → Elt F .f32) (fd : S5120x128.Idx → Elt F .f32)
    (i : S5120x128.Idx) (h : ∀ k, (i 0).val ≠ (r k).val) :
    SparseCore.scatterBuf (F := F) (thr d L) (allW tV).view gax r
      (SparseCore.scatterRowPayload (F := F) (thr d L) cV gathers_S5120x128_S32x128 fs) fd i = fd i := by
  refine SparseCore.scatterBuf_of_not_mem _ _ _ _ _ _ fun hm => ?_
  obtain ⟨k, -, hk⟩ := Finset.mem_biUnion.mp hm
  exact h k ((mem_allRow (r k) i).mp hk)

end Scatter

/-! ## The elements of the sorted rows and weights -/

/-- Positions `p` name rows below 5120, each at most once. -/
structure Own (p : S2048.Idx → BitVec 32) : Prop where
  lt : ∀ t, (p t).toNat < 5120
  inj : ∀ t t' : Fin 2048, (p (ix1 t)).toNat = (p (ix1 t')).toNat → t = t'

/-- The row `r` is named by a token of lane `l`. -/
def Named (p : S2048.Idx → BitVec 32) (l r : ℕ) : Prop := ∃ t : Fin 2048, t.val / 128 = l ∧ (p (ix1 t)).toNat = r
instance (p : S2048.Idx → BitVec 32) (l r : ℕ) : Decidable (Named p l r) := by unfold Named; infer_instance

/-- The elements of the rows, and of the weights, that a lane's tokens name. -/
def laneX (p : S2048.Idx → BitVec 32) (l : ℕ) : Finset S5120x1024.Idx := Finset.univ.filter fun x => Named p l (x 0).val
def laneW (p : S2048.Idx → BitVec 32) (l : ℕ) : Finset S5120x128.Idx := Finset.univ.filter fun x => Named p l (x 0).val

/-- The lane's rows done: the tokens below `n`, and those below `m` in the columns below `b`. -/
def DoneX (p : S2048.Idx → BitVec 32) (X : S2048x1024.Idx → Elt F .f32) (l n m b : ℕ) (g : S5120x1024.Idx → Elt F .f32) : Prop :=
  ∀ (x : S5120x1024.Idx) (t : Fin 2048), t.val / 128 = l → (p (ix1 t)).toNat = (x 0).val → (t.val < n ∨ t.val < m ∧ (x 1).val < b) → g x = X (ix2 t (x 1))
def DoneW (p : S2048.Idx → BitVec 32) (Wt : S2048x128.Idx → Elt F .f32) (l n : ℕ) (g : S5120x128.Idx → Elt F .f32) : Prop :=
  ∀ (x : S5120x128.Idx) (t : Fin 2048), t.val / 128 = l → (p (ix1 t)).toNat = (x 0).val → t.val < n → g x = Wt (ix2 t (x 1))

section Step

variable (d : Dev nD) (L : grid0.Coords) (j : Fin 4)

theorem tok_lane (x : Fin 32) : (tok L j x).val / 128 = lane (L 0).val (L 1).val := by
  have hj := j.isLt; have hx := x.isLt
  show (tok0 L j + x.val) / 128 = _
  unfold tok0; omega

/-- The rows the index buffer's words name. -/
abbrev rowsOf (fi : S32.Idx → BitVec 32) (hin : ∀ x, (fi x).toNat < S5120x128.size gax) : Fin 32 → Fin (S5120x128.size gax) :=
  SparseCore.rows (F := F) (si := S32) (o := 32) fi (rfl : S32.numel = 32) hin

/-- Row by row: chunk token `k`'s position. -/
theorem rows_val (p : S2048.Idx → BitVec 32) (fi : S32.Idx → BitVec 32) (hfi : ∀ x : S32.Idx, fi x = p (ix1 (tok L j (x 0))))
    (hin : ∀ x, (fi x).toNat < S5120x128.size gax) (k : Fin 32) :
    (rowsOf (F := F) fi hin k).val = (p (ix1 (tok L j k))).toNat := by
  show (fi (S32.rowMajor.symm (Fin.cast (rfl : (32 : ℕ) = S32.numel) k))).toNat = _
  rw [hfi]; exact congrArg (fun w => (p (ix1 (tok L j w))).toNat) (rowMajor32 k)

theorem rows_inj (p : S2048.Idx → BitVec 32) (hp : Own p) (fi : S32.Idx → BitVec 32) (hfi : ∀ x : S32.Idx, fi x = p (ix1 (tok L j (x 0))))
    (hin : ∀ x, (fi x).toNat < S5120x128.size gax) : Function.Injective (rowsOf (F := F) fi hin) := by
  intro k k' h
  have e := congrArg Fin.val h
  rw [rows_val (F := F) L j p fi hfi hin, rows_val (F := F) L j p fi hfi hin] at e
  have e' := congrArg Fin.val (hp.inj _ _ e)
  exact Fin.ext (by have : tok0 L j + k.val = tok0 L j + k'.val := e'; omega)

/-- The eight column scatters, one by one. -/
theorem stepX (p : S2048.Idx → BitVec 32) (hp : Own p) (X : S2048x1024.Idx → Elt F .f32) (q : Fin 8)
    (fi : S32.Idx → BitVec 32) (hfi : ∀ x : S32.Idx, fi x = p (ix1 (tok L j (x 0)))) (hin : ∀ x, (fi x).toNat < S5120x128.size gax)
    (fs : S32x1024.Idx → Elt F .f32) (hfs : ∀ x : S32x1024.Idx, fs x = X (ix2 (tok L j (x 0)) (x 1)))
    (g : S5120x1024.Idx → Elt F .f32) (hg : DoneX p X (lane (L 0).val (L 1).val) (tok0 L j) (tok0 L j + 32) (128 * q.val) g) :
    DoneX p X (lane (L 0).val (L 1).val) (tok0 L j) (tok0 L j + 32) (128 * (q.val + 1))
      (SparseCore.scatterBuf (F := F) (thr d L) (colX q sV).view gax (rowsOf (F := F) fi hin)
        (SparseCore.scatterRowPayload (F := F) (thr d L) (colB q bV) gathers_S5120x128_S32x128 fs) g) := by
  intro x t hl ht hc
  by_cases h : tok0 L j ≤ t.val ∧ 128 * q.val ≤ (x 1).val
  · have hk : t.val - tok0 L j < 32 := by omega
    have htk : t = tok L j ⟨t.val - tok0 L j, hk⟩ := Fin.ext (by show t.val = tok0 L j + (t.val - tok0 L j); omega)
    refine (col_hit d L q _ (rows_inj (F := F) L j p hp fi hfi hin) fs g ⟨t.val - tok0 L j, hk⟩ x (by rw [rows_val (F := F) L j p fi hfi hin, ← htk, ht]) ⟨h.2, by omega⟩).trans ?_
    rw [hfs]
    show X (ix2 (tok L j ⟨t.val - tok0 L j, hk⟩) (x 1)) = _
    rw [← htk]
  · refine (col_miss d L q _ fs g x fun k e hh => ?_).trans ?_
    rotate_left
    · exact hg x t hl ht (by omega)
    · rw [rows_val (F := F) L j p fi hfi hin, ← ht] at e
      have e' := congrArg Fin.val (hp.inj _ _ e)
      have : t.val = tok0 L j + k.val := e'
      exact h ⟨by omega, hh.1⟩

theorem stepW (p : S2048.Idx → BitVec 32) (hp : Own p) (Wt : S2048x128.Idx → Elt F .f32)
    (fi : S32.Idx → BitVec 32) (hfi : ∀ x : S32.Idx, fi x = p (ix1 (tok L j (x 0)))) (hin : ∀ x, (fi x).toNat < S5120x128.size gax)
    (fs : S32x128.Idx → Elt F .f32) (hfs : ∀ x : S32x128.Idx, fs x = Wt (ix2 (tok L j (x 0)) (x 1)))
    (g : S5120x128.Idx → Elt F .f32) (hg : DoneW p Wt (lane (L 0).val (L 1).val) (tok0 L j) g) :
    DoneW p Wt (lane (L 0).val (L 1).val) (tok0 L j + 32)
      (SparseCore.scatterBuf (F := F) (thr d L) (allW tV).view gax (rowsOf (F := F) fi hin)
        (SparseCore.scatterRowPayload (F := F) (thr d L) cV gathers_S5120x128_S32x128 fs) g) := by
  intro x t hl ht hc
  by_cases h : tok0 L j ≤ t.val
  · have hk : t.val - tok0 L j < 32 := by omega
    have htk : t = tok L j ⟨t.val - tok0 L j, hk⟩ := Fin.ext (by show t.val = tok0 L j + (t.val - tok0 L j); omega)
    refine (all_hit d L _ (rows_inj (F := F) L j p hp fi hfi hin) fs g ⟨t.val - tok0 L j, hk⟩ x (by rw [rows_val (F := F) L j p fi hfi hin, ← htk, ht])).trans ?_
    rw [hfs]
    show Wt (ix2 (tok L j ⟨t.val - tok0 L j, hk⟩) (x 1)) = _
    rw [← htk]
  · refine (all_miss d L _ fs g x fun k e => ?_).trans ?_
    rotate_left
    · exact hg x t hl ht (by omega)
    · rw [rows_val (F := F) L j p fi hfi hin, ← ht] at e
      have e' := congrArg Fin.val (hp.inj _ _ e)
      have : t.val = tok0 L j + k.val := e'
      omega

/-- The rows a chunk names are its lane's. -/
theorem named_subX (p : S2048.Idx → BitVec 32) (q : Fin 8) (fi : S32.Idx → BitVec 32) (hfi : ∀ x : S32.Idx, fi x = p (ix1 (tok L j (x 0))))
    (hin : ∀ x, (fi x).toNat < S5120x128.size gax) :
    SparseCore.namedRows (thr d L) (colX q sV).view gax (rowsOf (F := F) fi hin) ⊆ laneX p (lane (L 0).val (L 1).val) := by
  intro i hi
  obtain ⟨k, -, hk⟩ := Finset.mem_biUnion.mp hi
  have e := ((mem_colRow q _ i).mp hk).1
  rw [rows_val (F := F) L j p fi hfi hin] at e
  exact Finset.mem_filter.mpr ⟨Finset.mem_univ _, tok L j k, tok_lane L j k, e.symm⟩
theorem named_subW (p : S2048.Idx → BitVec 32) (fi : S32.Idx → BitVec 32) (hfi : ∀ x : S32.Idx, fi x = p (ix1 (tok L j (x 0))))
    (hin : ∀ x, (fi x).toNat < S5120x128.size gax) :
    SparseCore.namedRows (thr d L) (allW tV).view gax (rowsOf (F := F) fi hin) ⊆ laneW p (lane (L 0).val (L 1).val) := by
  intro i hi
  obtain ⟨k, -, hk⟩ := Finset.mem_biUnion.mp hi
  have e := (mem_allRow _ i).mp hk
  rw [rows_val (F := F) L j p fi hfi hin] at e
  exact Finset.mem_filter.mpr ⟨Finset.mem_univ _, tok L j k, tok_lane L j k, e.symm⟩

end Step

end Cert.Proof.Disp

end
-- ==== Proof.Disp.Tile.lean ====
/-
  The dispatch's tile program, run: a fetch, a scatter of thirty-two rows, and from them a chunk of thirty-two tokens.
  A tile holds the elements of the sorted rows and weights its own tokens name; a scatter borrows the rows its words name
  out of them and gives them back written.
-/
module

public import proofs.«01_k».proof.Proof.Disp.Values

@[expose] public section

noncomputable section

namespace Cert.Proof.Disp

open Cert.KernelIdeal Cert.KernelIdeal.Gen
open Cert.Proof.Comb (seqL UH UP UU 𝒱₀ wp_seqL)

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

local notation "xV" => (Memref.whole Cert.KernelIdeal.main_arg0_scv : Memref Cert.KernelIdeal.sig Kind.scVector Space.hbm Cert.KernelIdeal.S2048x1024 EltTy.f32)
local notation "sV" => (Memref.whole Cert.KernelIdeal.main_v0_0_scv : Memref Cert.KernelIdeal.sig Kind.scVector Space.hbm Cert.KernelIdeal.S5120x1024 EltTy.f32)
local notation "tV" => (Memref.whole Cert.KernelIdeal.main_v0_1_scv : Memref Cert.KernelIdeal.sig Kind.scVector Space.hbm Cert.KernelIdeal.S5120x128 EltTy.f32)
local notation "bV" => (Memref.whole Cert.KernelIdeal.cc0_scratch0 : Memref Cert.KernelIdeal.sig Kind.scVector Space.vmem Cert.KernelIdeal.S32x1024 EltTy.f32)
local notation "cV" => (Memref.whole Cert.KernelIdeal.cc0_scratch1 : Memref Cert.KernelIdeal.sig Kind.scVector Space.vmem Cert.KernelIdeal.S32x128 EltTy.f32)
local notation "iV" => (Memref.whole Cert.KernelIdeal.cc0_scratch2 : Memref Cert.KernelIdeal.sig Kind.scVector Space.vmem Cert.KernelIdeal.S32 EltTy.i32)

section Pieces

variable (d : Dev nD) (L : grid0.Coords) (j : Fin 4) (O : CellTallies nD τ sig (HIx 2)) (W : Waits sig (HIx 2))

/-- The tile's debt, at the waits recorded so far. -/
def owing : sProp 𝕄 := iprop(∃ W', ⌜∀ p ∈ W', p ∈ W ∨ p.2 = none⌝ ∗ owes (thr d L) O W')

/-- A fetch: the window read into the whole buffer. -/
theorem fetch_spec {s : Shape} {e : EltTy} (hn : 0 < s.numel) (src : Memref sig .scVector .hbm s e) (hs : src.view.WordExact) (dst : Memref sig .scVector .vmem s e) (hd : dst.IsWhole)
    (q : PosShare TreeShare) (f : Buf (Elt F) (src.view.loc (thr d L))) (g : Buf (Elt F) (dst.view.loc (thr d L))) (sm : DmaSems sig S_) :
    iprop(Transfers.MayWaits (thr d L) (default : HIx 2) O ∗ (src.view.loc (thr d L) ↦[src.view.set]{q} f) ∗ (dst.view.loc (thr d L) ↦[dst.view.set]{fullShare} g)
        ∗ semVal (thr d L, SemLoc.dma sm.sem) 0 ∗ owing (F := F) d L O W)
      ⊢ wp frame (wpE (defs₀ (F := F)) 𝒱₀ (thr d L) none) Set.univ (fetch (F := F) L src hs dst hd sm)
          fun _ => iprop((src.view.loc (thr d L) ↦[src.view.set]{q} f)
            ∗ (dst.view.loc (thr d L) ↦[dst.view.set]{fullShare} dst.view.writes (Elt F) g [⟨Rect.whole s, src.view.read (Elt F) f⟩])
            ∗ semVal (thr d L, SemLoc.dma sm.sem) 0 ∗ owing (F := F) d L O W) := by
  unfold fetch owing
  iintro ⟨#Hmw, Ha, Hi, Hs, %W', %hW', HO⟩
  sl_exec (disch := exact View.amount_pos _ _ hn)
  sl_step
  isplitl [Ha]; · iexact Ha
  isplitl [Hi]; · iexact Hi
  isplitl [Hs]; · iexact Hs
  iexists _; isplitr
  swap; · iexact HO
  ipureintro; intro p hp
  rcases Finset.mem_insert.mp hp with hp | hp; · exact .inr (hp ▸ rfl)
  exact hW' p hp

/-- A scatter: of the elements held of the target, the rows the words name are written. -/
theorem scatter_spec (src : Memref sig .scVector .vmem S32x128 .f32) (hs : src.view.WordExact) (dst : Memref sig .scVector .hbm S5120x128 .f32) (hd : dst.view.WordExact)
    (ix : Memref sig .scVector .vmem S32 .i32) (sm : DmaSems sig S_) (A : Finset (Idx (src.view.loc (thr d L)))) (B : Finset (Idx (dst.view.loc (thr d L)))) (C : Finset (Idx (ix.view.loc (thr d L))))
    (hA : src.view.set ⊆ A) (hC : ix.view.set ⊆ C)
    (fs : Buf (Elt F) (src.view.loc (thr d L))) (fd : Buf (Elt F) (dst.view.loc (thr d L))) (fi : Buf (Elt F) (ix.view.loc (thr d L)))
    (hin : ∀ x, (ix.view.read (Elt F) fi x).toNat < S5120x128.size gax) (hinj : Function.Injective (rowsOf (F := F) (ix.view.read (Elt F) fi) hin))
    (hB : SparseCore.namedRows (thr d L) dst.view gax (rowsOf (F := F) (ix.view.read (Elt F) fi) hin) ⊆ B)
    (hcs : ∀ s' : Shape, sig.dmaCredit .scVector (Kind.scVector.table .vmem) src.view.buf s' .f32 = s'.numel * EltTy.f32.bits)
    (hcd : ∀ s' : Shape, sig.dmaCredit .scVector (Kind.scVector.table .hbm) dst.view.buf s' .f32 = s'.numel * EltTy.f32.bits) :
    iprop(Transfers.MayWaits (thr d L) (default : HIx 2) O ∗ (src.view.loc (thr d L) ↦[A]{fullShare} fs) ∗ (dst.view.loc (thr d L) ↦[B]{fullShare} fd)
        ∗ (ix.view.loc (thr d L) ↦[C]{fullShare} fi) ∗ semVal (thr d L, SemLoc.dma sm.sem) 0 ∗ owing (F := F) d L O W)
      ⊢ wp frame (wpE (defs₀ (F := F)) 𝒱₀ (thr d L) none) Set.univ (scatter (F := F) L src hs dst hd ix sm)
          fun _ => iprop((src.view.loc (thr d L) ↦[A]{fullShare} fs)
            ∗ (dst.view.loc (thr d L) ↦[B]{fullShare} SparseCore.scatterBuf (F := F) (thr d L) dst.view gax (rowsOf (F := F) (ix.view.read (Elt F) fi) hin)
                (SparseCore.scatterRowPayload (F := F) (thr d L) src gathers_S5120x128_S32x128 fs) fd)
            ∗ (ix.view.loc (thr d L) ↦[C]{fullShare} fi) ∗ semVal (thr d L, SemLoc.dma sm.sem) 0 ∗ owing (F := F) d L O W) := by
  unfold scatter owing
  iintro ⟨#Hmw, Hsrc, Hdst, Hix, Hs, %W', %hW', HO⟩
  ihave Hsrc := (pointsTo_split_subset hA).1 $$ Hsrc
  icases Hsrc with ⟨Hsrc, HsrcR⟩
  ihave Hix := (pointsTo_split_subset hC).1 $$ Hix
  icases Hix with ⟨Hix, HixR⟩
  ihave Hdst := (SparseCore.pointsTo_namedRows_split (thr d L) dst.view gax _ hB fd).1 $$ Hdst
  icases Hdst with ⟨Hdst, HdstR⟩
  ihave HdstR := (Entails.of_eq (SparseCore.pointsTo_rest_scatterBuf (F := F) (thr d L) dst.view gax (rowsOf (F := F) (ix.view.read (Elt F) fi) hin)
    (SparseCore.scatterRowPayload (F := F) (thr d L) src gathers_S5120x128_S32x128 fs) fd B)) $$ HdstR
  iapply (SparseCore.wp_indirectScatterLocal countersEmb 𝒱₀ (thr d L) none (hg := gathers_S5120x128_S32x128) (default : HIx 2) src.view.dmaCredit (by decide) hin hinj
    (SparseCore.sum_scatterCredit_eq_srcCredit (thr d L) src dst gathers_S5120x128_S32x128 rfl _ hcs hcd)) $$ [Hsrc Hdst Hix Hs]
  · isplitl [Hsrc]; · iexact Hsrc
    isplitl [Hdst]; · iexact Hdst
    isplitl [Hix] <;> iassumption
  iintro Hfl
  iapply (Transfers.wp_waitLocalO countersEmb 𝒱₀ (thr d L) none (default : HIx 2) (rfl : src.view.dmaCredit = _)) $$ [Hfl HO]
  · isplitl [Hfl]; · iexact Hfl
    isplitl [HO]; · iexact HO
    iapply (Transfers.MayWaits.elim (SemLoc.dma sm.sem)) $$ Hmw
  iintro ⟨⟨Hdst, Hsrc, Hix⟩, Hs, HO⟩
  sl_step
  isplitl [Hsrc HsrcR]
  · iapply (pointsTo_split_subset hA).2; isplitl [Hsrc] <;> iassumption
  isplitl [Hdst HdstR]
  · iapply (SparseCore.pointsTo_namedRows_split (thr d L) dst.view gax _ hB _).2; isplitl [Hdst]; · iexact Hdst
    iexact HdstR
  isplitl [Hix HixR]
  · iapply (pointsTo_split_subset hC).2; isplitl [Hix] <;> iassumption
  isplitl [Hs]; · iexact Hs
  iexists _; isplitr
  swap; · iexact HO
  ipureintro; intro p hp
  rcases Finset.mem_insert.mp hp with hp | hp; · exact .inr (hp ▸ rfl)
  exact hW' p hp

/-- A fetch out of an array held whole, into a buffer held whole. -/
theorem fetchW_spec {s : Shape} {e : EltTy} (hn : 0 < s.numel) (src : Memref sig .scVector .hbm s e) (hs : src.view.WordExact) (dst : Memref sig .scVector .vmem s e) (hd : dst.IsWhole)
    (hu : dst.view.set = Finset.univ)
    (q : PosShare TreeShare) (f : Buf (Elt F) (src.view.loc (thr d L))) (g : Buf (Elt F) (dst.view.loc (thr d L))) (sm : DmaSems sig S_) :
    iprop(Transfers.MayWaits (thr d L) (default : HIx 2) O ∗ (src.view.loc (thr d L) ↦{q} f) ∗ (dst.view.loc (thr d L) ↦{fullShare} g)
        ∗ semVal (thr d L, SemLoc.dma sm.sem) 0 ∗ owing (F := F) d L O W)
      ⊢ wp frame (wpE (defs₀ (F := F)) 𝒱₀ (thr d L) none) Set.univ (fetch (F := F) L src hs dst hd sm)
          fun _ => iprop((src.view.loc (thr d L) ↦{q} f)
            ∗ (dst.view.loc (thr d L) ↦{fullShare} dst.view.writes (Elt F) g [⟨Rect.whole s, src.view.read (Elt F) f⟩])
            ∗ semVal (thr d L, SemLoc.dma sm.sem) 0 ∗ owing (F := F) d L O W) := by
  have h := fetch_spec d L O W hn src hs dst hd q f g sm
  rw [hu] at h
  iintro ⟨#Hmw, Hsrc, Hdst, Hs, HO⟩
  ihave Hsrc := (pointsTo_split_subset (Finset.subset_univ src.view.set)).1 $$ Hsrc
  icases Hsrc with ⟨Hsrc, HsrcR⟩
  iapply wp_wand_r
  isplitr [HsrcR]
  · iapply h
    isplitr; · iexact Hmw
    isplitl [Hsrc]; · iexact Hsrc
    isplitl [Hdst]; · iexact Hdst
    isplitl [Hs] <;> iassumption
  iintro %_ ⟨Hsrc, Hdst, Hs, HO⟩
  isplitl [Hsrc HsrcR]
  · iapply (pointsTo_split_subset (Finset.subset_univ src.view.set)).2; isplitl [Hsrc] <;> iassumption
  isplitl [Hdst]; · iexact Hdst
  isplitl [Hs] <;> iassumption

/-! ## A chunk -/

section Chunk

variable (p : Memref sig .scVector .hbm S2048 .i32) (w : Memref sig .scVector .hbm S2048x128 .f32)
variable (q : PosShare TreeShare) (X : Buf (Elt F) ((xV).view.loc (thr d L))) (P : Buf (Elt F) (p.view.loc (thr d L))) (Q : Buf (Elt F) (w.view.loc (thr d L)))
variable (pf : S2048.Idx → BitVec 32) (wf : S2048x128.Idx → Elt F .f32)

/-- What a tile works with: shares of the rows, the positions and the weights, its elements of the sorted rows and
    weights with the tokens below `n` done, the scratch buffers at whatever they hold, the scatters' semaphore, the debt. -/
def work (sg : DmaSems sig S_) (n : ℕ) : sProp 𝕄 :=
  iprop(((xV).view.loc (thr d L) ↦{q} X) ∗ (p.view.loc (thr d L) ↦{q} P) ∗ (w.view.loc (thr d L) ↦{q} Q)
    ∗ (∃ g : Buf (Elt F) ((sV).view.loc (thr d L)), ⌜DoneX pf X (lane (L 0).val (L 1).val) n 0 0 g⌝ ∗ (sV).view.loc (thr d L) ↦[laneX pf (lane (L 0).val (L 1).val)]{fullShare} g)
    ∗ (∃ g : Buf (Elt F) ((tV).view.loc (thr d L)), ⌜DoneW pf wf (lane (L 0).val (L 1).val) n g⌝ ∗ (tV).view.loc (thr d L) ↦[laneW pf (lane (L 0).val (L 1).val)]{fullShare} g)
    ∗ (∃ f : Buf (Elt F) ((bV).view.loc (thr d L)), (bV).view.loc (thr d L) ↦{fullShare} f)
    ∗ (∃ f : Buf (Elt F) ((cV).view.loc (thr d L)), (cV).view.loc (thr d L) ↦{fullShare} f)
    ∗ (∃ f : Buf (Elt F) ((iV).view.loc (thr d L)), (iV).view.loc (thr d L) ↦{fullShare} f)
    ∗ semVal (thr d L, SemLoc.dma sg.sem) 0 ∗ owing (F := F) d L O W)

/-- The eight column scatters: the chunk's rows end done. -/
theorem cols_spec (hp : Own pf) (fi : Buf (Elt F) ((iV).view.loc (thr d L))) (hfi : ∀ x : S32.Idx, fi x = pf (ix1 (tok L j (x 0))))
    (fs : Buf (Elt F) ((bV).view.loc (thr d L))) (hfs : ∀ x : S32x1024.Idx, fs x = X (ix2 (tok L j (x 0)) (x 1)))
    (g : Buf (Elt F) ((sV).view.loc (thr d L))) (hg : DoneX pf X (lane (L 0).val (L 1).val) (tok0 L j) 0 0 g) (sg : DmaSems sig S_) :
    iprop(Transfers.MayWaits (thr d L) (default : HIx 2) O ∗ ((bV).view.loc (thr d L) ↦{fullShare} fs)
        ∗ ((sV).view.loc (thr d L) ↦[laneX pf (lane (L 0).val (L 1).val)]{fullShare} g) ∗ ((iV).view.loc (thr d L) ↦{fullShare} fi)
        ∗ semVal (thr d L, SemLoc.dma sg.sem) 0 ∗ owing (F := F) d L O W)
      ⊢ wp frame (wpE (defs₀ (F := F)) 𝒱₀ (thr d L) none) Set.univ
          (seqL (fun q => scatter (F := F) L (colB q bV) (View.wordExact_bits rfl) (colX q sV) (View.wordExact_bits rfl) iV sg) (List.finRange 8))
          fun _ => iprop(((bV).view.loc (thr d L) ↦{fullShare} fs)
            ∗ (∃ g : Buf (Elt F) ((sV).view.loc (thr d L)), ⌜DoneX pf X (lane (L 0).val (L 1).val) (tok0 L j + 32) 0 0 g⌝ ∗ (sV).view.loc (thr d L) ↦[laneX pf (lane (L 0).val (L 1).val)]{fullShare} g)
            ∗ ((iV).view.loc (thr d L) ↦{fullShare} fi)
            ∗ semVal (thr d L, SemLoc.dma sg.sem) 0 ∗ owing (F := F) d L O W) := by
  have hin : ∀ x : S32.Idx, (fi x : BitVec 32).toNat < S5120x128.size gax := fun x => by rw [hfi]; exact hp.lt _
  let I : ℕ → sProp 𝕄 := fun q => iprop(Transfers.MayWaits (thr d L) (default : HIx 2) O ∗ ((bV).view.loc (thr d L) ↦{fullShare} fs)
    ∗ (∃ g : Buf (Elt F) ((sV).view.loc (thr d L)), ⌜DoneX pf X (lane (L 0).val (L 1).val) (tok0 L j) (tok0 L j + 32) (128 * q) g⌝
        ∗ (sV).view.loc (thr d L) ↦[laneX pf (lane (L 0).val (L 1).val)]{fullShare} g)
    ∗ ((iV).view.loc (thr d L) ↦{fullShare} fi) ∗ semVal (thr d L, SemLoc.dma sg.sem) 0 ∗ owing (F := F) d L O W)
  have step : ∀ q : Fin 8, I q.val ⊢ wp frame (wpE (defs₀ (F := F)) 𝒱₀ (thr d L) none) Set.univ
      (scatter (F := F) L (colB q bV) (View.wordExact_bits rfl) (colX q sV) (View.wordExact_bits rfl) iV sg) fun _ => I (q.val + 1) := by
    intro q
    show iprop(_ ∗ _ ∗ (∃ g, _ ∗ _) ∗ _ ∗ _ ∗ _) ⊢ _
    iintro ⟨#Hmw, Hb, ⟨%g, %hg, Hx⟩, Hi, Hs, HO⟩
    iapply wp_wand_r
    isplitl [Hb Hx Hi Hs HO]
    · iapply (scatter_spec d L O W (colB q bV) (View.wordExact_bits rfl) (colX q sV) (View.wordExact_bits rfl) iV sg Finset.univ (laneX pf (lane (L 0).val (L 1).val)) Finset.univ
        (Finset.subset_univ _) (Finset.subset_univ _) fs g fi hin (rows_inj (F := F) L j pf hp fi hfi hin) (named_subX (F := F) d L j pf q fi hfi hin) (fun _ => rfl) (fun _ => rfl))
      isplitr; · iexact Hmw
      isplitl [Hb]; · iexact Hb
      isplitl [Hx]; · iexact Hx
      isplitl [Hi]; · iexact Hi
      isplitl [Hs] <;> iassumption
    iintro %_ ⟨Hb, Hx, Hi, Hs, HO⟩
    isplitr; · iexact Hmw
    isplitl [Hb]; · iexact Hb
    isplitl [Hx]
    · iexists _; isplitr
      swap; · iexact Hx
      ipureintro; exact stepX d L j pf hp X q fi hfi hin fs hfs g hg
    isplitl [Hi]; · iexact Hi
    isplitl [Hs] <;> iassumption
  iintro ⟨Hmw, Hb, Hx, Hi, Hs, HO⟩
  iapply wp_wand_r
  isplitl [Hmw Hb Hx Hi Hs HO]
  · iapply (wp_seqL _ _ _ _ I step)
    isplitl [Hmw]; · iexact Hmw
    isplitl [Hb]; · iexact Hb
    isplitl [Hx]
    · iexists g; isplitr
      swap; · iexact Hx
      ipureintro; intro x t hl ht hc; exact hg x t hl ht (by omega)
    isplitl [Hi]; · iexact Hi
    isplitl [Hs] <;> iassumption
  iintro %_ ⟨-, Hb, ⟨%g, %hg, Hx⟩, Hi, Hs, HO⟩
  isplitl [Hb]; · iexact Hb
  isplitl [Hx]
  · iexists g; isplitr
    swap; · iexact Hx
    ipureintro; intro x t hl ht hc
    have hx : (x 1).val < 1024 := (x 1).isLt
    exact hg x t hl ht (by omega)
  isplitl [Hi]; · iexact Hi
  isplitl [Hs] <;> iassumption

/-- The weights' scatter: the chunk's weights end done. -/
theorem weights_spec (hp : Own pf) (fi : Buf (Elt F) ((iV).view.loc (thr d L))) (hfi : ∀ x : S32.Idx, fi x = pf (ix1 (tok L j (x 0))))
    (fs : Buf (Elt F) ((cV).view.loc (thr d L))) (hfs : ∀ x : S32x128.Idx, fs x = wf (ix2 (tok L j (x 0)) (x 1)))
    (g : Buf (Elt F) ((tV).view.loc (thr d L))) (hg : DoneW pf wf (lane (L 0).val (L 1).val) (tok0 L j) g) (hs : (cV).view.WordExact) (sg : DmaSems sig S_) :
    iprop(Transfers.MayWaits (thr d L) (default : HIx 2) O ∗ ((cV).view.loc (thr d L) ↦{fullShare} fs)
        ∗ ((tV).view.loc (thr d L) ↦[laneW pf (lane (L 0).val (L 1).val)]{fullShare} g) ∗ ((iV).view.loc (thr d L) ↦{fullShare} fi)
        ∗ semVal (thr d L, SemLoc.dma sg.sem) 0 ∗ owing (F := F) d L O W)
      ⊢ wp frame (wpE (defs₀ (F := F)) 𝒱₀ (thr d L) none) Set.univ
          (scatter (F := F) L cV hs (allW tV) (View.wordExact_bits rfl) iV sg)
          fun _ => iprop(((cV).view.loc (thr d L) ↦{fullShare} fs)
            ∗ (∃ g : Buf (Elt F) ((tV).view.loc (thr d L)), ⌜DoneW pf wf (lane (L 0).val (L 1).val) (tok0 L j + 32) g⌝ ∗ (tV).view.loc (thr d L) ↦[laneW pf (lane (L 0).val (L 1).val)]{fullShare} g)
            ∗ ((iV).view.loc (thr d L) ↦{fullShare} fi)
            ∗ semVal (thr d L, SemLoc.dma sg.sem) 0 ∗ owing (F := F) d L O W) := by
  have hin : ∀ x : S32.Idx, (fi x : BitVec 32).toNat < S5120x128.size gax := fun x => by rw [hfi]; exact hp.lt _
  have key := scatter_spec d L O W cV hs (allW tV) (View.wordExact_bits rfl) iV sg Finset.univ (laneW pf (lane (L 0).val (L 1).val)) Finset.univ
    (Finset.subset_univ _) (Finset.subset_univ _) fs g fi hin (rows_inj (F := F) L j pf hp fi hfi hin) (named_subW (F := F) d L j pf fi hfi hin) (fun _ => rfl) (fun _ => rfl)
  iintro H
  iapply wp_wand_r
  isplitl [H]
  · iapply key $$ H
  iintro %_ ⟨Hb, Hx, Hi, Hs, HO⟩
  isplitl [Hb]; · iexact Hb
  isplitl [Hx]
  · iexists _; isplitr
    swap; · iexact Hx
    ipureintro; exact stepW d L j pf hp wf fi hfi hin fs hfs g hg
  isplitl [Hi]; · iexact Hi
  isplitl [Hs] <;> iassumption

/-- A buffer fetched whole holds what was fetched. -/
theorem read_fetched {sp : Space} {s : Shape} {e : EltTy} (v : View sig .scVector sp s e) (f : v.ty.Contents (Elt F)) (w : s.Idx → Elt F e) :
    v.read (Elt F) (v.writes (Elt F) f [⟨Rect.whole s, w⟩]) = w := by
  funext x
  exact View.read_writes_cons_hit_of_coords v f (Rect.whole s) w [] x x (fun a => by show (x a).val = 0 + 1 * (x a).val; omega)
theorem fetched_i (f : Buf (Elt F) ((iV).view.loc (thr d L))) (v : S32.Idx → BitVec 32) (x : S32.Idx) :
    (iV).view.writes (Elt F) f [⟨Rect.whole S32, v⟩] x = v x := congrFun (read_fetched (iV).view f v) x
theorem read_b (G : Buf (Elt F) ((bV).view.loc (thr d L))) : (bV).view.read (Elt F) G = G := rfl
theorem fetched_b (f : Buf (Elt F) ((bV).view.loc (thr d L))) (v : S32x1024.Idx → Elt F .f32) :
    (bV).view.writes (Elt F) f [⟨Rect.whole S32x1024, v⟩] = v := (read_b d L _).symm.trans (read_fetched (bV).view f v)
theorem fetched_c (f : Buf (Elt F) ((cV).view.loc (thr d L))) (v : S32x128.Idx → Elt F .f32) (x : S32x128.Idx) :
    (cV).view.writes (Elt F) f [⟨Rect.whole S32x128, v⟩] x = v x := congrFun (read_fetched (cV).view f v) x

/-- A window of the tokens, read. -/
theorem read_tokX (o : Fin 2 → ℕ) (h : ∀ a, o a + S32x1024.size a ≤ S2048x1024.size a) (e : o 0 = tok0 L j ∧ o 1 = 0) (X : Buf (Elt F) ((xV).view.loc (thr d L))) (x : S32x1024.Idx) :
    (tokX xV o h).view.read (Elt F) X x = X (ix2 (tok L j (x 0)) (x 1)) := by
  show X ((Rect.unit (s := S2048x1024) o S32x1024.size h).emb x) = _
  refine congrArg X ((Rect.unit (s := S2048x1024) o S32x1024.size h).emb_eq_of_coords x _ fun a => ?_)
  match a with
  | 0 => show tok0 L j + (x 0).val = o 0 + 1 * (x 0).val; rw [e.1]; omega
  | 1 => show (x 1).val = o 1 + 1 * (x 1).val; rw [e.2]; omega

/-- One chunk. -/
theorem chunk_spec (hp : Own pf) (hP : ∀ t, (p.view.read (Elt F) P t : BitVec 32) = pf t) (hQ : ∀ t, w.view.read (Elt F) Q t = wf t)
    (op : Fin 4 → Fin 1 → ℕ) (ho : ∀ j a, op j a + S32.size a ≤ S2048.size a) (ox : Fin 4 → Fin 2 → ℕ) (hx : ∀ j a, ox j a + S32x1024.size a ≤ S2048x1024.size a)
    (ow : Fin 4 → Fin 2 → ℕ) (hw : ∀ j a, ow j a + S32x128.size a ≤ S2048x128.size a)
    (eo : op j 0 = tok0 L j) (ex : ox j 0 = tok0 L j ∧ ox j 1 = 0) (ew : ow j 0 = tok0 L j ∧ ow j 1 = 0)
    (sg : DmaSems sig S_) (sp sx sw : Fin 4 → DmaSems sig S_) :
    iprop(Transfers.MayWaits (thr d L) (default : HIx 2) O ∗ work d L O W p w q X P Q pf wf sg (tok0 L j)
        ∗ semVal (thr d L, SemLoc.dma (sp j).sem) 0 ∗ semVal (thr d L, SemLoc.dma (sx j).sem) 0 ∗ semVal (thr d L, SemLoc.dma (sw j).sem) 0)
      ⊢ wp frame (wpE (defs₀ (F := F)) 𝒱₀ (thr d L) none) Set.univ
          (chunk (F := F) L xV p w sV tV bV (Memref.isWhole_whole _) cV (Memref.isWhole_whole _) iV (Memref.isWhole_whole _) sg sp sx sw op ho ox hx ow hw j)
          fun _ => iprop(work d L O W p w q X P Q pf wf sg (tok0 L j + 32)
            ∗ semVal (thr d L, SemLoc.dma (sp j).sem) 0 ∗ semVal (thr d L, SemLoc.dma (sx j).sem) 0 ∗ semVal (thr d L, SemLoc.dma (sw j).sem) 0) := by
  unfold chunk work
  rw [wp_bind]
  iintro ⟨#Hmw, ⟨Hx, Hp, Hw, ⟨%gx, %hgx, Hgx⟩, ⟨%gw, %hgw, Hgw⟩, ⟨%fb, Hb⟩, ⟨%fc, Hc⟩, ⟨%fi, Hi⟩, Hg, HO⟩, Hsp, Hsx, Hsw⟩
  iapply wp_wand_r
  isplitl [Hp Hi Hsp HO]
  · iapply (fetchW_spec d L O W (show 0 < S32.numel by decide) (tokI p (op j) (ho j)) (View.wordExact_bits rfl) iV (Memref.isWhole_whole _) (View.set_whole _) q P fi (sp j))
    isplitr; · iexact Hmw
    isplitl [Hp]; · iexact Hp
    isplitl [Hi]; · iexact Hi
    isplitl [Hsp] <;> iassumption
  iintro %_ ⟨Hp, Hi, Hsp, HO⟩
  rw [wp_bind]
  iapply wp_wand_r
  isplitl [Hx Hb Hsx HO]
  · iapply (fetchW_spec d L O W (show 0 < S32x1024.numel by decide) (tokX xV (ox j) (hx j)) (View.wordExact_bits rfl) bV (Memref.isWhole_whole _) (View.set_whole _) q X fb (sx j))
    isplitr; · iexact Hmw
    isplitl [Hx]; · iexact Hx
    isplitl [Hb]; · iexact Hb
    isplitl [Hsx] <;> iassumption
  iintro %_ ⟨Hx, Hb, Hsx, HO⟩
  rw [wp_bind]
  iapply wp_wand_r
  isplitl [Hw Hc Hsw HO]
  · iapply (fetchW_spec d L O W (show 0 < S32x128.numel by decide) (tokW w (ow j) (hw j)) (View.wordExact_bits rfl) cV (Memref.isWhole_whole _) (View.set_whole _) q Q fc (sw j))
    isplitr; · iexact Hmw
    isplitl [Hw]; · iexact Hw
    isplitl [Hc]; · iexact Hc
    isplitl [Hsw] <;> iassumption
  iintro %_ ⟨Hw, Hc, Hsw, HO⟩
  generalize hfi' : (iV).view.writes (Elt F) fi [⟨Rect.whole S32, (tokI p (op j) (ho j)).view.read (Elt F) P⟩] = fi'
  generalize hfb' : (bV).view.writes (Elt F) fb [⟨Rect.whole S32x1024, (tokX xV (ox j) (hx j)).view.read (Elt F) X⟩] = fb'
  generalize hfc' : (cV).view.writes (Elt F) fc [⟨Rect.whole S32x128, (tokW w (ow j) (hw j)).view.read (Elt F) Q⟩] = fc'
  have hfi : ∀ x : S32.Idx, fi' x = pf (ix1 (tok L j (x 0))) := fun x => by
    rw [← hfi']
    refine (fetched_i d L fi _ x).trans ?_
    show p.view.read (Elt F) P ((Rect.unit (s := S2048) (op j) S32.size (ho j)).emb x) = _
    rw [hP]
    refine congrArg pf ((Rect.unit (s := S2048) (op j) S32.size (ho j)).emb_eq_of_coords x _ fun a => ?_)
    match a with | 0 => show tok0 L j + (x 0).val = op j 0 + 1 * (x 0).val; rw [eo]; omega
  have hfb : ∀ x : S32x1024.Idx, fb' x = X (ix2 (tok L j (x 0)) (x 1)) := fun x => by
    rw [← hfb']
    exact (congrFun (fetched_b d L fb _) x).trans (read_tokX d L j (ox j) (hx j) ex X x)
  have hfc : ∀ x : S32x128.Idx, fc' x = wf (ix2 (tok L j (x 0)) (x 1)) := fun x => by
    rw [← hfc']
    refine (fetched_c d L fc _ x).trans ?_
    show w.view.read (Elt F) Q ((Rect.unit (s := S2048x128) (ow j) S32x128.size (hw j)).emb x) = _
    rw [hQ]
    refine congrArg wf ((Rect.unit (s := S2048x128) (ow j) S32x128.size (hw j)).emb_eq_of_coords x _ fun a => ?_)
    match a with
    | 0 => show tok0 L j + (x 0).val = ow j 0 + 1 * (x 0).val; rw [ew.1]; omega
    | 1 => show (x 1).val = ow j 1 + 1 * (x 1).val; rw [ew.2]; omega
  rw [wp_bind]
  iapply wp_wand_r
  isplitl [Hb Hgx Hi Hg HO]
  · iapply (cols_spec d L j O W X pf hp fi' hfi fb' hfb gx hgx sg)
    isplitr; · iexact Hmw
    isplitl [Hb]; · iexact Hb
    isplitl [Hgx]; · iexact Hgx
    isplitl [Hi]; · iexact Hi
    isplitl [Hg] <;> iassumption
  iintro %_ ⟨Hb, Hgx, Hi, Hg, HO⟩
  iapply wp_wand_r
  isplitl [Hc Hgw Hi Hg HO]
  · iapply (weights_spec d L j O W pf wf hp fi' hfi fc' hfc gw hgw _ sg)
    isplitr; · iexact Hmw
    isplitl [Hc]; · iexact Hc
    isplitl [Hgw]; · iexact Hgw
    isplitl [Hi]; · iexact Hi
    isplitl [Hg] <;> iassumption
  iintro %_ ⟨Hc, Hgw, Hi, Hg, HO⟩
  isplitr [Hsp Hsx Hsw]
  · isplitl [Hx]; · iexact Hx
    isplitl [Hp]; · iexact Hp
    isplitl [Hw]; · iexact Hw
    isplitl [Hgx]; · iexact Hgx
    isplitl [Hgw]; · iexact Hgw
    isplitl [Hb]; · iexists _; iexact Hb
    isplitl [Hc]; · iexists _; iexact Hc
    isplitl [Hi]; · iexists _; iexact Hi
    isplitl [Hg] <;> iassumption
  isplitl [Hsp]; · iexact Hsp
  isplitl [Hsx] <;> iassumption

end Chunk

end Pieces

end Cert.Proof.Disp

end
-- ==== Proof.Comb.Launch.lean ====
/-
  The combine's launch: two SparseCores of sixteen tiles, each tile with a share of the expert rows and of the two
  position lists and its own rows of the result.
-/
module

public import proofs.«01_k».proof.Proof.Comb.Tile

@[expose] public section

noncomputable section

namespace Cert.Proof.Comb

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The program as the launch theorem sees it -/

abbrev ΛP : Labels := Pipeline.Sig Λ₀ (Fin 1) fun p => (pcfgs (F := F) p).Adm
abbrev K : SparseCore.Cfg τ sig (ΛP (F := F)) 2 := sc (F := F)
abbrev D : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx 2) (Elt F) ℕ UU ℕ

abbrev EH : Emb UH (MT nD τ sig (HIx 2) (Elt F) ℕ UU ℕ) := embL

/-- The pipeline's rounds library's place in the resource algebra. -/
def EP : Emb UP (MT nD τ sig (HIx 2) (Elt F) ℕ UU ℕ) :=
  ((Emb.inl : Emb UP (UP × Counters)).trans (Emb.inr : Emb (UP × Counters) UU)).trans
    (uEmb (nD := nD) (τ := τ) (sig := sig) (Ix := HIx 2) (Val := Elt F) (Name := ℕ) (U := UU) (Lvl := ℕ)).toEmb
instance EP_landsIn : (EP : Emb UP 𝕄).LandsIn (upEmb : UEmb _ 𝕄) := by unfold EP; infer_instance

local notation "yV" => (Memref.whole Cert.KernelIdeal.main_v4_scv : Memref Cert.KernelIdeal.sig Kind.scVector Space.hbm Cert.KernelIdeal.S5120x1024 EltTy.f32)
local notation "aV" => (Memref.whole Cert.KernelIdeal.main_arg1_scv : Memref Cert.KernelIdeal.sig Kind.scVector Space.hbm Cert.KernelIdeal.S2048 EltTy.i32)
local notation "bV" => (Memref.whole Cert.KernelIdeal.main_arg2_scv : Memref Cert.KernelIdeal.sig Kind.scVector Space.hbm Cert.KernelIdeal.S2048 EltTy.i32)
local notation "oV" => (Memref.whole Cert.KernelIdeal.main_v5_scv : Memref Cert.KernelIdeal.sig Kind.scVector Space.hbm Cert.KernelIdeal.S2048x1024 EltTy.f32)
local notation "rV" => (Memref.whole Cert.KernelIdeal.cc2_scratch0 : Memref Cert.KernelIdeal.sig Kind.scVector Space.vmem Cert.KernelIdeal.S32x1024 EltTy.f32)
local notation "iV" => (Memref.whole Cert.KernelIdeal.cc2_scratch1 : Memref Cert.KernelIdeal.sig Kind.scVector Space.vmem Cert.KernelIdeal.S32 EltTy.i32)
local notation "vV" => (Memref.whole Cert.KernelIdeal.cc2_scratch2 : Memref Cert.KernelIdeal.sig Kind.scVector Space.vmem Cert.KernelIdeal.S16x1024 EltTy.f32)

/-! ## The buffers, and who holds what -/

abbrev yLoc (d : Dev nD) : Loc nD τ sig := (SparseCore.T d).loc main_v4
abbrev aLoc (d : Dev nD) : Loc nD τ sig := (SparseCore.T d).loc main_arg1
abbrev bLoc (d : Dev nD) : Loc nD τ sig := (SparseCore.T d).loc main_arg2
abbrev oLoc (d : Dev nD) : Loc nD τ sig := (SparseCore.T d).loc main_v5

/-- A SparseCore's share of an operand, and a tile's share of that. -/
abbrev qc (c : Fin 2) : PosShare TreeShare := pieceOf fullShare 2 (by decide) c
abbrev qt (c : Fin 2) (s : Fin 16) : PosShare TreeShare := pieceOf (qc c) 16 (by decide) s

section Hands

variable (Y : (d : Dev nD) → Buf (Elt F) (yLoc d)) (A : (d : Dev nD) → Buf (Elt F) (aLoc d)) (B : (d : Dev nD) → Buf (Elt F) (bLoc d)) (d : Dev nD)

/-- A share of each operand, and part of the result at some contents. -/
def hold (q : PosShare TreeShare) (s : Finset (Idx (oLoc d))) (f : Buf (Elt F) (oLoc d)) : sProp 𝕄 :=
  iprop((yLoc d ↦{q} Y d) ∗ (aLoc d ↦{q} A d) ∗ (bLoc d ↦{q} B d) ∗ oLoc d ↦[s]{fullShare} f)

instance hold_storable (q : PosShare TreeShare) (s : Finset (Idx (oLoc d))) (f : Buf (Elt F) (oLoc d)) :
    BI.Storable (upEmb : UEmb _ 𝕄) (hold Y A B d q s f) := by unfold hold; infer_instance

/-- Split over parts: the operands' shares in pieces, the result's part in disjoint parts. -/
theorem hold_split {n : ℕ} (hn : 0 < n) (q : PosShare TreeShare) (s : Finset (Idx (oLoc d))) (f : Buf (Elt F) (oLoc d)) (t : Fin n → Finset (Idx (oLoc d)))
    (ht : ∀ i ∈ (Finset.univ : Finset (Fin n)), ∀ j ∈ (Finset.univ : Finset (Fin n)), i ≠ j → Disjoint (t i) (t j)) (hs : Finset.univ.biUnion t = s) :
    hold Y A B d q s f = bigSep Finset.univ fun i : Fin n => hold Y A B d (pieceOf q n hn i) (t i) f := by
  unfold hold
  rw [bigSep_sep', bigSep_sep', bigSep_sep', ← pointsTo_piecesOf, ← pointsTo_piecesOf, ← pointsTo_piecesOf, ← hs, pointsTo_biUnion Finset.univ (ℓ := oLoc d) t ht]

end Hands

section Pay

variable (Y : (d : Dev nD) → Buf (Elt F) (yLoc d)) (A : (d : Dev nD) → Buf (Elt F) (aLoc d)) (B : (d : Dev nD) → Buf (Elt F) (bLoc d)) (O₀ : (d : Dev nD) → Buf (Elt F) (oLoc d))

/-- The combined rows of a device. -/
abbrev out (d : Dev nD) : Buf (Elt F) (oLoc d) := comb (Y d) (A d) (B d)

/-- Every position names an expert row. -/
def InRange : Prop := ∀ d, (∀ t, (A d t : BitVec 32).toNat < 5120) ∧ ∀ t, (B d t : BitVec 32).toNat < 5120

/-! ## A tile's semaphores and buffers -/

section Tile

variable (d : Dev nD) (L : grid2.Coords)

def semA : Fin 4 → DmaSems sig S_ := ![cc2_scoped0, cc2_scoped3, cc2_scoped6, cc2_scoped9]
def semB : Fin 4 → DmaSems sig S_ := ![cc2_scoped1, cc2_scoped4, cc2_scoped7, cc2_scoped10]
def semC : Fin 4 → DmaSems sig S_ := ![cc2_scoped2, cc2_scoped5, cc2_scoped8, cc2_scoped11]

/-- The copies' semaphores, by chunk and kind. -/
def semOf (p : Fin 4 × Fin 3) : SemLoc sig := .dma ((![semA, semB, semC] : Fin 3 → Fin 4 → DmaSems sig S_) p.2 p.1).sem

theorem semOf_inj : Function.Injective semOf := by decide
theorem semOf_scoped : ∀ p, (semOf p).isScoped .scVector = true := by decide
theorem semOf_ne : ∀ p, semOf p ≠ .dma cc2_scratch3.sem := by decide
theorem semG_scoped : (SemLoc.dma cc2_scratch3.sem : SemLoc sig).isScoped .scVector = true := by decide

def semEmb : Fin 4 × Fin 3 ↪ GSem nD τ sig := ⟨fun p => (thr d L, semOf p), fun p p' h => semOf_inj (congrArg Prod.snd h)⟩

/-- What is left of the tile's semaphores. -/
abbrev semsRest : Finset (GSem nD τ sig) := ((ownCells (thr d L)).erase (thr d L, .dma cc2_scratch3.sem)) \ Finset.univ.map (semEmb d L)

theorem fin3 {M : Type} [URA M] (Φ : Fin 3 → sProp M) : bigSep Finset.univ Φ = iprop(Φ 0 ∗ Φ 1 ∗ Φ 2) := by
  rw [show (Finset.univ : Finset (Fin 3)) = {0, 1, 2} by decide, SparseCore.bigSep_insert' (by decide), SparseCore.bigSep_insert' (by decide), bigSep_singleton]

theorem ownSems0_V :
    (ownSems0 (thr d L) : sProp 𝕄)
      = iprop(semVal (thr d L, SemLoc.dma cc2_scratch3.sem) 0
          ∗ (bigSep Finset.univ fun j : Fin 4 => iprop(semVal (thr d L, SemLoc.dma (semA j).sem) 0 ∗ semVal (thr d L, SemLoc.dma (semB j).sem) 0 ∗ semVal (thr d L, SemLoc.dma (semC j).sem) 0))
          ∗ bigSep (semsRest d L) fun g => semVal g 0) := by
  unfold SparseCore.Cfg.ownSems0
  rw [SparseCore.bigSep_erase' ((mem_ownCells (g := ((thr d L, .dma cc2_scratch3.sem) : GSem nD τ sig))).mpr ⟨rfl, semG_scoped⟩)]
  have hsub : Finset.univ.map (semEmb d L) ⊆ (ownCells (thr d L)).erase (thr d L, .dma cc2_scratch3.sem) := by
    intro g hg
    obtain ⟨p, -, rfl⟩ := Finset.mem_map.mp hg
    exact Finset.mem_erase.mpr ⟨fun h => semOf_ne p (congrArg Prod.snd h), mem_ownCells.mpr ⟨rfl, semOf_scoped p⟩⟩
  have e := bigSep_sdiff_split hsub (Φ := fun g => (semVal g 0 : sProp 𝕄))
  refine congrArg (fun R : sProp 𝕄 => iprop(semVal (thr d L, SemLoc.dma cc2_scratch3.sem) 0 ∗ R)) (e.trans ?_)
  rw [bigSep_map, bigSep_univ_prod]
  refine congrArg (fun R : sProp 𝕄 => iprop(R ∗ bigSep (semsRest d L) fun g => semVal g 0)) (bigSep_congr fun j _ => ?_)
  exact fin3 _

theorem ownBufs_V :
    (ownBufs (thr d L) : sProp 𝕄)
      = iprop((∃ f, (thr d L).loc cc2_scratch0 ↦{fullShare} f) ∗ (∃ f, (thr d L).loc cc2_scratch1 ↦{fullShare} f) ∗ (∃ f, (thr d L).loc cc2_scratch2 ↦{fullShare} f)
          ∗ bigSep ((((ownRefs (τ := τ) (.scVector (cV L) (jV L))).erase ((Proc.scVector (cV L) (jV L)).devRef cc2_scratch0)).erase
              ((Proc.scVector (cV L) (jV L)).devRef cc2_scratch1)).erase ((Proc.scVector (cV L) (jV L)).devRef cc2_scratch2))
              fun b => iprop(∃ f, ((d, b) : Loc nD τ sig) ↦{fullShare} f)) := by
  unfold SparseCore.Cfg.ownBufs
  have ne {b b' : Ref sig .scVector} (h : b ≠ b') : (Proc.scVector (τ := τ) (cV L) (jV L)).devRef b ≠ (Proc.scVector (cV L) (jV L)).devRef b' :=
    fun e => h (Proc.devRef_injective _ e)
  have own0 := SparseCore.Cfg.mem_ownRefs_of_owner (p := Proc.scVector (cV L) (jV L)) (b := (Proc.scVector (cV L) (jV L)).devRef cc2_scratch0) rfl
  have own1 := SparseCore.Cfg.mem_ownRefs_of_owner (p := Proc.scVector (cV L) (jV L)) (b := (Proc.scVector (cV L) (jV L)).devRef cc2_scratch1) rfl
  have own2 := SparseCore.Cfg.mem_ownRefs_of_owner (p := Proc.scVector (cV L) (jV L)) (b := (Proc.scVector (cV L) (jV L)).devRef cc2_scratch2) rfl
  refine (SparseCore.bigSep_erase' own0).trans ?_
  rw [SparseCore.bigSep_erase' (Finset.mem_erase.mpr ⟨ne (show (cc2_scratch1 : Ref sig .scVector) ≠ cc2_scratch0 by decide), own1⟩),
    SparseCore.bigSep_erase' (Finset.mem_erase.mpr ⟨ne (show (cc2_scratch2 : Ref sig .scVector) ≠ cc2_scratch1 by decide),
      Finset.mem_erase.mpr ⟨ne (show (cc2_scratch2 : Ref sig .scVector) ≠ cc2_scratch0 by decide), own2⟩⟩)]

/-! ## A tile's run -/

variable (q : PosShare TreeShare) (O : CellTallies nD τ sig (HIx 2)) (W : Waits sig (HIx 2))

/-- Chunk `j`'s own semaphores, and its rows of the result at the combined rows once the chunk is done (`j < k`). -/
def chunkRes (k : ℕ) (j : Fin 4) : sProp 𝕄 :=
  iprop((semVal (thr d L, SemLoc.dma (semA j).sem) 0 ∗ semVal (thr d L, SemLoc.dma (semB j).sem) 0 ∗ semVal (thr d L, SemLoc.dma (semC j).sem) 0)
    ∗ ((oV).view.loc (thr d L) ↦[chunkSet (L 0).val (L 1).val j.val]{fullShare} (if j.val < k then out Y A B d else O₀ d)))

theorem chunkRes_succ (j j' : Fin 4) (h : j' ≠ j) : chunkRes Y A B O₀ d L j.val j' = chunkRes Y A B O₀ d L (j.val + 1) j' := by
  have hv : j'.val ≠ j.val := fun e => h (Fin.ext e)
  unfold chunkRes
  rw [show (if j'.val < j.val + 1 then out Y A B d else O₀ d) = if j'.val < j.val then out Y A B d else O₀ d from if_congr (by omega) rfl rfl]

/-- One of `n` parts, and the others. -/
theorem bigSep_part {n : ℕ} (j : Fin n) (Φ : Fin n → sProp 𝕄) : bigSep Finset.univ Φ = iprop(Φ j ∗ bigSep (Finset.univ.erase j) Φ) := bigSep_univ_split j

/-- The four chunks in order. -/
theorem chunks_spec (h : InRange A B) :
    iprop(Transfers.MayWaits (thr d L) (default : HIx 2) O ∗ work d L O W q q q (Y d) (A d) (B d) cc2_scratch3 ∗ bigSep Finset.univ (chunkRes Y A B O₀ d L 0))
      ⊢ wp frame (wpE (defs₀ (F := F)) 𝒱₀ (thr d L) none) Set.univ
          (seqL (chunk (F := F) L yV aV bV oV rV iV vV (Memref.isWhole_whole _) cc2_scratch3 semA semB semC) (List.finRange 4))
          fun _ => iprop(Transfers.MayWaits (thr d L) (default : HIx 2) O ∗ work d L O W q q q (Y d) (A d) (B d) cc2_scratch3 ∗ bigSep Finset.univ (chunkRes Y A B O₀ d L 4)) := by
  refine wp_seqL _ _ _ _ (fun k => iprop(Transfers.MayWaits (thr d L) (default : HIx 2) O ∗ work d L O W q q q (Y d) (A d) (B d) cc2_scratch3
    ∗ bigSep Finset.univ (chunkRes Y A B O₀ d L k))) fun j => ?_
  rw [bigSep_part j (chunkRes Y A B O₀ d L j.val), bigSep_part j (chunkRes Y A B O₀ d L (j.val + 1)),
    bigSep_congr (s := Finset.univ.erase j) (Φ := chunkRes Y A B O₀ d L j.val) fun j' hj' => chunkRes_succ Y A B O₀ d L j j' (Finset.ne_of_mem_erase hj')]
  rw [show chunkRes Y A B O₀ d L j.val j = _ from rfl, show chunkRes Y A B O₀ d L (j.val + 1) j = _ from rfl]
  unfold chunkRes
  rw [if_neg (Nat.lt_irrefl j.val), if_pos (Nat.lt_succ_self j.val)]
  iintro ⟨#Hmw, Hw, ⟨⟨Ha, Hb, Hc⟩, Ho⟩, Hrest⟩
  iapply wp_wand_r
  isplitl [Hw Ha Hb Hc Ho]
  · iapply (chunk_spec d L j O W q q q (Y d) (A d) (B d) (h d).1 (h d).2 cc2_scratch3 semA semB semC (O₀ d))
    isplitr; · iexact Hmw
    isplitl [Hw]; · iexact Hw
    isplitl [Ha]; · iexact Ha
    isplitl [Hb]; · iexact Hb
    isplitl [Hc] <;> iassumption
  iintro %_ ⟨Hw, Ha, Hb, Hc, Ho⟩
  isplitr; · iexact Hmw
  isplitl [Hw]; · iexact Hw
  isplitr [Hrest]
  · isplitr [Ho]
    · isplitl [Ha]; · iexact Ha
      isplitl [Hb] <;> iassumption
    · iexact Ho
  iexact Hrest

/-- A tile's rows of the result are its chunks'. -/
theorem rows_chunks (f : Buf (Elt F) (oLoc d)) :
    (oLoc d ↦[tileSet (L 0).val (L 1).val]{fullShare} f : sProp 𝕄)
      = bigSep Finset.univ fun j : Fin 4 => (oV).view.loc (thr d L) ↦[chunkSet (L 0).val (L 1).val j.val]{fullShare} f := by
  rw [← chunk_cover]
  exact pointsTo_biUnion Finset.univ (ℓ := oLoc d) (fun j : Fin 4 => chunkSet (L 0).val (L 1).val j.val) (chunk_disjoint _ _)

/-- A tile's chunks, none done and all done. -/
theorem chunkRes_all (k : ℕ) (f : Buf (Elt F) (oLoc d)) (hf : ∀ j : Fin 4, (if j.val < k then out Y A B d else O₀ d) = f) :
    bigSep Finset.univ (chunkRes Y A B O₀ d L k)
      = iprop((bigSep Finset.univ fun j : Fin 4 => iprop(semVal (thr d L, SemLoc.dma (semA j).sem) 0 ∗ semVal (thr d L, SemLoc.dma (semB j).sem) 0 ∗ semVal (thr d L, SemLoc.dma (semC j).sem) 0))
          ∗ oLoc d ↦[tileSet (L 0).val (L 1).val]{fullShare} f) := by
  rw [rows_chunks, ← bigSep_sep']
  refine bigSep_congr fun j _ => ?_
  unfold chunkRes
  rw [hf j]

/-- The task of the tile at mesh coordinates `L`. -/
theorem tile_body (hF : (K (F := F)).Facts) (h : InRange A B) (hO : ∀ g, O g none = 0) :
    iprop(levAts (K (F := F)).L (K (F := F)).lev ∗ emp ∗ hold Y A B d q (tileSet (L 0).val (L 1).val) (O₀ d)
        ∗ scopedBufs (thr d L) ∗ scopedSems0 (thr d L) ∗ owes (thr d L) O W)
      ⊢ wp frame (wpE (defs₀ (F := F)) 𝒱₀ (thr d L) none) Set.univ
          (cc2_k L yV (Memref.isWhole_whole _) aV (Memref.isWhole_whole _) bV (Memref.isWhole_whole _) oV (Memref.isWhole_whole _)
            rV (Memref.isWhole_whole _) iV (Memref.isWhole_whole _) vV (Memref.isWhole_whole _) cc2_scratch3 cc2_scoped0 cc2_scoped1 cc2_scoped2
            cc2_scoped3 cc2_scoped4 cc2_scoped5 cc2_scoped6 cc2_scoped7 cc2_scoped8 cc2_scoped9 cc2_scoped10 cc2_scoped11)
          fun _ => iprop(hold Y A B d q (tileSet (L 0).val (L 1).val) (out Y A B d)
            ∗ scopedBufs (thr d L) ∗ scopedSems0 (thr d L) ∗ ∃ W', ⌜∀ p ∈ W', p ∈ W ∨ p.2 = none⌝ ∗ owes (thr d L) O W') := by
  rw [cc2_k_eq, (K (F := F)).scopedBufs_V hF d (cV L) (jV L), SparseCore.Cfg.scopedSems0_V (Val := Elt F) d (cV L) (jV L), ownSems0_V, ownBufs_V]
  unfold hold
  iintro ⟨#Hlv, -, ⟨Hy, Ha, Hb, Ho⟩, ⟨⟨%fr, Hr⟩, ⟨%fi, Hi⟩, ⟨%fv, Hv⟩, Hbufs⟩, ⟨Hg, Hsem, Hsems⟩, HO⟩
  ihave Hmw := (show levAts (K (F := F)).L (K (F := F)).lev ⊢ Transfers.MayWaits (thr d L) (default : HIx 2) O from
    (K (F := F)).mayWaits_none (thr := thr d L) hO) $$ Hlv
  iapply wp_wand_r
  isplitl [Hmw Hy Ha Hb Ho Hr Hi Hv Hg Hsem HO]
  · iapply (chunks_spec Y A B O₀ d L q O W h)
    isplitl [Hmw]; · iexact Hmw
    isplitr [Hsem Ho]
    · unfold work
      isplitl [Hy]; · iexact Hy
      isplitl [Ha]; · iexact Ha
      isplitl [Hb]; · iexact Hb
      isplitl [Hr]; · iexists fr; iexact Hr
      isplitl [Hi]; · iexists fi; iexact Hi
      isplitl [Hv]; · iexists fv; iexact Hv
      isplitl [Hg]; · iexact Hg
      unfold owing; iexists W; isplitr
      · ipureintro; exact fun p hp => .inl hp
      · iexact HO
    rw [chunkRes_all Y A B O₀ d L 0 (O₀ d) (fun j => if_neg (Nat.not_lt_zero _))]
    isplitl [Hsem] <;> iassumption
  iintro %_ ⟨-, Hw, Hc⟩
  ihave Hc' := (Entails.of_eq (chunkRes_all Y A B O₀ d L 4 (out Y A B d) (fun j => if_pos j.isLt))) $$ Hc
  icases Hc' with ⟨Hsem, Ho⟩
  unfold work owing
  icases Hw with ⟨Hy, Ha, Hb, ⟨%fr, Hr⟩, ⟨%fi, Hi⟩, ⟨%fv, Hv⟩, Hg, HO⟩
  isplitl [Hy Ha Hb Ho]
  · isplitl [Hy]; · iexact Hy
    isplitl [Ha]; · iexact Ha
    isplitl [Hb] <;> iassumption
  isplitl [Hr Hi Hv Hbufs]
  · isplitl [Hr]; · iexists fr; iexact Hr
    isplitl [Hi]; · iexists fi; iexact Hi
    isplitl [Hv]; · iexists fv; iexact Hv
    iexact Hbufs
  isplitl [Hg Hsem Hsems]
  · isplitl [Hg]; · iexact Hg
    isplitl [Hsem] <;> iassumption
  iexact HO

/-! ## The obligations -/

def coordsV (c : Fin (grid2.bound 0)) (s : Fin (grid2.bound 1)) : grid2.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 2 ()
      = SparseCore.onTile hcore2 hsub2 (fun c s => cc2_k (coordsV c s)
          yV (Memref.isWhole_whole _) aV (Memref.isWhole_whole _) bV (Memref.isWhole_whole _) oV (Memref.isWhole_whole _)
          rV (Memref.isWhole_whole _) iV (Memref.isWhole_whole _) vV (Memref.isWhole_whole _) cc2_scratch3 cc2_scoped0 cc2_scoped1 cc2_scoped2
          cc2_scoped3 cc2_scoped4 cc2_scoped5 cc2_scoped6 cc2_scoped7 cc2_scoped8 cc2_scoped9 cc2_scoped10 cc2_scoped11) ⟨⟩ c s := rfl

end Tile

end Pay

end Cert.Proof.Comb

end
-- ==== Proof.Disp.Launch.lean ====
/-
  The dispatch's launch: two SparseCores of sixteen tiles, each tile with a share of the rows, the position lists and the
  weights, and outright the elements of the sorted rows and weights that its own tokens name.
-/
module

public import proofs.«01_k».proof.Proof.Disp.Tile
public import proofs.«01_k».proof.Proof.Comb.Launch

@[expose] public section

noncomputable section

namespace Cert.Proof.Disp

open Cert.KernelIdeal Cert.KernelIdeal.Gen
open Cert.Proof.Comb (seqL UH UP UU 𝒱₀ wp_seqL ΛP K D facts fin3 bigSep_part)

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

local notation "xV" => (Memref.whole Cert.KernelIdeal.main_arg0_scv : Memref Cert.KernelIdeal.sig Kind.scVector Space.hbm Cert.KernelIdeal.S2048x1024 EltTy.f32)
local notation "p0V" => (Memref.whole Cert.KernelIdeal.main_arg1_scv : Memref Cert.KernelIdeal.sig Kind.scVector Space.hbm Cert.KernelIdeal.S2048 EltTy.i32)
local notation "p1V" => (Memref.whole Cert.KernelIdeal.main_arg2_scv : Memref Cert.KernelIdeal.sig Kind.scVector Space.hbm Cert.KernelIdeal.S2048 EltTy.i32)
local notation "w0V" => (Memref.whole Cert.KernelIdeal.main_arg3_scv : Memref Cert.KernelIdeal.sig Kind.scVector Space.hbm Cert.KernelIdeal.S2048x128 EltTy.f32)
local notation "w1V" => (Memref.whole Cert.KernelIdeal.main_arg4_scv : Memref Cert.KernelIdeal.sig Kind.scVector Space.hbm Cert.KernelIdeal.S2048x128 EltTy.f32)
local notation "sV" => (Memref.whole Cert.KernelIdeal.main_v0_0_scv : Memref Cert.KernelIdeal.sig Kind.scVector Space.hbm Cert.KernelIdeal.S5120x1024 EltTy.f32)
local notation "tV" => (Memref.whole Cert.KernelIdeal.main_v0_1_scv : Memref Cert.KernelIdeal.sig Kind.scVector Space.hbm Cert.KernelIdeal.S5120x128 EltTy.f32)
local notation "bV" => (Memref.whole Cert.KernelIdeal.cc0_scratch0 : Memref Cert.KernelIdeal.sig Kind.scVector Space.vmem Cert.KernelIdeal.S32x1024 EltTy.f32)
local notation "cV" => (Memref.whole Cert.KernelIdeal.cc0_scratch1 : Memref Cert.KernelIdeal.sig Kind.scVector Space.vmem Cert.KernelIdeal.S32x128 EltTy.f32)
local notation "iV" => (Memref.whole Cert.KernelIdeal.cc0_scratch2 : Memref Cert.KernelIdeal.sig Kind.scVector Space.vmem Cert.KernelIdeal.S32 EltTy.i32)

/-! ## What the dispatch computes -/

/-- Both lists name rows below 5120, no row twice. -/
structure PosOK (p0 p1 : S2048.Idx → BitVec 32) : Prop where
  own0 : Own p0
  own1 : Own p1
  apart : ∀ t t' : Fin 2048, (p0 (ix1 t)).toNat ≠ (p1 (ix1 t')).toNat

open scoped Classical in
/-- An array of 5120 rows after the dispatch: a row that a position names is its token's, every other as it was. -/
def placed {n : ℕ} (p0 p1 : S2048.Idx → BitVec 32) (a0 a1 : (⟨2, ![2048, n]⟩ : Shape).Idx → Elt F .f32) (z : (⟨2, ![5120, n]⟩ : Shape).Idx → Elt F .f32) :
    (⟨2, ![5120, n]⟩ : Shape).Idx → Elt F .f32 := fun x =>
  if h : ∃ t : Fin 2048, (p0 (ix1 t)).toNat = (x 0).val then a0 (ix2 h.choose (x 1))
  else if h : ∃ t : Fin 2048, (p1 (ix1 t)).toNat = (x 0).val then a1 (ix2 h.choose (x 1)) else z x

section Placed
variable {n : ℕ} {p0 p1 : S2048.Idx → BitVec 32} (hp : PosOK p0 p1) (a0 a1 : (⟨2, ![2048, n]⟩ : Shape).Idx → Elt F .f32) (z : (⟨2, ![5120, n]⟩ : Shape).Idx → Elt F .f32)
include hp

theorem placed_first (x : (⟨2, ![5120, n]⟩ : Shape).Idx) (t : Fin 2048) (h : (p0 (ix1 t)).toNat = (x 0).val) : placed p0 p1 a0 a1 z x = a0 (ix2 t (x 1)) := by
  have hex : ∃ t : Fin 2048, (p0 (ix1 t)).toNat = (x 0).val := ⟨t, h⟩
  unfold placed; rw [dif_pos hex]
  rw [hp.own0.inj _ _ (hex.choose_spec.trans h.symm)]
theorem placed_second (x : (⟨2, ![5120, n]⟩ : Shape).Idx) (t : Fin 2048) (h : (p1 (ix1 t)).toNat = (x 0).val) : placed p0 p1 a0 a1 z x = a1 (ix2 t (x 1)) := by
  have hno : ¬∃ t : Fin 2048, (p0 (ix1 t)).toNat = (x 0).val := fun ⟨t', h'⟩ => hp.apart t' t (h'.trans h.symm)
  have hex : ∃ t : Fin 2048, (p1 (ix1 t)).toNat = (x 0).val := ⟨t, h⟩
  unfold placed; rw [dif_neg hno, dif_pos hex]
  rw [hp.own1.inj _ _ (hex.choose_spec.trans h.symm)]
omit hp in
theorem placed_other (x : (⟨2, ![5120, n]⟩ : Shape).Idx) (h0 : ∀ t : Fin 2048, (p0 (ix1 t)).toNat ≠ (x 0).val) (h1 : ∀ t : Fin 2048, (p1 (ix1 t)).toNat ≠ (x 0).val) :
    placed p0 p1 a0 a1 z x = z x := by
  unfold placed; rw [dif_neg fun ⟨t, h⟩ => h0 t h, dif_neg fun ⟨t, h⟩ => h1 t h]

end Placed

/-! ## Who owns what -/

/-- The list a tile works on. -/
def posOf (p0 p1 : S2048.Idx → BitVec 32) (s : ℕ) : S2048.Idx → BitVec 32 := if s < 8 then p0 else p1
def tileX (p0 p1 : S2048.Idx → BitVec 32) (c s : ℕ) : Finset S5120x1024.Idx := laneX (posOf p0 p1 s) (lane c s)
def tileW (p0 p1 : S2048.Idx → BitVec 32) (c s : ℕ) : Finset S5120x128.Idx := laneW (posOf p0 p1 s) (lane c s)
def coreX (p0 p1 : S2048.Idx → BitVec 32) (c : ℕ) : Finset S5120x1024.Idx := (Finset.univ : Finset (Fin 16)).biUnion fun s => tileX p0 p1 c s.val
def coreW (p0 p1 : S2048.Idx → BitVec 32) (c : ℕ) : Finset S5120x128.Idx := (Finset.univ : Finset (Fin 16)).biUnion fun s => tileW p0 p1 c s.val
def allX (p0 p1 : S2048.Idx → BitVec 32) : Finset S5120x1024.Idx := (Finset.univ : Finset (Fin 2)).biUnion fun c => coreX p0 p1 c.val
def allWs (p0 p1 : S2048.Idx → BitVec 32) : Finset S5120x128.Idx := (Finset.univ : Finset (Fin 2)).biUnion fun c => coreW p0 p1 c.val

section Owners
variable {p0 p1 : S2048.Idx → BitVec 32} (hp : PosOK p0 p1)
include hp

/-- Two tiles that name one row are one tile. -/
theorem named_unique {c c' s s' r : ℕ} (hc : c < 2) (hc' : c' < 2) (hs : s < 16) (hs' : s' < 16)
    (h : Named (posOf p0 p1 s) (lane c s) r) (h' : Named (posOf p0 p1 s') (lane c' s') r) : c = c' ∧ s = s' := by
  obtain ⟨t, ht, e⟩ := h
  obtain ⟨t', ht', e'⟩ := h'
  unfold posOf at e e'; unfold lane at ht ht'
  split at e <;> split at e'
  · have := hp.own0.inj _ _ (e.trans e'.symm); subst this; omega
  · exact absurd (e.trans e'.symm) (hp.apart t t')
  · exact absurd (e'.trans e.symm) (hp.apart t' t)
  · have := hp.own1.inj _ _ (e.trans e'.symm); subst this; omega

theorem tileX_disjoint (c : Fin 2) : ∀ s ∈ (Finset.univ : Finset (Fin 16)), ∀ s' ∈ (Finset.univ : Finset (Fin 16)), s ≠ s' → Disjoint (tileX p0 p1 c.val s.val) (tileX p0 p1 c.val s'.val) :=
  fun s _ s' _ h => Finset.disjoint_left.mpr fun x hx hx' => h (Fin.ext (named_unique hp c.isLt c.isLt s.isLt s'.isLt (Finset.mem_filter.mp hx).2 (Finset.mem_filter.mp hx').2).2)
theorem tileW_disjoint (c : Fin 2) : ∀ s ∈ (Finset.univ : Finset (Fin 16)), ∀ s' ∈ (Finset.univ : Finset (Fin 16)), s ≠ s' → Disjoint (tileW p0 p1 c.val s.val) (tileW p0 p1 c.val s'.val) :=
  fun s _ s' _ h => Finset.disjoint_left.mpr fun x hx hx' => h (Fin.ext (named_unique hp c.isLt c.isLt s.isLt s'.isLt (Finset.mem_filter.mp hx).2 (Finset.mem_filter.mp hx').2).2)
theorem coreX_disjoint : ∀ c ∈ (Finset.univ : Finset (Fin 2)), ∀ c' ∈ (Finset.univ : Finset (Fin 2)), c ≠ c' → Disjoint (coreX p0 p1 c.val) (coreX p0 p1 c'.val) :=
  fun c _ c' _ h => Finset.disjoint_left.mpr fun x hx hx' => h (Fin.ext (by
    obtain ⟨s, -, hs⟩ := Finset.mem_biUnion.mp hx
    obtain ⟨s', -, hs'⟩ := Finset.mem_biUnion.mp hx'
    exact (named_unique hp c.isLt c'.isLt s.isLt s'.isLt (Finset.mem_filter.mp hs).2 (Finset.mem_filter.mp hs').2).1))
theorem coreW_disjoint : ∀ c ∈ (Finset.univ : Finset (Fin 2)), ∀ c' ∈ (Finset.univ : Finset (Fin 2)), c ≠ c' → Disjoint (coreW p0 p1 c.val) (coreW p0 p1 c'.val) :=
  fun c _ c' _ h => Finset.disjoint_left.mpr fun x hx hx' => h (Fin.ext (by
    obtain ⟨s, -, hs⟩ := Finset.mem_biUnion.mp hx
    obtain ⟨s', -, hs'⟩ := Finset.mem_biUnion.mp hx'
    exact (named_unique hp c.isLt c'.isLt s.isLt s'.isLt (Finset.mem_filter.mp hs).2 (Finset.mem_filter.mp hs').2).1))

omit hp in
/-- A named row is some tile's. -/
theorem named_tile {r : ℕ} (h : (∃ t : Fin 2048, (p0 (ix1 t)).toNat = r) ∨ ∃ t : Fin 2048, (p1 (ix1 t)).toNat = r) :
    ∃ (c : Fin 2) (s : Fin 16), Named (posOf p0 p1 s.val) (lane c.val s.val) r := by
  rcases h with ⟨t, e⟩ | ⟨t, e⟩
  · have ht := t.isLt
    refine ⟨⟨t.val / 128 % 2, Nat.mod_lt _ (by decide)⟩, ⟨t.val / 256, by omega⟩, t, ?_, ?_⟩
    · unfold lane; show t.val / 128 = (2 * (t.val / 256) + t.val / 128 % 2) % 16; omega
    · unfold posOf; rw [if_pos (show t.val / 256 < 8 by omega)]; exact e
  · have ht := t.isLt
    refine ⟨⟨t.val / 128 % 2, Nat.mod_lt _ (by decide)⟩, ⟨8 + t.val / 256, by omega⟩, t, ?_, ?_⟩
    · unfold lane; show t.val / 128 = (2 * (8 + t.val / 256) + t.val / 128 % 2) % 16; omega
    · unfold posOf; rw [if_neg (show ¬8 + t.val / 256 < 8 by omega)]; exact e

omit hp in
/-- Outside the owned elements the dispatch leaves what was there. -/
theorem placed_restX (a0 a1 : S2048x1024.Idx → Elt F .f32) (z : S5120x1024.Idx → Elt F .f32) (x : S5120x1024.Idx) (hx : x ∉ allX p0 p1) :
    placed p0 p1 a0 a1 z x = z x := by
  have key : ¬((∃ t : Fin 2048, (p0 (ix1 t)).toNat = (x 0).val) ∨ ∃ t : Fin 2048, (p1 (ix1 t)).toNat = (x 0).val) := fun h => by
    obtain ⟨c, s, hn⟩ := named_tile h
    exact hx (Finset.mem_biUnion.mpr ⟨c, Finset.mem_univ _, Finset.mem_biUnion.mpr ⟨s, Finset.mem_univ _, Finset.mem_filter.mpr ⟨Finset.mem_univ _, hn⟩⟩⟩)
  exact placed_other a0 a1 z x (fun t h => key (.inl ⟨t, h⟩)) (fun t h => key (.inr ⟨t, h⟩))
omit hp in
theorem placed_restW (a0 a1 : S2048x128.Idx → Elt F .f32) (z : S5120x128.Idx → Elt F .f32) (x : S5120x128.Idx) (hx : x ∉ allWs p0 p1) :
    placed p0 p1 a0 a1 z x = z x := by
  have key : ¬((∃ t : Fin 2048, (p0 (ix1 t)).toNat = (x 0).val) ∨ ∃ t : Fin 2048, (p1 (ix1 t)).toNat = (x 0).val) := fun h => by
    obtain ⟨c, s, hn⟩ := named_tile h
    exact hx (Finset.mem_biUnion.mpr ⟨c, Finset.mem_univ _, Finset.mem_biUnion.mpr ⟨s, Finset.mem_univ _, Finset.mem_filter.mpr ⟨Finset.mem_univ _, hn⟩⟩⟩)
  exact placed_other a0 a1 z x (fun t h => key (.inl ⟨t, h⟩)) (fun t h => key (.inr ⟨t, h⟩))

end Owners

/-! ## The buffers, and who holds what -/

abbrev xLoc (d : Dev nD) : Loc nD τ sig := (SparseCore.T d).loc main_arg0
abbrev aLoc (d : Dev nD) : Loc nD τ sig := (SparseCore.T d).loc main_arg1
abbrev bLoc (d : Dev nD) : Loc nD τ sig := (SparseCore.T d).loc main_arg2
abbrev uLoc (d : Dev nD) : Loc nD τ sig := (SparseCore.T d).loc main_arg3
abbrev vLoc (d : Dev nD) : Loc nD τ sig := (SparseCore.T d).loc main_arg4
abbrev sLoc (d : Dev nD) : Loc nD τ sig := (SparseCore.T d).loc main_v0_0
abbrev tLoc (d : Dev nD) : Loc nD τ sig := (SparseCore.T d).loc main_v0_1

section Hands

variable (X : (d : Dev nD) → Buf (Elt F) (xLoc d)) (A : (d : Dev nD) → Buf (Elt F) (aLoc d)) (B : (d : Dev nD) → Buf (Elt F) (bLoc d))
  (U : (d : Dev nD) → Buf (Elt F) (uLoc d)) (V' : (d : Dev nD) → Buf (Elt F) (vLoc d)) (d : Dev nD)

/-- A share of each operand, and parts of the sorted rows and weights at some contents. -/
def hold (q : PosShare TreeShare) (s : Finset (Idx (sLoc d))) (t : Finset (Idx (tLoc d))) (f : Buf (Elt F) (sLoc d)) (g : Buf (Elt F) (tLoc d)) : sProp 𝕄 :=
  iprop((xLoc d ↦{q} X d) ∗ (aLoc d ↦{q} A d) ∗ (bLoc d ↦{q} B d) ∗ (uLoc d ↦{q} U d) ∗ (vLoc d ↦{q} V' d)
    ∗ (sLoc d ↦[s]{fullShare} f) ∗ tLoc d ↦[t]{fullShare} g)

instance hold_storable (q : PosShare TreeShare) (s : Finset (Idx (sLoc d))) (t : Finset (Idx (tLoc d))) (f : Buf (Elt F) (sLoc d)) (g : Buf (Elt F) (tLoc d)) :
    BI.Storable (upEmb : UEmb _ 𝕄) (hold X A B U V' d q s t f g) := by unfold hold; infer_instance

/-- Split over parts. -/
theorem hold_split {n : ℕ} (hn : 0 < n) (q : PosShare TreeShare) (f : Buf (Elt F) (sLoc d)) (g : Buf (Elt F) (tLoc d))
    (s : Fin n → Finset (Idx (sLoc d))) (t : Fin n → Finset (Idx (tLoc d)))
    (hs : ∀ i ∈ (Finset.univ : Finset (Fin n)), ∀ j ∈ (Finset.univ : Finset (Fin n)), i ≠ j → Disjoint (s i) (s j))
    (ht : ∀ i ∈ (Finset.univ : Finset (Fin n)), ∀ j ∈ (Finset.univ : Finset (Fin n)), i ≠ j → Disjoint (t i) (t j)) :
    hold X A B U V' d q (Finset.univ.biUnion s) (Finset.univ.biUnion t) f g = bigSep Finset.univ fun i : Fin n => hold X A B U V' d (pieceOf q n hn i) (s i) (t i) f g := by
  unfold hold
  rw [bigSep_sep', bigSep_sep', bigSep_sep', bigSep_sep', bigSep_sep', bigSep_sep', ← pointsTo_piecesOf, ← pointsTo_piecesOf, ← pointsTo_piecesOf, ← pointsTo_piecesOf, ← pointsTo_piecesOf,
    pointsTo_biUnion Finset.univ (ℓ := sLoc d) s hs, pointsTo_biUnion Finset.univ (ℓ := tLoc d) t ht]

end Hands

section Pay

variable (X : (d : Dev nD) → Buf (Elt F) (xLoc d)) (A : (d : Dev nD) → Buf (Elt F) (aLoc d)) (B : (d : Dev nD) → Buf (Elt F) (bLoc d))
  (U : (d : Dev nD) → Buf (Elt F) (uLoc d)) (V' : (d : Dev nD) → Buf (Elt F) (vLoc d)) (S₀ : (d : Dev nD) → Buf (Elt F) (sLoc d)) (T₀ : (d : Dev nD) → Buf (Elt F) (tLoc d))

/-- The sorted rows and weights of a device after the dispatch. -/
abbrev outX (d : Dev nD) : Buf (Elt F) (sLoc d) := placed (n := 1024) (A d) (B d) (X d) (X d) (S₀ d)
abbrev outW (d : Dev nD) : Buf (Elt F) (tLoc d) := placed (n := 128) (A d) (B d) (U d) (V' d) (T₀ d)

/-- Every device's positions name rows below 5120, no row twice. -/
def AllOK : Prop := ∀ d, PosOK (A d) (B d)

section Tile

variable (d : Dev nD) (L : grid0.Coords)

/-! ## A tile's semaphores and buffers -/

def semP : Fin 2 → Fin 4 → DmaSems sig S_ := ![![cc0_scoped0, cc0_scoped3, cc0_scoped6, cc0_scoped9], ![cc0_scoped12, cc0_scoped15, cc0_scoped18, cc0_scoped21]]
def semX : Fin 2 → Fin 4 → DmaSems sig S_ := ![![cc0_scoped1, cc0_scoped4, cc0_scoped7, cc0_scoped10], ![cc0_scoped13, cc0_scoped16, cc0_scoped19, cc0_scoped22]]
def semW : Fin 2 → Fin 4 → DmaSems sig S_ := ![![cc0_scoped2, cc0_scoped5, cc0_scoped8, cc0_scoped11], ![cc0_scoped14, cc0_scoped17, cc0_scoped20, cc0_scoped23]]

/-- The fetches' semaphores, by half, chunk and kind. -/
def semOf (p : Fin 2 × Fin 4 × Fin 3) : SemLoc sig := .dma ((![semP, semX, semW] : Fin 3 → Fin 2 → Fin 4 → DmaSems sig S_) p.2.2 p.1 p.2.1).sem

theorem semOf_inj : Function.Injective semOf := by decide
theorem semOf_scoped : ∀ p, (semOf p).isScoped .scVector = true := by decide
theorem semOf_ne : ∀ p, semOf p ≠ .dma cc0_scratch3.sem := by decide
theorem semG_scoped : (SemLoc.dma cc0_scratch3.sem : SemLoc sig).isScoped .scVector = true := by decide

def semEmb : Fin 2 × Fin 4 × Fin 3 ↪ GSem nD τ sig := ⟨fun p => (thr d L, semOf p), fun p p' h => semOf_inj (congrArg Prod.snd h)⟩

/-- What is left of the tile's semaphores. -/
abbrev semsRest : Finset (GSem nD τ sig) := ((ownCells (thr d L)).erase (thr d L, .dma cc0_scratch3.sem)) \ Finset.univ.map (semEmb d L)

/-- A chunk's three semaphores at zero. -/
def chunkSems (h : Fin 2) (j : Fin 4) : sProp 𝕄 :=
  iprop(semVal (thr d L, SemLoc.dma (semP h j).sem) 0 ∗ semVal (thr d L, SemLoc.dma (semX h j).sem) 0 ∗ semVal (thr d L, SemLoc.dma (semW h j).sem) 0)

theorem fin2 {M : Type} [URA M] (Φ : Fin 2 → sProp M) : bigSep Finset.univ Φ = iprop(Φ 0 ∗ Φ 1) := by
  rw [show (Finset.univ : Finset (Fin 2)) = {0, 1} by decide, SparseCore.bigSep_insert' (by decide), bigSep_singleton]

theorem ownSems0_V :
    (ownSems0 (thr d L) : sProp 𝕄)
      = iprop(semVal (thr d L, SemLoc.dma cc0_scratch3.sem) 0
          ∗ ((bigSep Finset.univ (chunkSems d L 0)) ∗ bigSep Finset.univ (chunkSems d L 1))
          ∗ bigSep (semsRest d L) fun g => semVal g 0) := by
  unfold SparseCore.Cfg.ownSems0
  rw [SparseCore.bigSep_erase' ((mem_ownCells (g := ((thr d L, .dma cc0_scratch3.sem) : GSem nD τ sig))).mpr ⟨rfl, semG_scoped⟩)]
  have hsub : Finset.univ.map (semEmb d L) ⊆ (ownCells (thr d L)).erase (thr d L, .dma cc0_scratch3.sem) := by
    intro g hg
    obtain ⟨p, -, rfl⟩ := Finset.mem_map.mp hg
    exact Finset.mem_erase.mpr ⟨fun h => semOf_ne p (congrArg Prod.snd h), mem_ownCells.mpr ⟨rfl, semOf_scoped p⟩⟩
  have e := bigSep_sdiff_split hsub (Φ := fun g => (semVal g 0 : sProp 𝕄))
  refine congrArg (fun R : sProp 𝕄 => iprop(semVal (thr d L, SemLoc.dma cc0_scratch3.sem) 0 ∗ R)) (e.trans ?_)
  rw [bigSep_map, bigSep_univ_prod]
  refine congrArg (fun R : sProp 𝕄 => iprop(R ∗ bigSep (semsRest d L) fun g => semVal g 0)) ((fin2 _).trans ?_)
  rw [bigSep_univ_prod, bigSep_univ_prod]
  congr 1 <;> exact bigSep_congr fun j _ => fin3 _

theorem ownBufs_V :
    (ownBufs (thr d L) : sProp 𝕄)
      = iprop((∃ f, (thr d L).loc cc0_scratch0 ↦{fullShare} f) ∗ (∃ f, (thr d L).loc cc0_scratch1 ↦{fullShare} f) ∗ (∃ f, (thr d L).loc cc0_scratch2 ↦{fullShare} f)
          ∗ bigSep ((((ownRefs (τ := τ) (.scVector (coreOf L) (subOf L))).erase ((Proc.scVector (coreOf L) (subOf L)).devRef cc0_scratch0)).erase
              ((Proc.scVector (coreOf L) (subOf L)).devRef cc0_scratch1)).erase ((Proc.scVector (coreOf L) (subOf L)).devRef cc0_scratch2))
              fun b => iprop(∃ f, ((d, b) : Loc nD τ sig) ↦{fullShare} f)) := by
  unfold SparseCore.Cfg.ownBufs
  have ne {b b' : Ref sig .scVector} (h : b ≠ b') : (Proc.scVector (τ := τ) (coreOf L) (subOf L)).devRef b ≠ (Proc.scVector (coreOf L) (subOf L)).devRef b' :=
    fun e => h (Proc.devRef_injective _ e)
  have own0 := SparseCore.Cfg.mem_ownRefs_of_owner (p := Proc.scVector (coreOf L) (subOf L)) (b := (Proc.scVector (coreOf L) (subOf L)).devRef cc0_scratch0) rfl
  have own1 := SparseCore.Cfg.mem_ownRefs_of_owner (p := Proc.scVector (coreOf L) (subOf L)) (b := (Proc.scVector (coreOf L) (subOf L)).devRef cc0_scratch1) rfl
  have own2 := SparseCore.Cfg.mem_ownRefs_of_owner (p := Proc.scVector (coreOf L) (subOf L)) (b := (Proc.scVector (coreOf L) (subOf L)).devRef cc0_scratch2) rfl
  refine (SparseCore.bigSep_erase' own0).trans ?_
  rw [SparseCore.bigSep_erase' (Finset.mem_erase.mpr ⟨ne (show (cc0_scratch1 : Ref sig .scVector) ≠ cc0_scratch0 by decide), own1⟩),
    SparseCore.bigSep_erase' (Finset.mem_erase.mpr ⟨ne (show (cc0_scratch2 : Ref sig .scVector) ≠ cc0_scratch1 by decide),
      Finset.mem_erase.mpr ⟨ne (show (cc0_scratch2 : Ref sig .scVector) ≠ cc0_scratch0 by decide), own2⟩⟩)]

/-! ## A tile's run -/

section Chunks

variable (p : Memref sig .scVector .hbm S2048 .i32) (w : Memref sig .scVector .hbm S2048x128 .f32)
variable (q : PosShare TreeShare) (O : CellTallies nD τ sig (HIx 2)) (W : Waits sig (HIx 2))
variable (Xc : Buf (Elt F) ((xV).view.loc (thr d L))) (P : Buf (Elt F) (p.view.loc (thr d L))) (Q : Buf (Elt F) (w.view.loc (thr d L)))
variable (pf : S2048.Idx → BitVec 32) (wf : S2048x128.Idx → Elt F .f32)

/-- The four chunks in order. -/
theorem chunks_spec (h : Fin 2) (hp : Own pf) (hP : ∀ t, (p.view.read (Elt F) P t : BitVec 32) = pf t) (hQ : ∀ t, w.view.read (Elt F) Q t = wf t)
    (op : Fin 4 → Fin 1 → ℕ) (ho : ∀ j a, op j a + S32.size a ≤ S2048.size a) (ox : Fin 4 → Fin 2 → ℕ) (hx : ∀ j a, ox j a + S32x1024.size a ≤ S2048x1024.size a)
    (ow : Fin 4 → Fin 2 → ℕ) (hw : ∀ j a, ow j a + S32x128.size a ≤ S2048x128.size a)
    (eo : ∀ j, op j 0 = tok0 L j) (ex : ∀ j, ox j 0 = tok0 L j ∧ ox j 1 = 0) (ew : ∀ j, ow j 0 = tok0 L j ∧ ow j 1 = 0) :
    iprop(Transfers.MayWaits (thr d L) (default : HIx 2) O ∗ work d L O W p w q Xc P Q pf wf cc0_scratch3 (128 * lane (L 0).val (L 1).val + 32 * 0) ∗ bigSep Finset.univ (chunkSems d L h))
      ⊢ wp frame (wpE (defs₀ (F := F)) 𝒱₀ (thr d L) none) Set.univ
          (seqL (chunk (F := F) L xV p w sV tV bV (Memref.isWhole_whole _) cV (Memref.isWhole_whole _) iV (Memref.isWhole_whole _) cc0_scratch3 (semP h) (semX h) (semW h) op ho ox hx ow hw) (List.finRange 4))
          fun _ => iprop(Transfers.MayWaits (thr d L) (default : HIx 2) O ∗ work d L O W p w q Xc P Q pf wf cc0_scratch3 (128 * lane (L 0).val (L 1).val + 32 * 4) ∗ bigSep Finset.univ (chunkSems d L h)) := by
  refine wp_seqL _ _ _ _ (fun k => iprop(Transfers.MayWaits (thr d L) (default : HIx 2) O ∗ work d L O W p w q Xc P Q pf wf cc0_scratch3 (128 * lane (L 0).val (L 1).val + 32 * k)
    ∗ bigSep Finset.univ (chunkSems d L h))) fun j => ?_
  rw [bigSep_part j (chunkSems (F := F) d L h), show chunkSems (F := F) d L h j = _ from rfl]
  unfold chunkSems
  iintro ⟨#Hmw, Hw, ⟨Ha, Hb, Hc⟩, Hrest⟩
  iapply wp_wand_r
  isplitl [Hw Ha Hb Hc]
  · iapply (chunk_spec d L j O W p w q Xc P Q pf wf hp hP hQ op ho ox hx ow hw (eo j) (ex j) (ew j) cc0_scratch3 (semP h) (semX h) (semW h))
    isplitr; · iexact Hmw
    isplitl [Hw]; · iexact Hw
    isplitl [Ha]; · iexact Ha
    isplitl [Hb] <;> iassumption
  iintro %_ ⟨Hw, Ha, Hb, Hc⟩
  isplitr; · iexact Hmw
  isplitl [Hw]; · iexact Hw
  isplitr [Hrest]
  · isplitl [Ha]; · iexact Ha
    isplitl [Hb] <;> iassumption
  iexact Hrest

theorem owed_none (hO : ∀ g, O g none = 0) : levAts (K (F := F)).L (K (F := F)).lev ⊢ (Transfers.MayWaits (thr d L) (default : HIx 2) O : sProp 𝕄) :=
  (K (F := F)).mayWaits_none (thr := thr d L) hO

end Chunks

section Body

variable (q : PosShare TreeShare) (O : CellTallies nD τ sig (HIx 2)) (W : Waits sig (HIx 2))

/-- A tile before its chunks: nothing of its rows asked yet. -/
theorem work_start (p : Memref sig .scVector .hbm S2048 .i32) (w : Memref sig .scVector .hbm S2048x128 .f32)
    (Xc : Buf (Elt F) ((xV).view.loc (thr d L))) (Pc : Buf (Elt F) (p.view.loc (thr d L))) (Q : Buf (Elt F) (w.view.loc (thr d L)))
    (pf : S2048.Idx → BitVec 32) (wf : S2048x128.Idx → Elt F .f32) (f : Buf (Elt F) ((sV).view.loc (thr d L))) (g : Buf (Elt F) ((tV).view.loc (thr d L)))
    (fb : Buf (Elt F) ((bV).view.loc (thr d L))) (fc : Buf (Elt F) ((cV).view.loc (thr d L))) (fi : Buf (Elt F) ((iV).view.loc (thr d L))) :
    iprop(((xV).view.loc (thr d L) ↦{q} Xc) ∗ (p.view.loc (thr d L) ↦{q} Pc) ∗ (w.view.loc (thr d L) ↦{q} Q)
        ∗ ((sV).view.loc (thr d L) ↦[laneX pf (lane (L 0).val (L 1).val)]{fullShare} f) ∗ ((tV).view.loc (thr d L) ↦[laneW pf (lane (L 0).val (L 1).val)]{fullShare} g)
        ∗ ((bV).view.loc (thr d L) ↦{fullShare} fb) ∗ ((cV).view.loc (thr d L) ↦{fullShare} fc) ∗ ((iV).view.loc (thr d L) ↦{fullShare} fi)
        ∗ semVal (thr d L, SemLoc.dma cc0_scratch3.sem) 0 ∗ owes (thr d L) O W)
      ⊢ work d L O W p w q Xc Pc Q pf wf cc0_scratch3 (128 * lane (L 0).val (L 1).val + 32 * 0) := by
  unfold work owing
  iintro ⟨Hx, Hp, Hw, Hs, Ht, Hb, Hc, Hi, Hg, HO⟩
  isplitl [Hx]; · iexact Hx
  isplitl [Hp]; · iexact Hp
  isplitl [Hw]; · iexact Hw
  isplitl [Hs]
  · iexists f; isplitr
    · ipureintro; intro x t ht _ hn; omega
    iexact Hs
  isplitl [Ht]
  · iexists g; isplitr
    · ipureintro; intro x t ht _ hn; omega
    iexact Ht
  isplitl [Hb]; · iexists fb; iexact Hb
  isplitl [Hc]; · iexists fc; iexact Hc
  isplitl [Hi]; · iexists fi; iexact Hi
  isplitl [Hg]; · iexact Hg
  iexists W; isplitr
  · ipureintro; exact fun p hp => .inl hp
  · iexact HO

/-- And after them: its rows are the ones of any contents that have each named row its token's. -/
theorem work_end (p : Memref sig .scVector .hbm S2048 .i32) (w : Memref sig .scVector .hbm S2048x128 .f32)
    (Xc : Buf (Elt F) ((xV).view.loc (thr d L))) (Pc : Buf (Elt F) (p.view.loc (thr d L))) (Q : Buf (Elt F) (w.view.loc (thr d L)))
    (pf : S2048.Idx → BitVec 32) (wf : S2048x128.Idx → Elt F .f32) (f : S5120x1024.Idx → Elt F .f32) (g : S5120x128.Idx → Elt F .f32)
    (hf : ∀ (x : S5120x1024.Idx) (t : Fin 2048), (pf (ix1 t)).toNat = (x 0).val → f x = Xc (ix2 t (x 1)))
    (hg : ∀ (x : S5120x128.Idx) (t : Fin 2048), (pf (ix1 t)).toNat = (x 0).val → g x = wf (ix2 t (x 1))) :
    work d L O W p w q Xc Pc Q pf wf cc0_scratch3 (128 * lane (L 0).val (L 1).val + 32 * 4)
      ⊢ iprop(((xV).view.loc (thr d L) ↦{q} Xc) ∗ (p.view.loc (thr d L) ↦{q} Pc) ∗ (w.view.loc (thr d L) ↦{q} Q)
        ∗ ((sV).view.loc (thr d L) ↦[laneX pf (lane (L 0).val (L 1).val)]{fullShare} f) ∗ ((tV).view.loc (thr d L) ↦[laneW pf (lane (L 0).val (L 1).val)]{fullShare} g)
        ∗ (∃ f, (bV).view.loc (thr d L) ↦{fullShare} f) ∗ (∃ f, (cV).view.loc (thr d L) ↦{fullShare} f) ∗ (∃ f, (iV).view.loc (thr d L) ↦{fullShare} f)
        ∗ semVal (thr d L, SemLoc.dma cc0_scratch3.sem) 0 ∗ ∃ W', ⌜∀ p ∈ W', p ∈ W ∨ p.2 = none⌝ ∗ owes (thr d L) O W') := by
  unfold work owing
  iintro ⟨Hx, Hp, Hw, ⟨%f', %hf', Hs⟩, ⟨%g', %hg', Ht⟩, Hb, Hc, Hi, Hg, HO⟩
  isplitl [Hx]; · iexact Hx
  isplitl [Hp]; · iexact Hp
  isplitl [Hw]; · iexact Hw
  isplitl [Hs]
  · iapply (Entails.of_eq (pointsTo_congr (f := f') (g := f) fun x hx => by
      obtain ⟨t, ht, e⟩ := (Finset.mem_filter.mp hx).2
      exact (hf' x t ht e (.inl (by omega))).trans (hf x t e).symm))
    iexact Hs
  isplitl [Ht]
  · iapply (Entails.of_eq (pointsTo_congr (f := g') (g := g) fun x hx => by
      obtain ⟨t, ht, e⟩ := (Finset.mem_filter.mp hx).2
      exact (hg' x t ht e (by omega)).trans (hg x t e).symm))
    iexact Ht
  isplitl [Hb]; · iexact Hb
  isplitl [Hc]; · iexact Hc
  isplitl [Hi]; · iexact Hi
  isplitl [Hg]; · iexact Hg
  iexact HO

/-- The task of the tile at mesh coordinates `L`. -/
theorem tile_body (hF : (K (F := F)).Facts) (h : AllOK A B) (hO : ∀ g, O g none = 0) :
    iprop(levAts (K (F := F)).L (K (F := F)).lev ∗ emp ∗ hold X A B U V' d q (tileX (A d) (B d) (L 0).val (L 1).val) (tileW (A d) (B d) (L 0).val (L 1).val) (S₀ d) (T₀ d)
        ∗ scopedBufs (thr d L) ∗ scopedSems0 (thr d L) ∗ owes (thr d L) O W)
      ⊢ wp frame (wpE (defs₀ (F := F)) 𝒱₀ (thr d L) none) Set.univ
          (cc0_k L xV (Memref.isWhole_whole _) p0V (Memref.isWhole_whole _) p1V (Memref.isWhole_whole _) w0V (Memref.isWhole_whole _) w1V (Memref.isWhole_whole _)
            sV (Memref.isWhole_whole _) tV (Memref.isWhole_whole _) bV (Memref.isWhole_whole _) cV (Memref.isWhole_whole _) iV (Memref.isWhole_whole _) cc0_scratch3
            cc0_scoped0 cc0_scoped1 cc0_scoped2 cc0_scoped3 cc0_scoped4 cc0_scoped5 cc0_scoped6 cc0_scoped7 cc0_scoped8 cc0_scoped9 cc0_scoped10 cc0_scoped11
            cc0_scoped12 cc0_scoped13 cc0_scoped14 cc0_scoped15 cc0_scoped16 cc0_scoped17 cc0_scoped18 cc0_scoped19 cc0_scoped20 cc0_scoped21 cc0_scoped22 cc0_scoped23)
          fun _ => iprop(hold X A B U V' d q (tileX (A d) (B d) (L 0).val (L 1).val) (tileW (A d) (B d) (L 0).val (L 1).val) (outX X A B S₀ d) (outW A B U V' T₀ d)
            ∗ scopedBufs (thr d L) ∗ scopedSems0 (thr d L) ∗ ∃ W', ⌜∀ p ∈ W', p ∈ W ∨ p.2 = none⌝ ∗ owes (thr d L) O W') := by
  rw [cc0_k_eq, (K (F := F)).scopedBufs_V hF d (coreOf L) (subOf L), SparseCore.Cfg.scopedSems0_V (Val := Elt F) d (coreOf L) (subOf L), ownSems0_V, ownBufs_V]
  have hd : PosOK (A d) (B d) := h d
  unfold hold
  iintro ⟨#Hlv, -, ⟨Hx, Ha, Hb, Hu, Hv, Hs, Ht⟩, ⟨⟨%fb, Hsb⟩, ⟨%fc, Hsc⟩, ⟨%fi, Hsi⟩, Hbufs⟩, ⟨Hg, ⟨Hsem0, Hsem1⟩, Hsems⟩, HO⟩
  ihave Hmw := (owed_none (F := F) d L O hO) $$ Hlv
  by_cases hs : (L 1).val < 8
  · have h1 : k0_cond1 L = 1#1 := (cond1_iff L).mpr hs
    have h2 : ¬k0_cond2 L = 1#1 := fun e => absurd ((cond2_iff L).mp e) (by omega)
    have e1 : tileX (A d) (B d) (L 0).val (L 1).val = laneX (A d) (lane (L 0).val (L 1).val) := by unfold tileX posOf; rw [if_pos hs]
    have e2 : tileW (A d) (B d) (L 0).val (L 1).val = laneW (A d) (lane (L 0).val (L 1).val) := by unfold tileW posOf; rw [if_pos hs]
    rw [e1, e2, dif_pos h1, dif_neg h2, wp_bind]
    iapply wp_wand_r
    isplitl [Hmw Hx Ha Hu Hs Ht Hsb Hsc Hsi Hg HO Hsem0]
    · iapply (chunks_spec d L p0V w0V q O W (X d) (A d) (U d) (A d) (U d) 0 hd.own0 (fun _ => rfl) (fun _ => rfl) _ (k0_off1_inb L h1) _ (k0_off2_inb L h1) _ (k0_off3_inb L h1)
        (off1_eq L) (off2_eq L) (off3_eq L))
      isplitl [Hmw]; · iexact Hmw
      isplitr [Hsem0]; swap; · iexact Hsem0
      iapply (work_start d L q O W p0V w0V (X d) (A d) (U d) (A d) (U d) (S₀ d) (T₀ d) fb fc fi)
      isplitl [Hx]; · iexact Hx
      isplitl [Ha]; · iexact Ha
      isplitl [Hu]; · iexact Hu
      isplitl [Hs]; · iexact Hs
      isplitl [Ht]; · iexact Ht
      isplitl [Hsb]; · iexact Hsb
      isplitl [Hsc]; · iexact Hsc
      isplitl [Hsi]; · iexact Hsi
      isplitl [Hg] <;> iassumption
    iintro %_ ⟨-, Hw, Hsem0⟩
    rw [wp_bind, wp_pure, wp_pure]
    imodintro; imodintro
    ihave Hw := (work_end d L q O W p0V w0V (X d) (A d) (U d) (A d) (U d) (outX X A B S₀ d) (outW A B U V' T₀ d)
      (placed_first hd (X d) (X d) (S₀ d)) (placed_first hd (U d) (V' d) (T₀ d))) $$ Hw
    icases Hw with ⟨Hx, Ha, Hu, Hs, Ht, Hsb, Hsc, Hsi, Hg, HO⟩
    isplitl [Hx Ha Hb Hu Hv Hs Ht]
    · isplitl [Hx]; · iexact Hx
      isplitl [Ha]; · iexact Ha
      isplitl [Hb]; · iexact Hb
      isplitl [Hu]; · iexact Hu
      isplitl [Hv]; · iexact Hv
      isplitl [Hs] <;> iassumption
    isplitl [Hsb Hsc Hsi Hbufs]
    · isplitl [Hsb]; · iexact Hsb
      isplitl [Hsc]; · iexact Hsc
      isplitl [Hsi] <;> iassumption
    isplitl [Hg Hsem0 Hsem1 Hsems]
    · isplitl [Hg]; · iexact Hg
      isplitl [Hsem0 Hsem1]; · isplitl [Hsem0] <;> iassumption
      iexact Hsems
    iexact HO
  · have h1 : ¬k0_cond1 L = 1#1 := fun e => absurd ((cond1_iff L).mp e) hs
    have h2 : k0_cond2 L = 1#1 := (cond2_iff L).mpr (by omega)
    have e1 : tileX (A d) (B d) (L 0).val (L 1).val = laneX (B d) (lane (L 0).val (L 1).val) := by unfold tileX posOf; rw [if_neg hs]
    have e2 : tileW (A d) (B d) (L 0).val (L 1).val = laneW (B d) (lane (L 0).val (L 1).val) := by unfold tileW posOf; rw [if_neg hs]
    rw [e1, e2, dif_neg h1, dif_pos h2, wp_bind, wp_pure, wp_bind]
    imodintro
    iapply wp_wand_r
    isplitl [Hmw Hx Hb Hv Hs Ht Hsb Hsc Hsi Hg HO Hsem1]
    · iapply (chunks_spec d L p1V w1V q O W (X d) (B d) (V' d) (B d) (V' d) 1 hd.own1 (fun _ => rfl) (fun _ => rfl) _ (k0_off4_inb L h2) _ (k0_off5_inb L h2) _ (k0_off6_inb L h2)
        (off4_eq L) (off5_eq L) (off6_eq L))
      isplitl [Hmw]; · iexact Hmw
      isplitr [Hsem1]; swap; · iexact Hsem1
      iapply (work_start d L q O W p1V w1V (X d) (B d) (V' d) (B d) (V' d) (S₀ d) (T₀ d) fb fc fi)
      isplitl [Hx]; · iexact Hx
      isplitl [Hb]; · iexact Hb
      isplitl [Hv]; · iexact Hv
      isplitl [Hs]; · iexact Hs
      isplitl [Ht]; · iexact Ht
      isplitl [Hsb]; · iexact Hsb
      isplitl [Hsc]; · iexact Hsc
      isplitl [Hsi]; · iexact Hsi
      isplitl [Hg] <;> iassumption
    iintro %_ ⟨-, Hw, Hsem1⟩
    rw [wp_pure]
    imodintro
    ihave Hw := (work_end d L q O W p1V w1V (X d) (B d) (V' d) (B d) (V' d) (outX X A B S₀ d) (outW A B U V' T₀ d)
      (placed_second hd (X d) (X d) (S₀ d)) (placed_second hd (U d) (V' d) (T₀ d))) $$ Hw
    icases Hw with ⟨Hx, Hb, Hv, Hs, Ht, Hsb, Hsc, Hsi, Hg, HO⟩
    isplitl [Hx Ha Hb Hu Hv Hs Ht]
    · isplitl [Hx]; · iexact Hx
      isplitl [Ha]; · iexact Ha
      isplitl [Hb]; · iexact Hb
      isplitl [Hu]; · iexact Hu
      isplitl [Hv]; · iexact Hv
      isplitl [Hs] <;> iassumption
    isplitl [Hsb Hsc Hsi Hbufs]
    · isplitl [Hsb]; · iexact Hsb
      isplitl [Hsc]; · iexact Hsc
      isplitl [Hsi] <;> iassumption
    isplitl [Hg Hsem0 Hsem1 Hsems]
    · isplitl [Hg]; · iexact Hg
      isplitl [Hsem0 Hsem1]; · isplitl [Hsem0] <;> iassumption
      iexact Hsems
    iexact HO

theorem defs₀_vector (c : Fin τ.nSC) (s : Fin τ.nSub) :
    defs₀ (F := F) (.scVector c s) 0 ()
      = SparseCore.onTile hcore0 hsub0 (fun c s => cc0_k (coordsV c s)
          xV (Memref.isWhole_whole _) p0V (Memref.isWhole_whole _) p1V (Memref.isWhole_whole _) w0V (Memref.isWhole_whole _) w1V (Memref.isWhole_whole _)
            sV (Memref.isWhole_whole _) tV (Memref.isWhole_whole _) bV (Memref.isWhole_whole _) cV (Memref.isWhole_whole _) iV (Memref.isWhole_whole _) cc0_scratch3
            cc0_scoped0 cc0_scoped1 cc0_scoped2 cc0_scoped3 cc0_scoped4 cc0_scoped5 cc0_scoped6 cc0_scoped7 cc0_scoped8 cc0_scoped9 cc0_scoped10 cc0_scoped11
            cc0_scoped12 cc0_scoped13 cc0_scoped14 cc0_scoped15 cc0_scoped16 cc0_scoped17 cc0_scoped18 cc0_scoped19 cc0_scoped20 cc0_scoped21 cc0_scoped22 cc0_scoped23) ⟨⟩ c s := rfl

end Body

end Tile

end Pay

end Cert.Proof.Disp

end
-- ==== Proof.Calls.Launch.lean ====
/-
  The program's two SparseCore calls together: what each hands its cores and tiles and what comes back, the obligations of
  the tiles' tasks, and the calls' hands as one device's.
-/
module

public import proofs.«01_k».proof.Proof.Disp.Launch
public import proofs.«01_k».proof.Proof.Comb.Launch

@[expose] public section

noncomputable section

namespace Cert.Proof.Calls

open Cert.KernelIdeal Cert.KernelIdeal.Gen
open Cert.Proof.Comb (UH UP UU 𝒱₀ 𝒱 v₀ ΛP K D facts qc qt InRange)
open Cert.Proof.Disp (AllOK coreX coreW tileX tileW allX allWs outX outW xLoc uLoc vLoc sLoc tLoc)

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

theorem nCore_eq (q : Fin 2) : (K (F := F)).nCore q = 2 := by fin_cases q <;> rfl
theorem nSub_eq (q : Fin 2) : (K (F := F)).nSub q = 16 := by fin_cases q <;> rfl

variable (X : (d : Dev nD) → Buf (Elt F) (xLoc d)) (A : (d : Dev nD) → Buf (Elt F) (Comb.aLoc d)) (B : (d : Dev nD) → Buf (Elt F) (Comb.bLoc d))
  (U : (d : Dev nD) → Buf (Elt F) (uLoc d)) (V' : (d : Dev nD) → Buf (Elt F) (vLoc d)) (S₀ : (d : Dev nD) → Buf (Elt F) (sLoc d)) (T₀ : (d : Dev nD) → Buf (Elt F) (tLoc d))
  (Y : (d : Dev nD) → Buf (Elt F) (Comb.yLoc d)) (O₀ : (d : Dev nD) → Buf (Elt F) (Comb.oLoc d))

/-- Each SparseCore takes half a share of each operand and its part of the results, each tile a sixteenth of that share
    and its own part; they come back with the parts at what the call computes. -/
def P : (K (F := F)).Pay (nD := nD) (Val := Elt F) (Name := ℕ) (U := UU) where
  st := fun q d c => match q with
    | 0 => Disp.hold X A B U V' d (qc (Fin.cast (nCore_eq 0) c)) (coreX (A d) (B d) c.val) (coreW (A d) (B d) c.val) (S₀ d) (T₀ d)
    | 1 => Comb.hold Y A B d (qc (Fin.cast (nCore_eq 1) c)) (Comb.coreSet c.val) (O₀ d)
  dn := fun q d c => match q with
    | 0 => Disp.hold X A B U V' d (qc (Fin.cast (nCore_eq 0) c)) (coreX (A d) (B d) c.val) (coreW (A d) (B d) c.val) (outX X A B S₀ d) (outW A B U V' T₀ d)
    | 1 => Comb.hold Y A B d (qc (Fin.cast (nCore_eq 1) c)) (Comb.coreSet c.val) (Comb.out Y A B d)
  go := fun q d c i => match q with
    | 0 => Disp.hold X A B U V' d (qt (Fin.cast (nCore_eq 0) c) (Fin.cast (nSub_eq 0) i)) (tileX (A d) (B d) c.val i.val) (tileW (A d) (B d) c.val i.val) (S₀ d) (T₀ d)
    | 1 => Comb.hold Y A B d (qt (Fin.cast (nCore_eq 1) c) (Fin.cast (nSub_eq 1) i)) (Comb.tileSet c.val i.val) (O₀ d)
  td := fun q d c i => match q with
    | 0 => Disp.hold X A B U V' d (qt (Fin.cast (nCore_eq 0) c) (Fin.cast (nSub_eq 0) i)) (tileX (A d) (B d) c.val i.val) (tileW (A d) (B d) c.val i.val) (outX X A B S₀ d) (outW A B U V' T₀ d)
    | 1 => Comb.hold Y A B d (qt (Fin.cast (nCore_eq 1) c) (Fin.cast (nSub_eq 1) i)) (Comb.tileSet c.val i.val) (Comb.out Y A B d)
  x := fun _ _ => iprop(emp)

instance P_storable : (P X A B U V' S₀ T₀ Y O₀).IsStorable where
  st q d c := match q with | 0 => Disp.hold_storable X A B U V' d _ _ _ _ _ | 1 => Comb.hold_storable Y A B d _ _ _
  dn q d c := match q with | 0 => Disp.hold_storable X A B U V' d _ _ _ _ _ | 1 => Comb.hold_storable Y A B d _ _ _
  go q d c i := match q with | 0 => Disp.hold_storable X A B U V' d _ _ _ _ _ | 1 => Comb.hold_storable Y A B d _ _ _
  td q d c i := match q with | 0 => Disp.hold_storable X A B U V' d _ _ _ _ _ | 1 => Comb.hold_storable Y A B d _ _ _

/-! ## The obligations -/

theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- The dispatch's tiles. -/
theorem tileObl_dispatch (hF : (K (F := F)).Facts) (h : AllOK A B) : (K (F := F)).TileObl (D (F := F)) 𝒱 (P X A B U V' S₀ T₀ Y O₀) v₀ 0 := by
  intro d c i O W hO _ _
  simp only [show (P X A B U V' S₀ T₀ Y O₀).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [Disp.defs₀_vector]; simp only [SparseCore.onTile, hci, and_self, ↓reduceDIte]
  exact (Disp.tile_body X A B U V' S₀ T₀ d (Disp.coordsV ⟨_, hci.1⟩ ⟨_, hci.2⟩) (qt (Fin.cast (nCore_eq 0) c) (Fin.cast (nSub_eq 0) i)) O W hF h hO).trans (wp_mono frame _ _ fun _ => obl_post)

set_option maxRecDepth 16384 in
/-- The combine's tiles. -/
theorem tileObl_combine (hF : (K (F := F)).Facts) (h : InRange A B) : (K (F := F)).TileObl (D (F := F)) 𝒱 (P X A B U V' S₀ T₀ Y O₀) v₀ 1 := by
  intro d c i O W hO _ _
  simp only [show (P X A B U V' S₀ T₀ Y O₀).ox = fun _ _ => 0 from rfl, add_zero]
  have hci : ((K (F := F)).core 1 c).val < grid2.bound 0 ∧ ((K (F := F)).sub 1 i).val < grid2.bound 1 := ⟨c.isLt, i.isLt⟩
  change _ ⊢ wp _ _ _ (Pipeline.liftProg (defs₀ (F := F) (.scVector ((K (F := F)).core 1 c) ((K (F := F)).sub 1 i)) 2 ())) _
  refine BI.Entails.trans ?_ (Pipeline.wp_liftProg (D (F := F)) (Pipeline.defs_kernel pcfgs defs₀) 𝒱₀ _ Set.univ none _ _)
  rw [Comb.defs₀_vector]; simp only [SparseCore.onTile, hci, and_self, ↓reduceDIte]
  exact (Comb.tile_body Y A B O₀ d (Comb.coordsV ⟨_, hci.1⟩ ⟨_, hci.2⟩) (qt (Fin.cast (nCore_eq 1) c) (Fin.cast (nSub_eq 1) i)) O W hF h hO).trans (wp_mono frame _ _ fun _ => obl_post)

/-! ## The hands -/

/-- The dispatch: a SparseCore's hand split over its tiles, and the tiles' results joined. -/
theorem vecSplit_dispatch (h : AllOK A B) : (K (F := F)).VecSplit' (P X A B U V' S₀ T₀ Y O₀) 0 := by
  intro d c
  have hd := h d
  show Disp.hold X A B U V' d (qc (Fin.cast (nCore_eq 0) c)) (coreX (A d) (B d) c.val) (coreW (A d) (B d) c.val) (S₀ d) (T₀ d) ⊢ |={Set.univ}=> iprop(
      (bigSep Finset.univ fun i : Fin 16 => Disp.hold X A B U V' d (qt (Fin.cast (nCore_eq 0) c) i) (tileX (A d) (B d) c.val i.val) (tileW (A d) (B d) c.val i.val) (S₀ d) (T₀ d))
      ∗ ((bigSep Finset.univ fun i : Fin 16 => Disp.hold X A B U V' d (qt (Fin.cast (nCore_eq 0) c) i) (tileX (A d) (B d) c.val i.val) (tileW (A d) (B d) c.val i.val) (outX X A B S₀ d) (outW A B U V' T₀ d))
          -∗ Disp.hold X A B U V' d (qc (Fin.cast (nCore_eq 0) c)) (coreX (A d) (B d) c.val) (coreW (A d) (B d) c.val) (outX X A B S₀ d) (outW A B U V' T₀ d)))
  have e := fun f g => Disp.hold_split X A B U V' d (n := 16) (by decide) (qc (Fin.cast (nCore_eq 0) c)) f g (fun s => tileX (A d) (B d) c.val s.val) (fun s => tileW (A d) (B d) c.val s.val)
    (Disp.tileX_disjoint hd (Fin.cast (nCore_eq 0) c)) (Disp.tileW_disjoint hd (Fin.cast (nCore_eq 0) c))
  unfold coreX coreW
  rw [e (S₀ d) (T₀ d), e (outX X A B S₀ d) (outW A B U V' T₀ d)]
  iintro H; imodintro
  isplitl [H]; · iexact H
  iintro H; iexact H

/-- And the combine. -/
theorem vecSplit_combine : (K (F := F)).VecSplit' (P X A B U V' S₀ T₀ Y O₀) 1 := by
  intro d c
  have hc : c.val < 2 := c.isLt
  show Comb.hold Y A B d (qc (Fin.cast (nCore_eq 1) c)) (Comb.coreSet c.val) (O₀ d) ⊢ |={Set.univ}=> iprop(
      (bigSep Finset.univ fun i : Fin 16 => Comb.hold Y A B d (qt (Fin.cast (nCore_eq 1) c) i) (Comb.tileSet c.val i.val) (O₀ d))
      ∗ ((bigSep Finset.univ fun i : Fin 16 => Comb.hold Y A B d (qt (Fin.cast (nCore_eq 1) c) i) (Comb.tileSet c.val i.val) (Comb.out Y A B d))
          -∗ Comb.hold Y A B d (qc (Fin.cast (nCore_eq 1) c)) (Comb.coreSet c.val) (Comb.out Y A B d)))
  have e := fun f => Comb.hold_split Y A B d (n := 16) (by decide) (qc (Fin.cast (nCore_eq 1) c)) (Comb.coreSet c.val) f (fun s => Comb.tileSet c.val s.val)
    (Comb.tile_disjoint _) (Comb.tile_cover _ hc)
  rw [e (O₀ d), e (Comb.out Y A B d)]
  iintro H; imodintro
  isplitl [H]; · iexact H
  iintro H; iexact H

/-- The dispatch's hands, all SparseCores together. -/
theorem st_dispatch (h : AllOK A B) (d : Dev nD) : (bigSep Finset.univ fun c : Fin ((K (F := F)).nCore 0) => (P X A B U V' S₀ T₀ Y O₀).st 0 d c)
    = Disp.hold X A B U V' d fullShare (allX (A d) (B d)) (allWs (A d) (B d)) (S₀ d) (T₀ d) :=
  (Disp.hold_split X A B U V' d (n := 2) (by decide) fullShare (S₀ d) (T₀ d) (fun c => coreX (A d) (B d) c.val) (fun c => coreW (A d) (B d) c.val)
    (Disp.coreX_disjoint (h d)) (Disp.coreW_disjoint (h d))).symm
theorem dn_dispatch (h : AllOK A B) (d : Dev nD) : (bigSep Finset.univ fun c : Fin ((K (F := F)).nCore 0) => (P X A B U V' S₀ T₀ Y O₀).dn 0 d c)
    = Disp.hold X A B U V' d fullShare (allX (A d) (B d)) (allWs (A d) (B d)) (outX X A B S₀ d) (outW A B U V' T₀ d) :=
  (Disp.hold_split X A B U V' d (n := 2) (by decide) fullShare (outX X A B S₀ d) (outW A B U V' T₀ d) (fun c => coreX (A d) (B d) c.val) (fun c => coreW (A d) (B d) c.val)
    (Disp.coreX_disjoint (h d)) (Disp.coreW_disjoint (h d))).symm

/-- The combine's hands, all SparseCores together. -/
theorem st_combine (d : Dev nD) : (bigSep Finset.univ fun c : Fin ((K (F := F)).nCore 1) => (P X A B U V' S₀ T₀ Y O₀).st 1 d c) = Comb.hold Y A B d fullShare Finset.univ (O₀ d) :=
  (Comb.hold_split Y A B d (n := 2) (by decide) fullShare Finset.univ (O₀ d) (fun c => Comb.coreSet c.val) Comb.core_disjoint Comb.core_cover).symm
theorem dn_combine (d : Dev nD) : (bigSep Finset.univ fun c : Fin ((K (F := F)).nCore 1) => (P X A B U V' S₀ T₀ Y O₀).dn 1 d c) = Comb.hold Y A B d fullShare Finset.univ (Comb.out Y A B d) :=
  (Comb.hold_split Y A B d (n := 2) (by decide) fullShare Finset.univ (Comb.out Y A B d) (fun c => Comb.coreSet c.val) Comb.core_disjoint Comb.core_cover).symm

/-- A device's sorted arrays whole, for the dispatch: the part the tokens name is handed over, the rest kept, and what
    comes back with the rest is the dispatch's result. -/
theorem dispatch_whole (d : Dev nD) :
    iprop((xLoc d ↦{fullShare} X d) ∗ (Comb.aLoc d ↦{fullShare} A d) ∗ (Comb.bLoc d ↦{fullShare} B d) ∗ (uLoc d ↦{fullShare} U d) ∗ (vLoc d ↦{fullShare} V' d)
        ∗ (sLoc d ↦{fullShare} S₀ d) ∗ (tLoc d ↦{fullShare} T₀ d))
      ⊢ (iprop(Disp.hold X A B U V' d fullShare (allX (A d) (B d)) (allWs (A d) (B d)) (S₀ d) (T₀ d)
        ∗ (Disp.hold X A B U V' d fullShare (allX (A d) (B d)) (allWs (A d) (B d)) (outX X A B S₀ d) (outW A B U V' T₀ d)
          -∗ iprop((xLoc d ↦{fullShare} X d) ∗ (Comb.aLoc d ↦{fullShare} A d) ∗ (Comb.bLoc d ↦{fullShare} B d) ∗ (uLoc d ↦{fullShare} U d) ∗ (vLoc d ↦{fullShare} V' d)
            ∗ (sLoc d ↦{fullShare} outX X A B S₀ d) ∗ (tLoc d ↦{fullShare} outW A B U V' T₀ d)))) : sProp 𝕄) := by
  have eq_of {P Q : sProp 𝕄} (h : P ⊣⊢ Q) : P = Q := equiv_iff.mp ⟨h.1, h.2⟩
  have es := fun f : Buf (Elt F) (sLoc d) => eq_of (pointsTo_split_subset (Val := Elt F) (Ix := HIx 2) (Name := ℕ) (U := UU) (Lvl := ℕ) (ℓ := sLoc d) (q := fullShare) (f := f) (Finset.subset_univ (allX (A d) (B d))))
  have et := fun f : Buf (Elt F) (tLoc d) => eq_of (pointsTo_split_subset (Val := Elt F) (Ix := HIx 2) (Name := ℕ) (U := UU) (Lvl := ℕ) (ℓ := tLoc d) (q := fullShare) (f := f) (Finset.subset_univ (allWs (A d) (B d))))
  rw [es (S₀ d), et (T₀ d), es (outX X A B S₀ d), et (outW A B U V' T₀ d),
    pointsTo_congr (f := outX X A B S₀ d) (g := S₀ d) (I := Finset.univ \ allX (A d) (B d)) fun x hx => Disp.placed_restX _ _ _ x (Finset.mem_sdiff.mp hx).2,
    pointsTo_congr (f := outW A B U V' T₀ d) (g := T₀ d) (I := Finset.univ \ allWs (A d) (B d)) fun x hx => Disp.placed_restW _ _ _ x (Finset.mem_sdiff.mp hx).2]
  unfold Disp.hold
  iintro ⟨Hx, Ha, Hb, Hu, Hv, ⟨Hs, Hs'⟩, Ht, Ht'⟩
  isplitl [Hx Ha Hb Hu Hv Hs Ht]
  · isplitl [Hx]; · iexact Hx
    isplitl [Ha]; · iexact Ha
    isplitl [Hb]; · iexact Hb
    isplitl [Hu]; · iexact Hu
    isplitl [Hv]; · iexact Hv
    isplitl [Hs] <;> iassumption
  iintro ⟨Hx, Ha, Hb, Hu, Hv, Hs, Ht⟩
  isplitl [Hx]; · iexact Hx
  isplitl [Ha]; · iexact Ha
  isplitl [Hb]; · iexact Hb
  isplitl [Hu]; · iexact Hu
  isplitl [Hv]; · iexact Hv
  isplitl [Hs Hs']; · isplitl [Hs] <;> iassumption
  isplitl [Ht] <;> iassumption

end Cert.Proof.Calls

end
-- ==== Proof.Gmm.Region.lean ====
/-
  The grouped matrix products' region: forty points, each a block of 128 expert rows through the three weight matrices
  of the block's expert. The body at a point, the proof data from given array contents, and the region entered from a
  TensorCore's whole unscoped memory.
-/
module

public import proofs.«01_k».proof.Proof.Comb.Launch
public import proofs.«01_k».proof.Proof.Gen.KernelIdeal.Skeleton
public import Idealize.ShloMosaic.Lib.Pipeline.Regions
public import Idealize.ShloMosaic.Lib.Pipeline.RegionsLoop
public import Idealize.ShloMosaic.Lib.Pipeline.FrameBody
public import Idealize.ShloMosaic.Lib.Pipeline.ValueKit
public import Idealize.ShloMosaic.Lib.VecWindow
public import Idealize.ShloMosaic.Lib.WordCmp

@[expose] public section

set_option maxRecDepth 16384

noncomputable section

namespace Cert.Proof.Gmm

open Cert.KernelIdeal Cert.KernelIdeal.Gen
open Cert.Proof.Comb (UH UP UU K EP 𝒱₀)

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

/-! ## The layout -/

/-- The staging semaphores, all of the one pipeline. -/
abbrev stagingSems : Fin 1 → List (DmaSem sig) := fun _ => Pipeline.specSems spec1
theorem stagingSems_nodup : ∀ p : Fin 1, (stagingSems p).Nodup := by decide
theorem stagingSems_apart : ∀ p p' : Fin 1, p ≠ p' → (stagingSems p).Forall (· ∉ stagingSems p') := fun p p' h => absurd (Subsingleton.elim p p') h

theorem cells_inj (a : (p : Fin 1) → (pcfgs (F := F) p).Adm) :
    Function.Injective (Pipeline.cellOf (nD := nD) (τ := τ) (Pipeline.pin (pcfgs (F := F)) a)) :=
  Pipeline.cellOf_injective_of_table (Pipeline.pin (pcfgs (F := F)) a) stagingSems (fun _ => rfl) stagingSems_nodup stagingSems_apart

theorem win_facts : Pipeline.WinFacts spec1 := by decide
theorem pre_facts : Pipeline.PreFacts spec1 pre1 := by decide
theorem blocks_pos : ∀ w : Fin 6, 0 < (spec1 w).block.numel := by decide
theorem arrays_whole : ∀ w : Fin 6, (spec1 w).arr.IsWhole := Facts.harr1
theorem stages_whole : ∀ (w : Fin 6) (s : Fin (spec1 w).nbuf), ((spec1 w).stage s).IsWhole
  | 0, s => Facts₀.hstage1_0 s | 1, s => Facts₀.hstage1_1 s | 2, s => Facts₀.hstage1_2 s
  | 3, s => Facts₀.hstage1_3 s | 4, s => Facts₀.hstage1_4 s | 5, s => Facts₀.hstage1_5 s

theorem sep_windows {M : Type} [URA M] (Φ : Fin 6 → sProp M) :
    bigSep Finset.univ Φ = iprop(Φ (0 : Fin 6) ∗ Φ (1 : Fin 6) ∗ Φ (2 : Fin 6) ∗ Φ (3 : Fin 6) ∗ Φ (4 : Fin 6) ∗ Φ (5 : Fin 6)) :=
  bigSep_univ_eq_bigSepL [(0 : Fin 6), 1, 2, 3, 4, 5] (by decide) (by decide) Φ

/-- The TensorCore has no scoped buffer but the staging ones. -/
theorem no_scratch (c : Dev nD) : (Pipeline.scopedRest (Ix := HIx 2) (Name := ℕ) (U := UU) (Lvl := ℕ) (Val := Elt F) spec1 c : sProp 𝕄) = (BI.emp : sProp 𝕄) :=
  Pipeline.scopedRest_eq_of_list spec1 c [] (by decide) (by decide)

/-! ## The body at a point -/

/-- A block of weights' first column. -/
def col0 (x : Vec F S128x128 .f32) : Vec F S128x1 .f32 := fun j => x fun a => match a with | 0 => ⟨(j 0).val, (j 0).isLt⟩ | 1 => ⟨0, by decide⟩

/-- The body on whole staging buffers, the inputs' at their blocks: it leaves the inputs' as they were and the result's
    at the block's product. -/
theorem body_wp (c : Dev nD) (i : grid1.Coords) (T : Memref sig .tc .smem S40 .i32) (hT : T.IsWhole)
    (A0 : Memref sig .tc .vmem S128x1024 .f32) (h0 : A0.IsWhole) (A1 : Memref sig .tc .vmem S128x128 .f32) (h1 : A1.IsWhole)
    (A2 : Memref sig .tc .vmem S1x2816x1024 .bf16) (h2 : A2.IsWhole) (A3 : Memref sig .tc .vmem S1x2816x1024 .bf16) (h3 : A3.IsWhole)
    (A4 : Memref sig .tc .vmem S1x1024x2816 .bf16) (h4 : A4.IsWhole) (A5 : Memref sig .tc .vmem S128x1024 .f32) (h5 : A5.IsWhole)
    (x0 : Vec F S128x1024 .f32) (x1 : Vec F S128x128 .f32) (x2 : Vec F S1x2816x1024 .bf16) (x3 : Vec F S1x2816x1024 .bf16) (x4 : Vec F S1x1024x2816 .bf16)
    (E : Set ℕ) (Q : PUnit → sProp 𝕄) :
    iprop(owns (c : Thread nD τ) A0 fullShare x0 ∗ owns (c : Thread nD τ) A1 fullShare x1 ∗ owns (c : Thread nD τ) A2 fullShare x2
        ∗ owns (c : Thread nD τ) A3 fullShare x3 ∗ owns (c : Thread nD τ) A4 fullShare x4 ∗ (∃ d, owns (c : Thread nD τ) A5 fullShare d)
        ∗ (iprop(owns (c : Thread nD τ) A0 fullShare x0 ∗ owns (c : Thread nD τ) A1 fullShare x1 ∗ owns (c : Thread nD τ) A2 fullShare x2
            ∗ owns (c : Thread nD τ) A3 fullShare x3 ∗ owns (c : Thread nD τ) A4 fullShare x4
            ∗ owns (c : Thread nD τ) A5 fullShare (k1_pay1 x0 x2 x3 x4 (col0 x1))) -∗ Q ⟨⟩))
      ⊢ wp frame (wpE (defs₀ (F := F)) Variants.none c none) E (cc1__gmm_kernel i T hT A0 h0 A1 h1 A2 h2 A3 h3 A4 h4 A5 h5) Q := by
  simp only [cc1__gmm_kernel_eq_skeleton]; unfold cc1__gmm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  obtain rfl := h0.eq_unread hf0; obtain rfl := h1.eq_unread hf1; obtain rfl := h2.eq_unread hf2; obtain rfl := h3.eq_unread hf3; obtain rfl := h4.eq_unread hf4
  sl_exec
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  iexists _; isplitr; swap; · iexact H5
  ipureintro
  rw [View.read_writes_full A5.view f5 inb_S128x1024_S128x1024_0_0, View.readAt_full A0.view _ inb_S128x1024_S128x1024_0_0, View.readAt_full A2.view _ inb_S1x2816x1024_S1x2816x1024_0_0_0,
    View.readAt_full A3.view _ inb_S1x2816x1024_S1x2816x1024_0_0_0, View.readAt_full A4.view _ inb_S1x1024x2816_S1x1024x2816_0_0_0, hf0, hf2, hf3, hf4]
  refine congrArg (k1_pay1 x0 x2 x3 x4) (funext fun j => ?_)
  show View.read (Elt F) A1.view (h1.unread x1) _ = _
  rw [hf1]
  refine congrArg x1 (funext fun b => Fin.ext ?_)
  match b with
  | 0 => show 0 + 1 * (j 0).val = (j 0).val; omega
  | 1 => show 0 + 1 * (j 1).val = 0; have : (j 1).val < 1 := (j 1).isLt; omega

/-! ## The proof data, from given array contents -/

section Data

/-- The level the dispatch's end reaches. -/
abbrev lvl : ℕ := 8 * (inferInstance : SparseCore.Cfg.Blocks 2 2).fst 1

variable (a : (pcfg1 (F := F)).Adm) (V : (c : Dev nD) → (b : Ref sig .tc) → Buf (Elt F) ((c : Thread nD τ).loc b))

/-- Window `w`'s block at point `t` of its array's contents. -/
def block (c : Dev nD) (w : Fin (cfg1 a).W) (t : Fin (cfg1 a).N) : (((cfg1 a).win w).xblock ((cfg1 a).grid.coords t)).Idx → Elt F ((cfg1 a).win w).elt :=
  (((cfg1 a).win w).blk t).view.read (Elt F) (V c (Pipeline.arrRef spec1 w))

/-- The rows the body writes at point `t`. -/
def product (c : Dev nD) (t : Fin (cfg1 a).N) : Vec F S128x1024 .f32 :=
  k1_pay1 (block a V c 0 t) (block a V c 2 t) (block a V c 3 t) (block a V c 4 t) (col0 (block a V c 1 t))

/-- The region's proof data on core `c`: the arrays at `V`; each input's buffer at its block after the body, the
    result's at the product; the tables held throughout; the SparseCore's start signals for the combine owed throughout; no
    wait recorded above the level the dispatch's end reaches. -/
def dat (c : Dev nD) : Dat τ (Elt F) (HIx 2) ℕ UU ℕ (cfg1 a) c where
  A w := V c (Pipeline.arrRef spec1 w)
  after w t := match w with
    | ⟨0, _⟩ => block a V c 0 t
    | ⟨1, _⟩ => block a V c 1 t
    | ⟨2, _⟩ => block a V c 2 t
    | ⟨3, _⟩ => block a V c 3 t
    | ⟨4, _⟩ => block a V c 4 t
    | ⟨5, _⟩ => product a V c t
  Φ _ := Pipeline.prefHeld pre1 c (fun _ => fullShare) a.1
  q _ := fullShare
  owed _ := (K (F := F)).Otc c 1
  recorded _ := {p | (K (F := F)).lev ((c : Thread nD τ), p.1) p.2 ≤ lvl}

theorem dat_A (c : Dev nD) (w : Fin (cfg1 a).W) : (dat a V c).A w = V c (Pipeline.arrRef spec1 w) := by dsimp only [dat]
theorem after_0 (c : Dev nD) (t : Fin (cfg1 a).N) : (dat a V c).after 0 t = block a V c 0 t := by dsimp only [dat]; try rfl
theorem after_1 (c : Dev nD) (t : Fin (cfg1 a).N) : (dat a V c).after 1 t = block a V c 1 t := by dsimp only [dat]; try rfl
theorem after_2 (c : Dev nD) (t : Fin (cfg1 a).N) : (dat a V c).after 2 t = block a V c 2 t := by dsimp only [dat]; try rfl
theorem after_3 (c : Dev nD) (t : Fin (cfg1 a).N) : (dat a V c).after 3 t = block a V c 3 t := by dsimp only [dat]; try rfl
theorem after_4 (c : Dev nD) (t : Fin (cfg1 a).N) : (dat a V c).after 4 t = block a V c 4 t := by dsimp only [dat]; try rfl
theorem after_5 (c : Dev nD) (t : Fin (cfg1 a).N) : (dat a V c).after 5 t = product a V c t := by dsimp only [dat]; try rfl

/-- An input's buffer holds its block at every point, fetched there or not. -/
theorem before_0 (c : Dev nD) (t : Fin (cfg1 a).N) (d) : (dat a V c).before 0 t d = block a V c 0 t :=
  ((dat a V c).before_in_eq_fetched 0 rfl (fun _ => rfl) (fun _ _ _ => rfl) (fun t => by rw [after_0]; unfold Dat.blockOf block; rw [dat_A]; try rfl) t d).trans
    (by unfold Dat.fetched Dat.blockOf block; rw [dat_A]; try rfl)
theorem before_1 (c : Dev nD) (t : Fin (cfg1 a).N) (d) : (dat a V c).before 1 t d = block a V c 1 t :=
  ((dat a V c).before_in_eq_fetched 1 rfl (fun _ => rfl) (fun _ _ _ => rfl) (fun t => by rw [after_1]; unfold Dat.blockOf block; rw [dat_A]; try rfl) t d).trans
    (by unfold Dat.fetched Dat.blockOf block; rw [dat_A]; try rfl)
theorem before_2 (c : Dev nD) (t : Fin (cfg1 a).N) (d) : (dat a V c).before 2 t d = block a V c 2 t :=
  ((dat a V c).before_in_eq_fetched 2 rfl (fun _ => rfl) (fun _ _ _ => rfl) (fun t => by rw [after_2]; unfold Dat.blockOf block; rw [dat_A]; try rfl) t d).trans
    (by unfold Dat.fetched Dat.blockOf block; rw [dat_A]; try rfl)
theorem before_3 (c : Dev nD) (t : Fin (cfg1 a).N) (d) : (dat a V c).before 3 t d = block a V c 3 t :=
  ((dat a V c).before_in_eq_fetched 3 rfl (fun _ => rfl) (fun _ _ _ => rfl) (fun t => by rw [after_3]; unfold Dat.blockOf block; rw [dat_A]; try rfl) t d).trans
    (by unfold Dat.fetched Dat.blockOf block; rw [dat_A]; try rfl)
theorem before_4 (c : Dev nD) (t : Fin (cfg1 a).N) (d) : (dat a V c).before 4 t d = block a V c 4 t :=
  ((dat a V c).before_in_eq_fetched 4 rfl (fun _ => rfl) (fun _ _ _ => rfl) (fun t => by rw [after_4]; unfold Dat.blockOf block; rw [dat_A]; try rfl) t d).trans
    (by unfold Dat.fetched Dat.blockOf block; rw [dat_A]; try rfl)

/-- The staging buffers in use at point `t`. -/
abbrev buf0 (t : Fin (cfg1 a).N) : Memref sig .tc .vmem S128x1024 .f32 := spec1_0.stage ((cfg1 a).slots t 0)
abbrev buf1 (t : Fin (cfg1 a).N) : Memref sig .tc .vmem S128x128 .f32 := spec1_1.stage ((cfg1 a).slots t 1)
abbrev buf2 (t : Fin (cfg1 a).N) : Memref sig .tc .vmem S1x2816x1024 .bf16 := spec1_2.stage ((cfg1 a).slots t 2)
abbrev buf3 (t : Fin (cfg1 a).N) : Memref sig .tc .vmem S1x2816x1024 .bf16 := spec1_3.stage ((cfg1 a).slots t 3)
abbrev buf4 (t : Fin (cfg1 a).N) : Memref sig .tc .vmem S1x1024x2816 .bf16 := spec1_4.stage ((cfg1 a).slots t 4)
abbrev buf5 (t : Fin (cfg1 a).N) : Memref sig .tc .vmem S128x1024 .f32 := spec1_5.stage ((cfg1 a).slots t 5)

/-- The body the pipeline calls at point `t`. -/
abbrev bodyAt (t : Fin (cfg1 a).N) : Prog (TpuEff nD τ sig (Elt F) Λ₀ .tc) PUnit :=
  cc1__gmm_kernel (grid1.coords t) (Memref.whole main_arg5) (Memref.isWhole_whole _) (buf0 a t) (Facts₀.hstage1_0 (((cfg1 a).slots t 0).cast Facts₀.nbuf1_0))
    (buf1 a t) (Facts₀.hstage1_1 (((cfg1 a).slots t 1).cast Facts₀.nbuf1_1))
    (buf2 a t) (Facts₀.hstage1_2 (((cfg1 a).slots t 2).cast Facts₀.nbuf1_2))
    (buf3 a t) (Facts₀.hstage1_3 (((cfg1 a).slots t 3).cast Facts₀.nbuf1_3))
    (buf4 a t) (Facts₀.hstage1_4 (((cfg1 a).slots t 4).cast Facts₀.nbuf1_4))
    (buf5 a t) (Facts₀.hstage1_5 (((cfg1 a).slots t 5).cast Facts₀.nbuf1_5))

theorem body_row (t : Fin (cfg1 a).N) : defs₀ (F := F) .tc (cfg1 a).body ((cfg1 a).bodyArgs t ((cfg1 a).slots t)) = bodyAt a t := by
  rfl

/-- The body at a point of the pipeline: from each input's buffer at its block, each left as it was and the result's at
    the product; the invariant and the core's debts pass through. -/
theorem body_at (c : Dev nD) (t : Fin (cfg1 a).N) :
    iprop((dat a V c).Φ t.castSucc ∗ (dat a V c).owesAt none t.castSucc
        ∗ (∃ d, owns (c : Thread nD τ) (buf0 a t) fullShare ((dat a V c).before 0 t d))
        ∗ (∃ d, owns (c : Thread nD τ) (buf1 a t) fullShare ((dat a V c).before 1 t d))
        ∗ (∃ d, owns (c : Thread nD τ) (buf2 a t) fullShare ((dat a V c).before 2 t d))
        ∗ (∃ d, owns (c : Thread nD τ) (buf3 a t) fullShare ((dat a V c).before 3 t d))
        ∗ (∃ d, owns (c : Thread nD τ) (buf4 a t) fullShare ((dat a V c).before 4 t d))
        ∗ (∃ d, owns (c : Thread nD τ) (buf5 a t) fullShare ((dat a V c).before 5 t d)))
      ⊢ wp frame (wpE (defs₀ (F := F)) Variants.none c none) Set.univ (bodyAt a t) fun _ =>
        iprop((dat a V c).Φ t.succ ∗ (dat a V c).owesAt none t.succ
          ∗ owns (c : Thread nD τ) (buf0 a t) fullShare ((dat a V c).after 0 t)
          ∗ owns (c : Thread nD τ) (buf1 a t) fullShare ((dat a V c).after 1 t)
          ∗ owns (c : Thread nD τ) (buf2 a t) fullShare ((dat a V c).after 2 t)
          ∗ owns (c : Thread nD τ) (buf3 a t) fullShare ((dat a V c).after 3 t)
          ∗ owns (c : Thread nD τ) (buf4 a t) fullShare ((dat a V c).after 4 t)
          ∗ owns (c : Thread nD τ) (buf5 a t) fullShare ((dat a V c).after 5 t)) := by
  simp only [before_0, before_1, before_2, before_3, before_4]
  rw [show (dat a V c).Φ t.succ = (dat a V c).Φ t.castSucc from rfl,
    show (dat a V c).owesAt none t.succ = (dat a V c).owesAt none t.castSucc from rfl,
    after_0, after_1, after_2, after_3, after_4, after_5]
  unfold product
  iintro ⟨HΦ, Ho, ⟨%d0, H0⟩, ⟨%d1, H1⟩, ⟨%d2, H2⟩, ⟨%d3, H3⟩, ⟨%d4, H4⟩, ⟨%d5, H5⟩⟩
  iapply (body_wp c (grid1.coords t) _ _ _ _ _ _ _ _ _ _ _ _ _ _ (block a V c 0 t) (block a V c 1 t) (block a V c 2 t) (block a V c 3 t) (block a V c 4 t) Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation. -/
theorem body_obligation (c : Dev nD) : BodyObligation (dat a V c) (defs₀ (F := F)) Variants.none none Set.univ := fun t => by
  rw [sep_windows, sep_windows, body_row]
  exact triple_restated (body_at a V c t) rfl .rfl fun _ => .rfl

/-! ## The region over the core's memory -/

/-- What the core owes between its calls: the combine's start signals, no wait recorded above the dispatch's end. -/
abbrev owing (c : Dev nD) : sProp 𝕄 :=
  iprop(∃ W, ⌜(K (F := F)).WBelow (c : Thread nD τ) W lvl⌝ ∗ owes (c : Thread nD τ) ((K (F := F)).Otc c 1) W)

/-- The result's array after the region. -/
abbrev final (c : Dev nD) : Buf (Elt F) ((c : Thread nD τ).loc main_v4) := (dat a V c).arrAt 5 (cfg1 a).N

theorem Otc_pos (c : Dev nD) (g : GSem nD τ sig) (i : HIx 2) (h : 0 < (K (F := F)).Otc c 1 g i) : lvl < (K (F := F)).lev g i :=
  lt_of_lt_of_le (Nat.lt_succ_self _) (SparseCore.Cfg.lev_of_Otc_pos h)

variable (Vp : (c : Dev nD) → (b : Ref sig .tc) → Buf (Elt F) ((c : Thread nD τ).loc b))

set_option backward.isDefEq.respectTransparency.types false in
/-- The core's memory at `V`, the tables among it at `a`: the arrays as the pipeline takes them, the tables, and the
    rest. -/
theorem memory_split (hV : ∀ c k, V c (pre1.ref k) = a.1 k) (c : Dev nD) :
    (unscopedBufs c (V c) : sProp 𝕄)
      ⊢ iprop((dat a V c).arrays ((dat a V c).arrAt · 0) ∗ Pipeline.prefHeld pre1 c (fun _ => fullShare) a.1 ∗ Pipeline.unscopedRestP pre1 spec1 c (V c)) := by
  have h := Pipeline.arrays_of_unscopedBufs (p := (0 : Fin 1)) (pcfgs (F := F)) (fun _ => a) (fun _ => dat a V) win_facts arrays_whole c
    ((dat a V c).share_full fun _ => rfl) (V c) fun _ => rfl
  refine h.trans (sep_mono .rfl (Entails.of_eq ?_))
  refine (Pipeline.unscopedRest_split pre_facts c (V c)).trans ?_
  rw [show (fun k => V c (pre1.ref k)) = a.1 from funext (hV c)]

set_option backward.isDefEq.respectTransparency.types false in
/-- And back, the result's array at what the pipeline wrote. -/
theorem memory_join (hV : ∀ c k, V c (pre1.ref k) = a.1 k) (hout : ∀ c, Vp c main_v4 = final a V c)
    (hne : ∀ c (b : Ref sig .tc), b ≠ main_v4 → Vp c b = V c b) (c : Dev nD) :
    iprop((dat a V c).arrays ((dat a V c).arrAt · (cfg1 a).N) ∗ Pipeline.prefHeld pre1 c (fun _ => fullShare) a.1 ∗ Pipeline.unscopedRestP pre1 spec1 c (V c))
      ⊢ (unscopedBufs c (Vp c) : sProp 𝕄) := by
  have h := Pipeline.unscopedBufs_of_arrays (p := (0 : Fin 1)) (pcfgs (F := F)) (fun _ => a) (Ix := HIx 2) (Name := ℕ) (U := UU) (Lvl := ℕ) win_facts arrays_whole c
    (fun _ => dat a V) ((dat a V c).share_full fun _ => rfl) (V c) (Vp c) ((dat a V c).arrAt · (cfg1 a).N)
    (fun w => by
      match w with
      | 0 => exact ((dat a V c).arrAt_in 0 rfl _).trans (hne c main_v0_0 (by decide)).symm
      | 1 => exact ((dat a V c).arrAt_in 1 rfl _).trans (hne c main_v0_1 (by decide)).symm
      | 2 => exact ((dat a V c).arrAt_in 2 rfl _).trans (hne c main_v1 (by decide)).symm
      | 3 => exact ((dat a V c).arrAt_in 3 rfl _).trans (hne c main_v2 (by decide)).symm
      | 4 => exact ((dat a V c).arrAt_in 4 rfl _).trans (hne c main_v3 (by decide)).symm
      | 5 => exact (hout c).symm)
    (fun b hb => hne c b fun h => hb (h ▸ Finset.mem_image.mpr ⟨5, Finset.mem_univ _, rfl⟩))
  refine (sep_mono .rfl (Entails.of_eq ?_)).trans h
  refine Eq.trans ?_ (Pipeline.unscopedRest_split pre_facts c (V c)).symm
  rw [show (fun k => V c (pre1.ref k)) = a.1 from funext (hV c)]

set_option backward.isDefEq.respectTransparency.types false in
/-- The region, entered from the core's memory at `V` and left with the result's array at what the pipeline wrote. -/
def reg (hV : ∀ c k, V c (pre1.ref k) = a.1 k) (hout : ∀ c, Vp c main_v4 = final a V c) (hne : ∀ c (b : Ref sig .tc), b ≠ main_v4 → Vp c b = V c b) :
    Pipeline.RegionSeg (pcfgs (F := F)) (fun _ => a) (fun _ => dat a V) none (defs₀ (F := F)) Variants.none (K (F := F)).L (K (F := F)).lev 0 where
  win := win_facts.to₀
  block_pos := blocks_pos
  stage_whole := stages_whole
  K := PEmpty
  osem k := k.elim
  ho := Pipeline.OwnSemFacts.none _
  hbody c := (body_obligation a V c).loose
  hwaits c := Pipeline.cellsWaits_of_cut (Pipeline.pin (pcfgs (F := F)) fun _ => a) (fun _ => dat a V) none 0 c lvl ((K (F := F)).Otc c 1)
    (fun _ => rfl) (fun _ _ => Finset.mem_univ _) (fun _ _ => Nat.zero_le _) fun g i h => ⟨Finset.mem_univ _, Otc_pos c g i h⟩
  pre c := iprop(unscopedBufs c (V c) ∗ owing c)
  post c := iprop(unscopedBufs c (Vp c) ∗ owing c)
  X _ := BI.emp
  Y c := Pipeline.prefHeld pre1 c (fun _ => fullShare) a.1
  Z c := Pipeline.unscopedRestP pre1 spec1 c (V c)
  hentry c := by
    rw [Pipeline.ownSems0_none]
    iintro ⟨⟨Hub, %W, %hW, HO⟩, -, -⟩
    ihave H := (memory_split a V hV c) $$ Hub
    icases H with ⟨Ha, Hp, Hz⟩
    imodintro
    isplitl [Ha]; · iexact Ha
    isplitl [Hp]; · iexact Hp
    isplitl [HO]
    · unfold Pipeline.Dat.owesAt Pipeline.owesWithin
      iexists W; isplitr; · ipureintro; exact fun q hq => Or.inl (hW q hq)
      iexact HO
    isplitr; · iempintro
    iexact Hz
  hin c := by
    rw [show (dat a V c).Φ 0 = Pipeline.prefHeld pre1 c (fun _ => fullShare) a.1 from rfl]
    iintro ⟨-, Hp, -⟩
    iexact Hp
  hout c := by
    rw [Pipeline.ownSems0_none, show Pipeline.scopedRest (Pipeline.pin (pcfgs (F := F)) (fun _ => a) 0).spec c = BI.emp from no_scratch c]
    rw [show (dat a V c).Φ (Fin.last (Pipeline.pin (pcfgs (F := F)) (fun _ => a) 0).N) = Pipeline.prefHeld pre1 c (fun _ => fullShare) a.1 from rfl]
    iintro Hp
    isplitl [Hp]; · iexact Hp
    isplitr <;> iempintro
  hexit c := by
    iintro ⟨Ha, HO, Hp, Hz⟩
    imodintro
    isplitl [Ha Hp Hz]
    · iapply (memory_join a V Vp hV hout hne c)
      isplitl [Ha]; · iexact Ha
      isplitl [Hp] <;> iassumption
    unfold Pipeline.Dat.owesAt Pipeline.owesWithin
    icases HO with ⟨%W, %hW, HO⟩
    iexists W; isplitr
    · ipureintro
      intro q hq
      rcases hW hq with h | ⟨w, s, rfl⟩
      · exact h
      · exact Nat.zero_le _
    iexact HO

end Data

end Cert.Proof.Gmm

end
-- ==== Proof.Gmm.Value.lean ====
/-
  The grouped products' result as one array: each block of 128 rows from its rows, its weights and its expert's matrices;
  the tables' side condition from the experts' range.
-/
module

public import proofs.«01_k».proof.Proof.Gmm.Region

@[expose] public section

set_option maxRecDepth 16384

noncomputable section

namespace Cert.Proof.Gmm

open Cert.KernelIdeal Cert.KernelIdeal.Gen
open Cert.Proof.Comb (UH UP UU K EP 𝒱₀)

open Idealize.ShloMosaic Idealize.ShloMosaic.TcCoe
open Idealize.SL.Sem
open Idealize.ShloMosaic.Pipeline (Dat Cfg Window)

variable {F : FTy → Type} [FloatOps F]

/-! ## The parts of the arrays -/

/-- The expert a word names. -/
def expertIx (v : BitVec 32) : Fin 8 := ⟨v.toNat % 8, Nat.mod_lt _ (by decide)⟩

theorem expertIx_val {v : BitVec 32} (h : v.toNat < 8) : (expertIx v).val = v.toNat := Nat.mod_eq_of_lt h

/-- Row `i` of block `t`. -/
def rowOf (t : Fin 40) (i : Fin 128) : Fin 5120 := ⟨128 * t.val + i.val, by omega⟩

/-- Block `t` of the rows, and of the weights. -/
def rowsAt (X : S5120x1024.Idx → Elt F .f32) (t : Fin 40) : Vec F S128x1024 .f32 := fun j => X (ix2 (rowOf t (j 0)) (j 1))
def weightsAt (X : S5120x128.Idx → Elt F .f32) (t : Fin 40) : Vec F S128x128 .f32 := fun j => X (ix2 (rowOf t (j 0)) (j 1))
/-- An expert's matrix. -/
def matAt (X : S8x2816x1024.Idx → Elt F .bf16) (e : Fin 8) : Vec F S1x2816x1024 .bf16 := fun j => X (ix3 e (j 1) (j 2))
def downAt (X : S8x1024x2816.Idx → Elt F .bf16) (e : Fin 8) : Vec F S1x1024x2816 .bf16 := fun j => X (ix3 e (j 1) (j 2))

/-- Block `t` of the result. -/
def blockOut (be : S40.Idx → BitVec 32) (xs : S5120x1024.Idx → Elt F .f32) (ws : S5120x128.Idx → Elt F .f32)
    (wg wu : S8x2816x1024.Idx → Elt F .bf16) (wd : S8x1024x2816.Idx → Elt F .bf16) (t : Fin 40) : Vec F S128x1024 .f32 :=
  k1_pay1 (rowsAt xs t) (matAt wg (expertIx (be (ix1 t)))) (matAt wu (expertIx (be (ix1 t)))) (downAt wd (expertIx (be (ix1 t)))) (col0 (weightsAt ws t))

/-- The whole result. -/
def gmmOut (be : S40.Idx → BitVec 32) (xs : S5120x1024.Idx → Elt F .f32) (ws : S5120x128.Idx → Elt F .f32)
    (wg wu : S8x2816x1024.Idx → Elt F .bf16) (wd : S8x1024x2816.Idx → Elt F .bf16) : S5120x1024.Idx → Elt F .f32 := fun x =>
  blockOut be xs ws wg wu wd ⟨(x 0).val / 128, by have h : (x 0).val < 5120 := (x 0).isLt; omega⟩ (ix2 ⟨(x 0).val % 128, Nat.mod_lt _ (by decide)⟩ (x 1))

/-! ## The index maps -/

theorem coord (t : Fin grid1.N) : (grid1.coords t 0).val = t.val := by revert t; decide

theorem map_0 : ∀ t : Fin grid1.N, cc1_transform_0 (grid1.coords t) = ![t.val, 0] := by decide
theorem map_1 : ∀ t : Fin grid1.N, cc1_transform_1 (grid1.coords t) = ![t.val, 0] := by decide
theorem map_5 : ∀ t : Fin grid1.N, cc1_transform_5 (grid1.coords t) = ![t.val, 0] := by decide
theorem off_1 : ∀ t : Fin grid1.N, k1_off1 (grid1.coords t) = ![t.val] := by decide

/-- A grid point as a block. -/
def pt (t : Fin grid1.N) : Fin 40 := ⟨t.val, t.isLt⟩

/-- The expert word of a point, in a table. -/
def word (pf : pre1.Contents (Elt F)) (t : Fin grid1.N) : BitVec 32 := (pf 0 : S40.Idx → BitVec 32) (ix1 (pt t))

/-- The word the weights' index maps read at a point. -/
theorem table_at (pf : pre1.Contents (Elt F)) (t : Fin grid1.N) :
    (pf.at 0 (Rect.unit (s := S40) ![(Scalar.indexCast (BitVec.ofNat 32 (grid1.coords t 0).val)).toNat] S1.size (Facts₀.k1_off1_inb (grid1.coords t))) Facts₀.numel1_S1 : BitVec 32)
      = word pf t := by
  have key : ∀ x y : S40.Idx, (x 0).val = (y 0).val → (pf 0 : S40.Idx → BitVec 32) x = (pf 0 : S40.Idx → BitVec 32) y := fun x y h =>
    congrArg _ (funext fun d => match d with | ⟨0, _⟩ => Fin.ext h)
  refine key _ _ ?_
  have := congrFun (off_1 t) 0
  show k1_off1 (grid1.coords t) 0 + 1 * 0 = t.val
  rw [this]; rfl

theorem map_2 (pf : pre1.Contents (Elt F)) (t : Fin grid1.N) :
    cc1_transform_2 Facts₀.k1_off1_inb Facts₀.numel1_S1 pf (grid1.coords t) = ![(word pf t).toNat, 0, 0] :=
  congrArg (fun w : BitVec 32 => ![w.toNat, 0, 0]) (table_at pf t)
theorem map_3 (pf : pre1.Contents (Elt F)) (t : Fin grid1.N) :
    cc1_transform_3 Facts₀.k1_off1_inb Facts₀.numel1_S1 pf (grid1.coords t) = ![(word pf t).toNat, 0, 0] :=
  congrArg (fun w : BitVec 32 => ![w.toNat, 0, 0]) (table_at pf t)
theorem map_4 (pf : pre1.Contents (Elt F)) (t : Fin grid1.N) :
    cc1_transform_4 Facts₀.k1_off1_inb Facts₀.numel1_S1 pf (grid1.coords t) = ![(word pf t).toNat, 0, 0] :=
  congrArg (fun w : BitVec 32 => ![w.toNat, 0, 0]) (table_at pf t)

theorem coords_pt : ∀ i : grid1.Coords, ∃ t : Fin grid1.N, grid1.coords t = i := by decide

/-- A block of one expert's matrix is inside the array and moves whole words. -/
theorem mat_ok (n : ℕ) (hn : n < 8) : ∃ h : (∀ d, ((![n, 0, 0] : Fin 3 → ℕ) d + 1) * S1x2816x1024.size d ≤ S8x2816x1024.size d),
    EltTy.bits .bf16 = 32 ∨ (Rect.block (s := S8x2816x1024) S1x2816x1024.size ![n, 0, 0] h).WholeWords (EltTy.packing .bf16) :=
  ⟨fun d => match d with
    | 0 => (by omega : (n + 1) * 1 ≤ 8)
    | 1 => (by decide : (0 + 1) * 2816 ≤ 2816)
    | 2 => (by decide : (0 + 1) * 1024 ≤ 1024), .inr (.inr ⟨by decide, rfl, rfl, rfl⟩)⟩
theorem down_ok (n : ℕ) (hn : n < 8) : ∃ h : (∀ d, ((![n, 0, 0] : Fin 3 → ℕ) d + 1) * S1x1024x2816.size d ≤ S8x1024x2816.size d),
    EltTy.bits .bf16 = 32 ∨ (Rect.block (s := S8x1024x2816) S1x1024x2816.size ![n, 0, 0] h).WholeWords (EltTy.packing .bf16) :=
  ⟨fun d => match d with
    | 0 => (by omega : (n + 1) * 1 ≤ 8)
    | 1 => (by decide : (0 + 1) * 1024 ≤ 1024)
    | 2 => (by decide : (0 + 1) * 2816 ≤ 2816), .inr (.inr ⟨by decide, rfl, rfl, rfl⟩)⟩

/-- Experts in range, every block the index maps name is inside its array. -/
theorem ok_of_lt (pf : pre1.Contents (Elt F)) (h : ∀ t, (word pf t).toNat < 8) : ok1 pf := by
  refine ⟨fun i => ?_, fun i => ?_, fun i => ?_⟩
  all_goals obtain ⟨t, rfl⟩ := coords_pt i
  · rw [map_2]; exact mat_ok _ (h t)
  · rw [map_3]; exact mat_ok _ (h t)
  · rw [map_4]; exact down_ok _ (h t)

/-! ## The blocks the pipeline brings in -/

section Blocks

variable (a : (pcfg1 (F := F)).Adm) (V : (c : Dev nD) → (b : Ref sig .tc) → Buf (Elt F) ((c : Thread nD τ).loc b)) (c : Dev nD) (t : Fin (cfg1 a).N)

/-- Where block `t` of window 0 sits in its array. -/
theorem emb_0 (y : S128x1024.Idx) : ((((cfg1 a).win 0).blk t).view.emb y : S5120x1024.Idx) = ix2 (rowOf (pt t) (y 0)) (y 1) := by
  have e : ((cfg1 a).win 0).index t = ![t.val, 0] := map_0 t
  refine funext fun (d : Fin 2) => Fin.ext ((Pipeline.Window.rect_emb_val ((cfg1 a).win 0) t y d).trans ?_)
  rw [e]
  match d with
  | ⟨0, _⟩ => show t.val * 128 + (y 0).val = 128 * t.val + (y 0).val; omega
  | ⟨1, _⟩ => show 0 * 1024 + (y 1).val = (y 1).val; omega

/-- Where block `t` of window 1 sits in its array. -/
theorem emb_1 (y : S128x128.Idx) : ((((cfg1 a).win 1).blk t).view.emb y : S5120x128.Idx) = ix2 (rowOf (pt t) (y 0)) (y 1) := by
  have e : ((cfg1 a).win 1).index t = ![t.val, 0] := map_1 t
  refine funext fun (d : Fin 2) => Fin.ext ((Pipeline.Window.rect_emb_val ((cfg1 a).win 1) t y d).trans ?_)
  rw [e]
  match d with
  | ⟨0, _⟩ => show t.val * 128 + (y 0).val = 128 * t.val + (y 0).val; omega
  | ⟨1, _⟩ => show 0 * 128 + (y 1).val = (y 1).val; omega

/-- Where block `t` of window 5 sits in its array. -/
theorem emb_5 (y : S128x1024.Idx) : ((((cfg1 a).win 5).blk t).view.emb y : S5120x1024.Idx) = ix2 (rowOf (pt t) (y 0)) (y 1) := by
  have e : ((cfg1 a).win 5).index t = ![t.val, 0] := map_5 t
  refine funext fun (d : Fin 2) => Fin.ext ((Pipeline.Window.rect_emb_val ((cfg1 a).win 5) t y d).trans ?_)
  rw [e]
  match d with
  | ⟨0, _⟩ => show t.val * 128 + (y 0).val = 128 * t.val + (y 0).val; omega
  | ⟨1, _⟩ => show 0 * 1024 + (y 1).val = (y 1).val; omega

theorem block_rows : block a V c 0 t = rowsAt (V c main_v0_0) (pt t) := funext fun j => congrArg (V c main_v0_0) (emb_0 a t j)
theorem block_weights : block a V c 1 t = weightsAt (V c main_v0_1) (pt t) := funext fun j => congrArg (V c main_v0_1) (emb_1 a t j)

variable (hw : ∀ t, (word a.1 t).toNat < 8)

include hw

/-- Where block `t` of window 2 sits in its array. -/
theorem emb_2 (y : S1x2816x1024.Idx) : ((((cfg1 a).win 2).blk t).view.emb y : S8x2816x1024.Idx) = ix3 (expertIx (word a.1 t)) (y 1) (y 2) := by
  have e : ((cfg1 a).win 2).index t = ![(word a.1 t).toNat, 0, 0] := map_2 a.1 t
  refine funext fun (d : Fin 3) => Fin.ext ((Pipeline.Window.rect_emb_val ((cfg1 a).win 2) t y d).trans ?_)
  rw [e]
  match d with
  | ⟨0, _⟩ =>
    have hj : (y 0).val < 1 := (y 0).isLt
    show (word a.1 t).toNat * 1 + (y 0).val = (expertIx (word a.1 t)).val
    rw [expertIx_val (hw t)]; omega
  | ⟨1, _⟩ => show 0 * 2816 + (y 1).val = (y 1).val; omega
  | ⟨2, _⟩ => show 0 * 1024 + (y 2).val = (y 2).val; omega

/-- Where block `t` of window 3 sits in its array. -/
theorem emb_3 (y : S1x2816x1024.Idx) : ((((cfg1 a).win 3).blk t).view.emb y : S8x2816x1024.Idx) = ix3 (expertIx (word a.1 t)) (y 1) (y 2) := by
  have e : ((cfg1 a).win 3).index t = ![(word a.1 t).toNat, 0, 0] := map_3 a.1 t
  refine funext fun (d : Fin 3) => Fin.ext ((Pipeline.Window.rect_emb_val ((cfg1 a).win 3) t y d).trans ?_)
  rw [e]
  match d with
  | ⟨0, _⟩ =>
    have hj : (y 0).val < 1 := (y 0).isLt
    show (word a.1 t).toNat * 1 + (y 0).val = (expertIx (word a.1 t)).val
    rw [expertIx_val (hw t)]; omega
  | ⟨1, _⟩ => show 0 * 2816 + (y 1).val = (y 1).val; omega
  | ⟨2, _⟩ => show 0 * 1024 + (y 2).val = (y 2).val; omega

/-- Where block `t` of window 4 sits in its array. -/
theorem emb_4 (y : S1x1024x2816.Idx) : ((((cfg1 a).win 4).blk t).view.emb y : S8x1024x2816.Idx) = ix3 (expertIx (word a.1 t)) (y 1) (y 2) := by
  have e : ((cfg1 a).win 4).index t = ![(word a.1 t).toNat, 0, 0] := map_4 a.1 t
  refine funext fun (d : Fin 3) => Fin.ext ((Pipeline.Window.rect_emb_val ((cfg1 a).win 4) t y d).trans ?_)
  rw [e]
  match d with
  | ⟨0, _⟩ =>
    have hj : (y 0).val < 1 := (y 0).isLt
    show (word a.1 t).toNat * 1 + (y 0).val = (expertIx (word a.1 t)).val
    rw [expertIx_val (hw t)]; omega
  | ⟨1, _⟩ => show 0 * 1024 + (y 1).val = (y 1).val; omega
  | ⟨2, _⟩ => show 0 * 2816 + (y 2).val = (y 2).val; omega

theorem block_gate : block a V c 2 t = matAt (V c main_v1) (expertIx (word a.1 t)) := funext fun j => congrArg (V c main_v1) (emb_2 a t hw j)
theorem block_up : block a V c 3 t = matAt (V c main_v2) (expertIx (word a.1 t)) := funext fun j => congrArg (V c main_v2) (emb_3 a t hw j)
theorem block_down : block a V c 4 t = downAt (V c main_v3) (expertIx (word a.1 t)) := funext fun j => congrArg (V c main_v3) (emb_4 a t hw j)

theorem product_eq : product a V c t = blockOut (a.1 0) (V c main_v0_0) (V c main_v0_1) (V c main_v1) (V c main_v2) (V c main_v3) (pt t) := by
  unfold product blockOut
  rw [block_rows, block_weights, block_gate a V c t hw, block_up a V c t hw, block_down a V c t hw]
  rfl

/-- The result's array after the region. -/
theorem final_eq : final a V c = gmmOut (a.1 0) (V c main_v0_0) (V c main_v0_1) (V c main_v1) (V c main_v2) (V c main_v3) := by
  have e5 : ∀ t, ((cfg1 a).win 5).index t = ![t.val, 0] := fun t => map_5 t
  have fl : ∀ t, ((cfg1 a).win 5).flush t = true := (fun t => (Pipeline.Window.flushOf_reads cc1_transform_5 reads1_5 hreads1_5 0 (by decide) (by decide)
    (Pipeline.Window.sep_of_coord cc1_transform_5 0 0 (fun _ => rfl) (by decide)) (P := 1) (m := 0) (by decide) rfl t).mpr (Nat.mod_one _)
      : ∀ t : Fin grid1.N, Pipeline.Window.flushOf grid1 true cc1_transform_5 t = true)
  have n0 : ((cfg1 a).win 5).nblk (0 : Fin 2) = 40 := by show (5120 + 128 - 1) / 128 = 40; decide
  have n1 : ((cfg1 a).win 5).nblk (1 : Fin 2) = 1 := by show (1024 + 1024 - 1) / 1024 = 1; decide
  refine (dat a V c).arrAt_eq_of_covers 5 _ ⟨fun (d : Fin 2) => (by decide : ∀ d : Fin 2, 0 < S128x1024.size d) d,
    fun β => ⟨⟨(β (0 : Fin 2)).val, Nat.lt_of_lt_of_eq (β (0 : Fin 2)).isLt n0⟩, fl _, fun (d : Fin 2) => ⟨?_, .inl rfl⟩⟩⟩ fun t hf (y : S128x1024.Idx) => ?_
  · rw [e5]
    match d with
    | ⟨0, _⟩ => rfl
    | ⟨1, _⟩ => have h : (β (1 : Fin 2)).val < 1 := Nat.lt_of_lt_of_eq (β (1 : Fin 2)).isLt n1; show 0 = (β (1 : Fin 2)).val; omega
  · show (dat a V c).after 5 t y = _
    rw [after_5, product_eq a V c t hw]
    refine Eq.trans ?_ (congrArg (gmmOut (a.1 0) (V c main_v0_0) (V c main_v0_1) (V c main_v1) (V c main_v2) (V c main_v3)) (emb_5 a t y)).symm
    have hy : (y 0).val < 128 := (y 0).isLt
    unfold gmmOut
    refine congr (congrArg _ (Fin.ext ?_)) (funext fun (d : Fin 2) => Fin.ext ?_)
    · show t.val = (128 * t.val + (y 0).val) / 128
      omega
    · match d with
      | ⟨0, _⟩ => show (y 0).val = (128 * t.val + (y 0).val) % 128; omega
      | ⟨1, _⟩ => rfl

end Blocks

end Cert.Proof.Gmm

end
-- ==== Proof.Whole.Run.lean ====
/-
  The program's run: the dispatch, the weights' casts, the grouped products' region, the combine, from any launch memory
  whose expert words name experts and whose positions name rows, no row twice.
-/
module

public import proofs.«01_k».proof.Proof.Calls.Launch
public import proofs.«01_k».proof.Proof.Gmm.Value
public import Idealize.ShloMosaic.Lib.Pipeline.Frame

@[expose] public section

set_option maxRecDepth 16384

noncomputable section

namespace Cert.Proof.Whole

open Cert.KernelIdeal Cert.KernelIdeal.Gen
open Cert.Proof.Comb (UH UP UU EH EP 𝒱₀ 𝒱 v₀ ΛP K D facts yLoc aLoc bLoc oLoc comb out)
open Cert.Proof.Disp (xLoc uLoc vLoc sLoc tLoc placed AllOK)
open Cert.Proof.Gmm
open Cert.Proof.Calls (P)

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-! ## The casts of the weights -/

/-- The three casts, in order. -/
abbrev casts : List (HloOp τ sig (Elt F)) :=
  [ StableHlo.unary main_arg6 main_v1 ((truncf .bf16 · bitsLt_bf16_f32) : (⟨S8x2816x1024, .f32⟩ : BufTy).Contents (Elt F) → (⟨S8x2816x1024, .bf16⟩ : BufTy).Contents (Elt F)),
    StableHlo.unary main_arg7 main_v2 ((truncf .bf16 · bitsLt_bf16_f32) : (⟨S8x2816x1024, .f32⟩ : BufTy).Contents (Elt F) → (⟨S8x2816x1024, .bf16⟩ : BufTy).Contents (Elt F)),
    StableHlo.unary main_arg8 main_v3 ((truncf .bf16 · bitsLt_bf16_f32) : (⟨S8x1024x2816, .f32⟩ : BufTy).Contents (Elt F) → (⟨S8x1024x2816, .bf16⟩ : BufTy).Contents (Elt F)) ]
theorem casts_sub : (casts : List (HloOp τ sig (Elt F))).Forall fun op => op.bufs ⊆ StableHlo.tcRefs τ sig :=
  ⟨StableHlo.unary_bufs_sub .., StableHlo.unary_bufs_sub .., StableHlo.unary_bufs_sub ..⟩
theorem casts_fresh : (casts : List (HloOp τ sig (Elt F))).Forall fun op => op.fresh = ∅ := by
  simp only [List.Forall]; repeat' constructor

/-- @main is the dispatch, the casts, the products' region, the combine. -/
theorem main_eq (d : Dev nD) : main (F := F) d = ((sc (F := F)).run d 0 >>= fun _ => StableHlo.seq casts >>= fun _ =>
    SparseCore.liftProg (.op (.customCall (Pipeline.entry (0 : Fin 1)) ()) .ret) >>= fun _ => (sc (F := F)).run d 1) := by
  rfl

section Run

variable (m : (ℓ : Loc nD τ sig) → Buf (Elt F) ℓ) (ρ : Dev nD → PrngReg)

/-- The sorted rows and weights after the dispatch. -/
abbrev xsm (d : Dev nD) : Buf (Elt F) (sLoc d) := Disp.outX (fun d => m (xLoc d)) (fun d => m (aLoc d)) (fun d => m (bLoc d)) (fun d => m (sLoc d)) d
abbrev wsm (d : Dev nD) : Buf (Elt F) (tLoc d) :=
  Disp.outW (fun d => m (aLoc d)) (fun d => m (bLoc d)) (fun d => m (uLoc d)) (fun d => m (vLoc d)) (fun d => m (tLoc d)) d

/-- A device's memory after the dispatch. -/
def Vl (c : Dev nD) : Valuation τ sig (Elt F) :=
  Function.update (Function.update (fun b => m (c, b)) (Proc.devRef .tc main_v0_0) (xsm m c)) (Proc.devRef .tc main_v0_1) (wsm m c)

theorem Vl_s (c : Dev nD) : Vl m c (Proc.devRef .tc main_v0_0) = xsm m c := by
  unfold Vl; rw [Function.update_of_ne (StableHlo.devRef_ne_of_ne (by decide)), Function.update_self]
theorem Vl_t (c : Dev nD) : Vl m c (Proc.devRef .tc main_v0_1) = wsm m c := by unfold Vl; rw [Function.update_self]
theorem Vl_ne (c : Dev nD) (b : Ref sig .tc) (h0 : b ≠ main_v0_0) (h1 : b ≠ main_v0_1) : Vl m c (Proc.devRef .tc b) = m ((c : Thread nD τ).loc b) := by
  unfold Vl; rw [Function.update_of_ne (StableHlo.devRef_ne_of_ne h1), Function.update_of_ne (StableHlo.devRef_ne_of_ne h0)]

/-- The core's buffers of it. -/
def Vd (c : Dev nD) (b : Ref sig .tc) : Buf (Elt F) ((c : Thread nD τ).loc b) := Vl m c (Proc.devRef .tc b)
theorem Vd_s (c : Dev nD) : Vd m c main_v0_0 = xsm m c := Vl_s m c
theorem Vd_t (c : Dev nD) : Vd m c main_v0_1 = wsm m c := Vl_t m c
theorem Vd_ne (c : Dev nD) (b : Ref sig .tc) (h0 : b ≠ main_v0_0) (h1 : b ≠ main_v0_1) : Vd m c b = m ((c : Thread nD τ).loc b) := Vl_ne m c b h0 h1

/-- The core's buffers after the casts. -/
abbrev Vc (c : Dev nD) (b : Ref sig .tc) : Buf (Elt F) ((c : Thread nD τ).loc b) := StableHlo.after casts (Vl m c) b

/-- A buffer no cast writes is as after the dispatch. -/
theorem Vc_of_ne (c : Dev nD) (b : Ref sig .tc) (h0 : b ≠ main_v1) (h1 : b ≠ main_v2) (h2 : b ≠ main_v3) : Vc m c b = Vl m c (Proc.devRef .tc b) :=
  StableHlo.after_of_forall_not_mem (b := Proc.devRef .tc b) _ _ (List.forall_iff_forall_mem.mp (by
    simp only [casts, List.Forall, StableHlo.unary_writes, Finset.mem_singleton]
    exact ⟨StableHlo.devRef_ne_of_ne h0, StableHlo.devRef_ne_of_ne h1, StableHlo.devRef_ne_of_ne h2⟩))

/-- A buffer that neither the dispatch nor a cast writes. -/
def untouched (b : Ref sig .tc) : Prop := b ≠ main_v0_0 ∧ b ≠ main_v0_1 ∧ b ≠ main_v1 ∧ b ≠ main_v2 ∧ b ≠ main_v3
instance (b : Ref sig .tc) : Decidable (untouched b) := by unfold untouched; infer_instance
theorem Vc_arg (c : Dev nD) (b : Ref sig .tc) (h : untouched b) : Vc m c b = m ((c : Thread nD τ).loc b) :=
  (Vc_of_ne m c b h.2.2.1 h.2.2.2.1 h.2.2.2.2).trans (Vl_ne m c b h.1 h.2.1)

/-- Every expert word names an expert, every position an expert row, no row twice. -/
def PreOK : Prop := (∀ t, (m (((0 : Dev nD) : Thread nD τ).loc main_arg5) t : BitVec 32).toNat < 8)
  ∧ AllOK (fun d => m (aLoc d)) fun d => m (bLoc d)

variable (hpre : PreOK m)

/-- The experts' table, admissible. -/
def tab : (pcfg1 (F := F)).Adm := ⟨fun k => Vc m 0 (pre1.ref k), ok_of_lt _ fun t => by
  have h := hpre.1 (ix1 (pt t))
  rw [← Vc_arg m 0 main_arg5 (by decide)] at h
  exact h⟩

theorem tab_eq (c : Dev nD) : ∀ k, Vc m c (pre1.ref k) = (tab m hpre).1 k := fun k => by
  obtain rfl : c = 0 := Subsingleton.elim _ _
  rfl

/-- The products' result. -/
abbrev rows (c : Dev nD) : Buf (Elt F) ((c : Thread nD τ).loc main_v4) := final (tab m hpre) (Vc m) c

/-- The core's buffers after the products. -/
def Vg (c : Dev nD) (b : Ref sig .tc) : Buf (Elt F) ((c : Thread nD τ).loc b) :=
  if h : b = main_v4 then h ▸ rows m hpre c else Vc m c b
theorem Vg_rows (c : Dev nD) : Vg m hpre c main_v4 = rows m hpre c := by unfold Vg; rw [dif_pos rfl]
theorem Vg_ne (c : Dev nD) (b : Ref sig .tc) (h : b ≠ main_v4) : Vg m hpre c b = Vc m c b := by unfold Vg; rw [dif_neg h]
theorem Vg_arg (c : Dev nD) (b : Ref sig .tc) (h : b ≠ main_v4) (h0 : untouched b) :
    Vg m hpre c b = m ((c : Thread nD τ).loc b) := (Vg_ne m hpre c b h).trans (Vc_arg m c b h0)

abbrev region := reg (tab m hpre) (Vc m) (Vg m hpre) (tab_eq m hpre) (Vg_rows m hpre) (Vg_ne m hpre)

abbrev Pm : (K (F := F)).Pay (nD := nD) (Val := Elt F) (Name := ℕ) (U := UU) :=
  P (fun d => m (xLoc d)) (fun d => m (aLoc d)) (fun d => m (bLoc d)) (fun d => m (uLoc d)) (fun d => m (vLoc d)) (fun d => m (sLoc d)) (fun d => m (tLoc d))
    (rows m hpre) (fun d => m (oLoc d))
abbrev outm (d : Dev nD) : Buf (Elt F) (oLoc d) := out (rows m hpre) (fun d => m (aLoc d)) (fun d => m (bLoc d)) d

/-! ## The launch's ghost state -/

abbrev pinned := Pipeline.pin (pcfgs (F := F)) fun _ => tab m hpre
abbrev pinned_inj := cells_inj (F := F) fun _ => tab m hpre

def u₀ : UU := (initOf (K (F := F)).hsCells (K (F := F)).hsToks,
  (initOf (Pipeline.cells (nD := nD) (τ := τ) (pinned m hpre) (pinned_inj m hpre)) (Pipeline.launchToks (nD := nD) (τ := τ) (pinned m hpre) (pinned_inj m hpre)), 1))

/-- The region's share of it, on a core. -/
abbrev ghost (c : Dev nD) : sProp 𝕄 := iprop(Pipeline.cellsGhost (pinned m hpre) EP 0 c ∗ Pipeline.toksInit (pinned m hpre) EP 0 c)

theorem own_EP (x : UP) : (BI.own ((Emb.inl.trans (embR (nD := nD) (τ := τ) (sig := sig) (Ix := HIx 2) (Val := Elt F) (Name := ℕ) (Lvl := ℕ) (A := UH) (B := UP × Counters))) x) : sProp 𝕄)
    = BI.own (EP x) := rfl

theorem hu₀ : (ownU (u₀ m hpre) : sProp 𝕄)
    ⊢ |={Set.univ}=> iprop(BI.own (EH (initOf (K (F := F)).hsCells (K (F := F)).hsToks)) ∗ (bigSep Finset.univ fun c : Dev nD => ghost m hpre c)
        ∗ bigSep Finset.univ fun thr : Thread nD τ => bigSep Finset.univ fun q : Fin 2 => (Pm m hpre).x q thr) := by
  unfold u₀
  iintro Hu
  ihave H := (ownU_pair (initOf (K (F := F)).hsCells (K (F := F)).hsToks) (_ : UP × Counters)) $$ Hu
  icases H with ⟨HH, HR⟩
  ihave H := (own_pair_emb (embR (nD := nD) (τ := τ) (sig := sig) (Ix := HIx 2) (Val := Elt F) (Name := ℕ) (Lvl := ℕ) (A := UH) (B := UP × Counters))
    (_ : UP) (1 : Counters)) $$ HR
  icases H with ⟨HP, -⟩
  ihave HP := (Entails.of_eq (own_EP _)) $$ HP
  imod (Pipeline.fund_ghost (nD := nD) (τ := τ) (pinned m hpre) (EP (F := F)) (pinned_inj m hpre)) $$ HP with ⟨Hg, Ht⟩
  imodintro
  isplitl [HH]; · iexact HH
  have e : ∀ {I : Type} (s : Finset I), (bigSep s fun _ => iprop(emp)) = (iprop(emp) : sProp 𝕄) := fun s => bigSep_emp_const s
  isplitl [Hg Ht]
  · rw [bigSep_sep']
    isplitl [Hg]
    · rw [show (bigSep Finset.univ fun c : Dev nD => Pipeline.cellsGhost (pinned m hpre) (EP (F := F)) 0 c)
        = bigSep Finset.univ fun c : Dev nD => bigSep Finset.univ fun p => Pipeline.cellsGhost (pinned m hpre) (EP (F := F)) p c from
        bigSep_congr fun c _ => (bigSep_univ_of_subsingleton (Φ := fun p : Fin 1 => Pipeline.cellsGhost (pinned m hpre) (EP (F := F)) p c) 0).symm]
      iexact Hg
    · rw [show (bigSep Finset.univ fun c : Dev nD => Pipeline.toksInit (pinned m hpre) (EP (F := F)) 0 c)
        = bigSep Finset.univ fun c : Dev nD => bigSep Finset.univ fun p => Pipeline.toksInit (pinned m hpre) (EP (F := F)) p c from
        bigSep_congr fun c _ => (bigSep_univ_of_subsingleton (Φ := fun p : Fin 1 => Pipeline.toksInit (pinned m hpre) (EP (F := F)) p c) 0).symm]
      iexact Ht
  rw [show (bigSep Finset.univ fun thr : Thread nD τ => bigSep Finset.univ fun q : Fin 2 => (Pm m hpre).x q thr) = bigSep Finset.univ fun _ => iprop(emp) from
    bigSep_congr fun _ _ => e _, e]
  iempintro

/-! ## @main -/

theorem held_uc (c : Dev nD) (W : Valuation τ sig (Elt F)) :
    (unscopedBufs c (fun b => W (Proc.devRef .tc b)) : sProp 𝕄) = StableHlo.held (c : Thread nD τ) (Pipeline.ucRefs τ sig) W := by
  unfold unscopedBufs StableHlo.held Pipeline.ucRefs StableHlo.tcRefs
  rw [Finset.filter_map, bigSep_map]; rfl

theorem assoc_eq (P Q R : sProp 𝕄) : iprop((P ∗ Q) ∗ R) = iprop(P ∗ Q ∗ R) := by
  have h1 : iprop((P ∗ Q) ∗ R) ⊢ iprop(P ∗ Q ∗ R) := by
    iintro ⟨⟨HP, HQ⟩, HR⟩
    isplitl [HP]; · iexact HP
    isplitl [HQ] <;> iassumption
  have h2 : iprop(P ∗ Q ∗ R) ⊢ iprop((P ∗ Q) ∗ R) := by
    iintro ⟨HP, HQ, HR⟩
    isplitr [HR]; swap; · iexact HR
    isplitl [HP] <;> iassumption
  exact equiv_iff.mp ⟨h1, h2⟩

/-- What the dispatch does not take. -/
def keepD (d : Dev nD) (W : (b : Ref sig .tc) → Buf (Elt F) ((d : Thread nD τ).loc b)) : sProp 𝕄 :=
  bigSep {main_arg5, main_arg6, main_arg7, main_arg8, main_arg9, main_arg10, main_v1, main_v2, main_v3, main_v4, main_v5} fun b => ((d : Thread nD τ).loc b ↦{fullShare} W b)

theorem unscopedBufs_dispatch (d : Dev nD) (W : (b : Ref sig .tc) → Buf (Elt F) ((d : Thread nD τ).loc b)) :
    (unscopedBufs d W : sProp 𝕄) = iprop(((xLoc d ↦{fullShare} W main_arg0) ∗ (aLoc d ↦{fullShare} W main_arg1) ∗ (bLoc d ↦{fullShare} W main_arg2)
      ∗ (uLoc d ↦{fullShare} W main_arg3) ∗ (vLoc d ↦{fullShare} W main_arg4) ∗ (sLoc d ↦{fullShare} W main_v0_0) ∗ (tLoc d ↦{fullShare} W main_v0_1)) ∗ keepD d W) := by
  unfold unscopedBufs keepD
  rw [show (Finset.univ.filter fun b : Ref sig .tc => ¬ b.isScoped)
      = insert main_arg0 (insert main_arg1 (insert main_arg2 (insert main_arg3 (insert main_arg4 (insert main_v0_0 (insert main_v0_1
        {main_arg5, main_arg6, main_arg7, main_arg8, main_arg9, main_arg10, main_v1, main_v2, main_v3, main_v4, main_v5})))))) by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide)]
  simp only [assoc_eq]

/-- What the combine does not take. -/
def keep (d : Dev nD) (W : (b : Ref sig .tc) → Buf (Elt F) ((d : Thread nD τ).loc b)) : sProp 𝕄 :=
  bigSep {main_arg0, main_arg3, main_arg4, main_arg5, main_arg6, main_arg7, main_arg8, main_arg9, main_arg10, main_v0_0, main_v0_1, main_v1, main_v2, main_v3} fun b =>
    ((d : Thread nD τ).loc b ↦{fullShare} W b)

theorem unscopedBufs_eq (d : Dev nD) (W : (b : Ref sig .tc) → Buf (Elt F) ((d : Thread nD τ).loc b)) :
    (unscopedBufs d W : sProp 𝕄) = iprop((yLoc d ↦{fullShare} W main_v4) ∗ (aLoc d ↦{fullShare} W main_arg1) ∗ (bLoc d ↦{fullShare} W main_arg2)
      ∗ (oLoc d ↦{fullShare} W main_v5) ∗ keep d W) := by
  unfold unscopedBufs keep
  rw [show (Finset.univ.filter fun b : Ref sig .tc => ¬ b.isScoped)
      = insert main_v4 (insert main_arg1 (insert main_arg2 (insert main_v5
        {main_arg0, main_arg3, main_arg4, main_arg5, main_arg6, main_arg7, main_arg8, main_arg9, main_arg10, main_v0_0, main_v0_1, main_v1, main_v2, main_v3}))) by decide,
    SparseCore.bigSep_insert' (by decide), SparseCore.bigSep_insert' (by decide), SparseCore.bigSep_insert' (by decide), SparseCore.bigSep_insert' (by decide)]

/-- What @main ends holding: the combine's operands and result, and the rest. -/
def FIN (d : Dev nD) : sProp 𝕄 :=
  iprop(Comb.hold (rows m hpre) (fun d => m (aLoc d)) (fun d => m (bLoc d)) d fullShare Finset.univ (outm m hpre d) ∗ keep d (Vg m hpre d))

/-- The products' region, under the program's body table. -/
theorem region_wp [∀ e, Nonempty (Elt F e)] (d : Dev nD) (Q : PUnit → sProp 𝕄) :
    iprop((iprop(boundary (d : Thread nD τ) ∗ unscopedBufs d (Vg m hpre d) ∗ owing (F := F) d) -∗ Q ⟨⟩)
        ∗ boundary (d : Thread nD τ) ∗ (unscopedBufs d (Vc m d) ∗ owing (F := F) d) ∗ levAts (K (F := F)).L (K (F := F)).lev ∗ ghost m hpre d)
      ⊢ wp frame (wpE ((K (F := F)).defs (D (F := F))) 𝒱 (SparseCore.T d) none) Set.univ
          (SparseCore.liftProg (.op (.customCall (Pipeline.entry (0 : Fin 1)) ()) .ret)) Q := by
  refine BIBase.Entails.trans ?_ ((K (F := F)).wp_liftProg (D (F := F)) 𝒱 (SparseCore.T d) Set.univ none _ Q)
  have h := Pipeline.RegionSeg.wp (pcfgs (F := F)) (fun _ => tab m hpre) (fun _ => dat (tab m hpre) (Vc m)) none (pinned_inj m hpre) EP (defs₀ (F := F)) Variants.none
    (K (F := F)).L (K (F := F)).lev (region m hpre) d none (fun u h => nomatch h) .ret Q
  refine BIBase.Entails.trans ?_ h
  iintro ⟨Hk, Hb, Hpre, Hl, Hg, Ht⟩
  isplitl [Hk]
  · rw [wp_ret]
    rw [show (region m hpre).post d = iprop(unscopedBufs d (Vg m hpre d) ∗ owing (F := F) d) from rfl]
    iintro H
    imodintro
    iapply Hk; iexact H
  isplitl [Hb]; · iexact Hb
  isplitl [Hpre]
  · rw [show (region m hpre).pre d = iprop(unscopedBufs d (Vc m d) ∗ owing (F := F) d) from rfl]; iexact Hpre
  isplitl [Hl]; · iexact Hl
  isplitl [Hg] <;> iassumption

theorem casts_wp (d : Dev nD) {β : Type} (k : PUnit → Prog (TpuEff nD τ sig (Elt F) (SparseCore.Sig (ΛP (F := F)) 2) .tc) β) (Q : β → sProp 𝕄) :
    iprop((boundary (d : Thread nD τ) ∗ unscopedBufs d (Vd m d))
        ∗ ((boundary (d : Thread nD τ) ∗ unscopedBufs d (Vc m d)) -∗ wp frame (wpE ((K (F := F)).defs (D (F := F))) 𝒱 (SparseCore.T d) none) Set.univ (k ⟨⟩) Q))
      ⊢ wp frame (wpE ((K (F := F)).defs (D (F := F))) 𝒱 (SparseCore.T d) none) Set.univ (StableHlo.seq casts >>= k) Q := by
  rw [show (unscopedBufs d (Vd m d) : sProp 𝕄) = _ from held_uc d (Vl m d),
    show (unscopedBufs d (Vc m d) : sProp 𝕄) = _ from held_uc d (StableHlo.after casts (Vl m d))]
  iintro ⟨H, Hk⟩
  iapply (StableHlo.wp_seq 𝒱 none Set.univ d (Pipeline.ucRefs τ sig) k casts
    (fun op h => Pipeline.sub_ucRefs op ((List.forall_iff_forall_mem.mp casts_sub) op h))
    (fun op h => (List.forall_iff_forall_mem.mp casts_fresh) op h) (Vl m d)) $$ H
  iexact Hk

theorem combine_bufs (d : Dev nD) : (unscopedBufs d (Vg m hpre d) : sProp 𝕄) = iprop((yLoc d ↦{fullShare} rows m hpre d) ∗ (aLoc d ↦{fullShare} m (aLoc d))
    ∗ (bLoc d ↦{fullShare} m (bLoc d)) ∗ (oLoc d ↦{fullShare} m (oLoc d)) ∗ keep d (Vg m hpre d)) := by
  rw [unscopedBufs_eq, Vg_rows, Vg_arg m hpre d main_arg1 (by decide) (by decide), Vg_arg m hpre d main_arg2 (by decide) (by decide), Vg_arg m hpre d main_v5 (by decide) (by decide)]

/-- Around the dispatch: the core's memory gives up what the dispatch takes, and with what comes back is the memory after. -/
theorem dispatch_bufs (d : Dev nD) :
    (unscopedBufs d (fun b => m ((d : Thread nD τ).loc b)) : sProp 𝕄)
      ⊢ iprop((bigSep Finset.univ fun c : Fin ((K (F := F)).nCore 0) => (Pm m hpre).st 0 d c)
        ∗ ((bigSep Finset.univ fun c : Fin ((K (F := F)).nCore 0) => (Pm m hpre).dn 0 d c) -∗ unscopedBufs d (Vd m d))) := by
  rw [Calls.st_dispatch _ _ _ _ _ _ _ _ _ hpre.2 d, Calls.dn_dispatch _ _ _ _ _ _ _ _ _ hpre.2 d, unscopedBufs_dispatch, unscopedBufs_dispatch]
  rw [Vd_s, Vd_t, Vd_ne m d main_arg0 (by decide) (by decide), Vd_ne m d main_arg1 (by decide) (by decide), Vd_ne m d main_arg2 (by decide) (by decide),
    Vd_ne m d main_arg3 (by decide) (by decide), Vd_ne m d main_arg4 (by decide) (by decide),
    show (keepD d (Vd m d) : sProp 𝕄) = keepD d (fun b => m ((d : Thread nD τ).loc b)) from bigSep_congr fun b hb => by
      have h : b ≠ main_v0_0 ∧ b ≠ main_v0_1 := by fin_cases hb <;> decide
      exact congrArg (fun f : Buf (Elt F) ((d : Thread nD τ).loc b) => (iprop((d : Thread nD τ).loc b ↦{fullShare} f) : sProp 𝕄)) (Vd_ne m d b h.1 h.2)]
  iintro ⟨H, Hk⟩
  ihave H := (Calls.dispatch_whole (fun d => m (xLoc d)) (fun d => m (aLoc d)) (fun d => m (bLoc d)) (fun d => m (uLoc d)) (fun d => m (vLoc d)) (fun d => m (sLoc d)) (fun d => m (tLoc d)) d) $$ H
  icases H with ⟨H, Hw⟩
  isplitl [H]; · iexact H
  iintro H
  isplitl [H Hw]
  · iapply Hw; iexact H
  iexact Hk

/-- @main on a device's TensorCore. -/
theorem hmain [∀ e, Nonempty (Elt F e)] (κ : GSem nD τ sig → ℕ) (d : Dev nD) :
    iprop((K (F := F)).ctx EH (Pm m hpre) κ ∗ (K (F := F)).tcSt EH d 0 ∗ (K (F := F)).tcRes m ρ d ∗ ghost m hpre d)
      ⊢ wp frame (wpE ((K (F := F)).defs (D (F := F))) 𝒱 (SparseCore.T d) none) Set.univ (main d)
          fun _ => iprop((K (F := F)).tcSt EH d 2 ∗ FIN m hpre d ∗ (K (F := F)).tcEnd d) := by
  unfold SparseCore.Cfg.tcRes SparseCore.Cfg.tcEnd
  rw [main_eq]
  iintro ⟨#Hctx, Hst, ⟨Hb, Hu, Hts, -⟩, Hg⟩
  rw [wp_bind]
  ihave Hu := (dispatch_bufs m hpre d) $$ Hu
  icases Hu with ⟨Hin, Hback⟩
  iapply ((K (F := F)).wp_run (D (F := F)) 𝒱 (EH := EH) (P := Pm m hpre) κ d 0) $$ [Hst Hin Hback Hb Hts Hg]
  isplitr; · iexact Hctx
  isplitl [Hst]; · iexact Hst
  isplitl [Hin]; · iexact Hin
  iintro ⟨Hst, Hdn⟩
  ispecialize Hback $$ Hdn
  iapply (casts_wp m d)
  isplitl [Hb Hback]
  · isplitl [Hb]; · iexact Hb
    iexact Hback
  iintro ⟨Hb, Hu⟩
  rw [wp_bind]
  ihave Hst := (show (K (F := F)).tcSt EH d ((0 : Fin 2).val + 1) ⊢ iprop(owing (F := F) d ∗ (owing (F := F) d -∗ (K (F := F)).tcSt EH d ((1 : Fin 2).val))) from by
    unfold SparseCore.Cfg.tcSt
    iintro ⟨Ho, Hr⟩
    isplitl [Ho]; · iexact Ho
    iintro Ho
    isplitl [Ho]; · iexact Ho
    iexact Hr) $$ Hst
  icases Hst with ⟨Ho, Hst⟩
  iapply (region_wp m hpre d)
  isplitr [Hb Hu Ho Hg]
  swap
  · isplitl [Hb]; · iexact Hb
    isplitl [Hu Ho]; · isplitl [Hu] <;> iassumption
    isplitr; · iapply (SparseCore.Cfg.ctx_levAts κ); iexact Hctx
    iexact Hg
  iintro ⟨Hb, Hu, Ho⟩
  ispecialize Hst $$ Ho
  ihave Hu := (Entails.of_eq (combine_bufs m hpre d)) $$ Hu
  icases Hu with ⟨Hy, Ha, Hp, Hr, Hkeep⟩
  iapply ((K (F := F)).wp_run (D (F := F)) 𝒱 (EH := EH) (P := Pm m hpre) κ d 1) $$ [Hst Hy Ha Hp Hr Hkeep Hb Hts]
  isplitr; · iexact Hctx
  isplitl [Hst]; · iexact Hst
  isplitl [Hy Ha Hp Hr]
  · rw [Calls.st_combine]; unfold Comb.hold
    isplitl [Hy]; · iexact Hy
    isplitl [Ha]; · iexact Ha
    isplitl [Hp]; · iexact Hp
    iexact Hr
  iintro ⟨Hst, Hdn⟩
  ihave Hdn' := (Entails.of_eq (Calls.dn_combine _ _ _ _ _ _ _ _ _ d)) $$ Hdn
  isplitl [Hst]; · iexact Hst
  isplitl [Hdn' Hkeep]
  · unfold FIN
    isplitl [Hdn']; · iexact Hdn'
    iexact Hkeep
  isplitl [Hb] <;> iassumption

/-! ## The final memory -/

/-- What is held whole is what the memory holds. -/
theorem mem_eq (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  iintro ⟨H, HSI⟩
  ihave H := (persistent_entails_right (SI_pointsTo_agree (st := s') (ℓ := ℓ) (I := Finset.univ) (q := fullShare) (f := f))) $$ [HSI H]
  · isplitl [HSI] <;> iassumption
  icases H with ⟨%h1, HSI, -⟩
  isplitr
  · ipureintro; exact funext fun i => h1 i (Finset.mem_univ i)
  · iexact HSI

/-- The grouped products' result from the launch memory. -/
abbrev rowsm (d : Dev nD) : S5120x1024.Idx → Elt F .f32 :=
  gmmOut (m ((d : Thread nD τ).loc main_arg5)) (xsm m d) (wsm m d)
    (truncf .bf16 (m ((d : Thread nD τ).loc main_arg6)) bitsLt_bf16_f32) (truncf .bf16 (m ((d : Thread nD τ).loc main_arg7)) bitsLt_bf16_f32)
    (truncf .bf16 (m ((d : Thread nD τ).loc main_arg8)) bitsLt_bf16_f32)

/-- A cast's result: the cast of a matrix that the dispatch leaves. -/
theorem cast_eq (W : Valuation τ sig (Elt F)) :
    (StableHlo.after casts W (Proc.devRef .tc main_v1) = truncf .bf16 (W (Proc.devRef .tc main_arg6)) bitsLt_bf16_f32)
      ∧ (StableHlo.after casts W (Proc.devRef .tc main_v2) = truncf .bf16 (W (Proc.devRef .tc main_arg7)) bitsLt_bf16_f32)
      ∧ StableHlo.after casts W (Proc.devRef .tc main_v3) = truncf .bf16 (W (Proc.devRef .tc main_arg8)) bitsLt_bf16_f32 := by
  refine ⟨?_, ?_, ?_⟩
  all_goals
    simp only [casts, StableHlo.after_cons, StableHlo.after_nil]
    after_results_simp

theorem rows_eq (d : Dev nD) : rows m hpre d = rowsm m d := by
  have hw : ∀ t, (word (tab m hpre).1 t).toNat < 8 := fun t => by
    have h := hpre.1 (ix1 (pt t))
    rw [← Vc_arg m 0 main_arg5 (by decide)] at h
    exact h
  obtain rfl : d = 0 := Subsingleton.elim _ _
  refine (final_eq (tab m hpre) (Vc m) 0 hw).trans ?_
  have e0 : (tab m hpre).1 0 = m (((0 : Dev nD) : Thread nD τ).loc main_arg5) := Vc_arg m 0 main_arg5 (by decide)
  have e1 := (Vc_of_ne m 0 main_v0_0 (by decide) (by decide) (by decide)).trans (Vl_s m 0)
  have e2 := (Vc_of_ne m 0 main_v0_1 (by decide) (by decide) (by decide)).trans (Vl_t m 0)
  have w := cast_eq (Vl m 0)
  rw [Vl_ne m 0 main_arg6 (by decide) (by decide), Vl_ne m 0 main_arg7 (by decide) (by decide), Vl_ne m 0 main_arg8 (by decide) (by decide)] at w
  have w1 : Vc m 0 main_v1 = truncf .bf16 (m (((0 : Dev nD) : Thread nD τ).loc main_arg6)) bitsLt_bf16_f32 := w.1
  have w2 : Vc m 0 main_v2 = truncf .bf16 (m (((0 : Dev nD) : Thread nD τ).loc main_arg7)) bitsLt_bf16_f32 := w.2.1
  have w3 : Vc m 0 main_v3 = truncf .bf16 (m (((0 : Dev nD) : Thread nD τ).loc main_arg8)) bitsLt_bf16_f32 := w.2.2
  rw [e0, e1, e2, w1, w2, w3]

/-- An argument's buffer that the combine does not take. -/
abbrev arg (b : Ref sig .tc) : Prop := b ∈ [main_arg0, main_arg3, main_arg4, main_arg5, main_arg6, main_arg7, main_arg8, main_arg9, main_arg10]

def fq (d : Dev nD) (s' : Phys nD τ sig (Elt F)) : Prop :=
  (s'.mem.mem (oLoc d) = comb (rowsm m d) (m (aLoc d)) (m (bLoc d)) ∧ s'.mem.mem (aLoc d) = m (aLoc d) ∧ s'.mem.mem (bLoc d) = m (bLoc d))
    ∧ ∀ b, arg b → s'.mem.mem ((d : Thread nD τ).loc b) = m ((d : Thread nD τ).loc b)

theorem keep_eq (d : Dev nD) (s' : Phys nD τ sig (Elt F)) (b : Ref sig .tc) (hb : arg b) :
    iprop(keep d (Vg m hpre d) ∗ SI s') ⊢ (⌜s'.mem.mem ((d : Thread nD τ).loc b) = m ((d : Thread nD τ).loc b)⌝ : sProp 𝕄) := by
  have h : b ∈ ({main_arg0, main_arg3, main_arg4, main_arg5, main_arg6, main_arg7, main_arg8, main_arg9, main_arg10, main_v0_0, main_v0_1, main_v1, main_v2, main_v3} : Finset (Ref sig .tc))
      ∧ b ≠ main_v4 ∧ untouched b := by
    unfold arg at hb
    fin_cases hb <;> decide
  have hk : keep d (Vg m hpre d) ⊢ ((d : Thread nD τ).loc b ↦{fullShare} m ((d : Thread nD τ).loc b) : sProp 𝕄) := by
    rw [← Vg_arg m hpre d b h.2.1 h.2.2]
    unfold keep
    exact bigSep_elim (Φ := fun b : Ref sig .tc => iprop((d : Thread nD τ).loc b ↦{fullShare} Vg m hpre d b)) h.1
  iintro ⟨Hk, HSI⟩
  ihave Hb := hk $$ Hk
  ihave H := (mem_eq s' ((d : Thread nD τ).loc b) (m ((d : Thread nD τ).loc b))) $$ [HSI Hb]; · isplitl [Hb] <;> iassumption
  icases H with ⟨%hy, HSI⟩
  ipureintro; exact hy

theorem hold_eq (d : Dev nD) (s' : Phys nD τ sig (Elt F)) :
    iprop(Comb.hold (rows m hpre) (fun d => m (aLoc d)) (fun d => m (bLoc d)) d fullShare Finset.univ (outm m hpre d) ∗ SI s')
      ⊢ (⌜s'.mem.mem (oLoc d) = comb (rowsm m d) (m (aLoc d)) (m (bLoc d)) ∧ s'.mem.mem (aLoc d) = m (aLoc d) ∧ s'.mem.mem (bLoc d) = m (bLoc d)⌝ : sProp 𝕄) := by
  unfold Comb.hold
  iintro ⟨⟨-, Ha, Hb, Ho⟩, HSI⟩
  ihave H := (mem_eq s' (aLoc d) (m (aLoc d))) $$ [HSI Ha]; · isplitl [Ha] <;> iassumption
  icases H with ⟨%ha, HSI⟩
  ihave H := (mem_eq s' (bLoc d) (m (bLoc d))) $$ [HSI Hb]; · isplitl [Hb] <;> iassumption
  icases H with ⟨%hb, HSI⟩
  ihave H := (mem_eq s' (oLoc d) (outm m hpre d)) $$ [HSI Ho]; · isplitl [Ho] <;> iassumption
  icases H with ⟨%ho, HSI⟩
  ipureintro
  refine ⟨ho.trans ?_, ha, hb⟩
  show comb (rows m hpre d) _ _ = _
  rw [rows_eq]

theorem hfin (d : Dev nD) (s' : Phys nD τ sig (Elt F)) : iprop(FIN m hpre d ∗ SI s') ⊢ (⌜fq m d s'⌝ : sProp 𝕄) := by
  unfold FIN fq
  refine BIBase.Entails.trans (BIClass.and_intro (Q := iprop(⌜_⌝)) (R := iprop(⌜_⌝)) ?_ ?_) pure_and.1
  · refine BIBase.Entails.trans ?_ (hold_eq m hpre d s')
    iintro ⟨⟨H, -⟩, HSI⟩
    isplitl [H] <;> iassumption
  · refine BIBase.Entails.trans (BIClass.forall_intro fun b => BIBase.Entails.trans (BIClass.forall_intro fun hb => ?_) pure_forall.2) pure_forall.2
    refine BIBase.Entails.trans ?_ (keep_eq m hpre d s' b hb)
    iintro ⟨⟨-, H⟩, HSI⟩
    isplitl [H] <;> iassumption

def QC : PUnit × MemSt nD τ sig (Elt F) → Prop := fun r =>
  (∀ d : Dev nD, (r.2.mem (oLoc d) = comb (rowsm m d) (m (aLoc d)) (m (bLoc d)) ∧ r.2.mem (aLoc d) = m (aLoc d) ∧ r.2.mem (bLoc d) = m (bLoc d))
    ∧ ∀ b, arg b → r.2.mem ((d : Thread nD τ).loc b) = m ((d : Thread nD τ).loc b)) ∧ r.2.sem = fun _ => 0

/-- The run, over any float operations: experts in range, positions in range and distinct, every fair execution ends with the result at the
    combined rows of the grouped products, the arguments as they were, every semaphore at zero. -/
theorem run_main [∀ e, Nonempty (Elt F e)] (hpre : PreOK m) :
    θ_run (defs (F := F)) (threads (F := F)) ⟨m, fun _ => 0, ρ⟩ (QC m) :=
  SparseCore.Cfg.θ_run_sc_quiescent (K := K (F := F)) (D := D (F := F)) (𝒱 := 𝒱) (EH := EH) (P := Pm m hpre) (A := ∅) facts v₀
    (fun q hq => match q with | 0 => nomatch hq | 1 => nomatch hq)
    (fun q _ => match q with
      | 0 => Calls.tileObl_dispatch _ _ _ _ _ _ _ _ _ facts hpre.2
      | 1 => Calls.tileObl_combine _ _ _ _ _ _ _ _ _ facts fun d => ⟨fun t => ix1_eta t ▸ (hpre.2 d).own0.lt _, fun t => ix1_eta t ▸ (hpre.2 d).own1.lt _⟩)
    (fun q _ => match q with
      | 0 => SparseCore.Cfg.VecSplit.of_plain (Calls.vecSplit_dispatch _ _ _ _ _ _ _ _ _ hpre.2)
      | 1 => SparseCore.Cfg.VecSplit.of_plain (Calls.vecSplit_combine _ _ _ _ _ _ _ _ _))
    m ρ main (fun d => ghost m hpre d) (FIN m hpre) (u₀ m hpre) (sep_elim_left.trans (hu₀ m hpre)) (hmain m ρ hpre) (fq m) (hfin m hpre) (QC m) (fun _ h hz => ⟨h, hz⟩)

end Run

end Cert.Proof.Whole

end
-- ==== Proof.Whole.Layout.lean ====
/-
  The layout of the expert rows: what the precondition says of the positions, the blocks' experts and the tokens'
  experts, and that it leaves no row to two tokens.
-/
module

public import proofs.«01_k».proof.Pre_pre
public import proofs.«01_k».proof.Proof.Gen.Pre_pre
public import proofs.«01_k».proof.Proof.Disp.Launch
public import Idealize.ShloMosaic.Lib.Pointwise
public import Idealize.ShloMosaic.Lib.ReduceAll

@[expose] public section

set_option maxRecDepth 16384

noncomputable section

namespace Cert.Proof.Layout

open Idealize.ShloMosaic
open Cert.Pre_pre

/-- The positions `p0`, `p1` of the tokens whose experts are `e0`, `e1`, with the blocks' experts `be`: a position lies in
    a block of the token's expert, and of one expert's rows the first choices come in the tokens' order before the second
    choices in theirs. -/
structure Lay (p0 p1 : S2048.Idx → BitVec 32) (be : S40.Idx → BitVec 32) (e0 e1 : S2048.Idx → BitVec 32) : Prop where
  be_lt : ∀ b, (be b).toNat < 8
  lt0 : ∀ t, (p0 t).toNat < 5120
  lt1 : ∀ t, (p1 t).toNat < 5120
  two : ∀ t, e0 t ≠ e1 t
  home0 : ∀ (t : Fin 2048) (b : Fin 40), (p0 (ix1 t)).toNat / 128 = b.val → e0 (ix1 t) = be (ix1 b)
  home1 : ∀ (t : Fin 2048) (b : Fin 40), (p1 (ix1 t)).toNat / 128 = b.val → e1 (ix1 t) = be (ix1 b)
  ord0 : ∀ t t' : Fin 2048, t < t' → e0 (ix1 t) = e0 (ix1 t') → (p0 (ix1 t)).toNat < (p0 (ix1 t')).toNat
  ord1 : ∀ t t' : Fin 2048, t < t' → e1 (ix1 t) = e1 (ix1 t') → (p1 (ix1 t)).toNat < (p1 (ix1 t')).toNat
  ord : ∀ t t' : Fin 2048, e0 (ix1 t) = e1 (ix1 t') → (p0 (ix1 t)).toNat < (p1 (ix1 t')).toNat

/-- The block of a row below 5120. -/
def blk (n : ℕ) (h : n < 5120) : Fin 40 := ⟨n / 128, by omega⟩

/-- No row has two tokens: two positions in one row lie in one block, so are of one expert, and its rows come in order. -/
theorem Lay.posOK {p0 p1 : S2048.Idx → BitVec 32} {be : S40.Idx → BitVec 32} {e0 e1 : S2048.Idx → BitVec 32} (h : Lay p0 p1 be e0 e1) :
    Disp.PosOK p0 p1 where
  own0 := by
    refine ⟨h.lt0, fun t t' e => ?_⟩
    have he : e0 (ix1 t) = e0 (ix1 t') := (h.home0 t (blk _ (h.lt0 (ix1 t'))) (by rw [e]; rfl)).trans (h.home0 t' (blk _ (h.lt0 (ix1 t'))) rfl).symm
    rcases lt_trichotomy t t' with l | l | l
    · exact absurd (h.ord0 _ _ l he) (by omega)
    · exact l
    · exact absurd (h.ord0 _ _ l he.symm) (by omega)
  own1 := by
    refine ⟨h.lt1, fun t t' e => ?_⟩
    have he : e1 (ix1 t) = e1 (ix1 t') := (h.home1 t (blk _ (h.lt1 (ix1 t'))) (by rw [e]; rfl)).trans (h.home1 t' (blk _ (h.lt1 (ix1 t'))) rfl).symm
    rcases lt_trichotomy t t' with l | l | l
    · exact absurd (h.ord1 _ _ l he) (by omega)
    · exact l
    · exact absurd (h.ord1 _ _ l he.symm) (by omega)
  apart := fun t t' e => by
    have he : e0 (ix1 t) = e1 (ix1 t') := (h.home0 t (blk _ (h.lt1 (ix1 t'))) (by rw [e]; rfl)).trans (h.home1 t' (blk _ (h.lt1 (ix1 t'))) rfl).symm
    exact absurd (h.ord _ _ he) (by omega)

/-! ## The precondition read -/

theorem and_one : ∀ p q : BitVec 1, IntOp.andi p q = 1#1 → p = 1#1 ∧ q = 1#1 := by decide
theorem or_one : ∀ p q : BitVec 1, IntOp.ori p q = 1#1 → p = 1#1 ∨ q = 1#1 := by decide

theorem ofBool_one (p : Bool) : (BitVec.ofBool p = 1#1) ↔ p = true := by cases p <;> decide

/-- A signed range test from zero bounds the word. -/
theorem word_lt (n : ℕ) (hn : n < 2 ^ 31) (v : BitVec 32) (e : IntOp.andi (IntOp.cmpi .sge v 0#32) (IntOp.cmpi .slt v (BitVec.ofNat 32 n)) = 1#1) :
    v.toNat < n := by
  obtain ⟨a, b⟩ := and_one _ _ e
  simp only [IntOp.cmpi, ofBool_one, BitVec.sle_eq_decide, BitVec.slt_eq_decide,
    decide_eq_true_eq, BitVec.toInt_eq_toNat_cond, BitVec.toNat_ofNat] at a b
  rw [Nat.mod_eq_of_lt (by omega : n < 2 ^ 32)] at b
  omega

/-- The signed order of two words below 2³¹ is that of their numbers. -/
theorem slt_one {a b : BitVec 32} (ha : a.toNat < 2 ^ 31) (hb : b.toNat < 2 ^ 31) : IntOp.cmpi .slt a b = 1#1 ↔ a.toNat < b.toNat := by
  simp only [IntOp.cmpi, ofBool_one, BitVec.slt_eq_decide, decide_eq_true_eq, BitVec.toInt_eq_toNat_cond]
  omega

theorem ne_one {a b : BitVec 32} : IntOp.cmpi .ne a b = 1#1 ↔ a ≠ b := by simp [IntOp.cmpi, ofBool_one]
theorem eq_one {a b : BitVec 32} : IntOp.cmpi .eq a b = 1#1 ↔ a = b := by simp [IntOp.cmpi, ofBool_one]

/-- Seven places to the right is a division by 128. -/
theorem shift_toNat {v : BitVec 32} (h : v.toNat < 5120) : (IntOp.shrsi .host v 7#32).toNat = v.toNat / 128 := by
  have hm : v.msb = false := by rw [BitVec.msb_eq_decide]; simp; omega
  have : IntOp.shrsi .host v 7#32 = v >>> 7 := by
    simp only [IntOp.shrsi]
    rw [if_pos (by decide)]
    simp [BitVec.sshiftRight', BitVec.sshiftRight_eq_of_msb_false hm]
  rw [this, BitVec.toNat_ushiftRight, Nat.shiftRight_eq_div_pow]

/-- A clause that a position outside block `b` or an expert that is the block's meets. -/
theorem home {v e x : BitVec 32} {b : Fin 40} (hv : v.toNat < 5120)
    (h : IntOp.ori (IntOp.cmpi .ne (IntOp.shrsi .host v 7#32) (BitVec.ofNat 32 b.val)) (IntOp.cmpi .eq e x) = 1#1) (hb : v.toNat / 128 = b.val) : e = x := by
  rcases or_one _ _ h with h | h
  · refine absurd (BitVec.eq_of_toNat_eq ?_) (ne_one.mp h)
    rw [shift_toNat hv, hb, BitVec.toNat_ofNat]
    omega
  · exact eq_one.mp h

/-- An ordering clause: the two tokens are in order, of one expert, so their positions are in order. -/
theorem order {t t' : Fin 2048} {e e' v v' : BitVec 32} (hv : v.toNat < 5120) (hv' : v'.toNat < 5120)
    (h : IntOp.ori (IntOp.ori (~~~ (IntOp.cmpi .slt (BitVec.ofNat 32 t.val) (BitVec.ofNat 32 t'.val))) (IntOp.cmpi .ne e e')) (IntOp.cmpi .slt v v') = 1#1)
    (ht : t < t') (he : e = e') : v.toNat < v'.toNat := by
  have n1 : (BitVec.ofNat 32 t.val).toNat = t.val := by rw [BitVec.toNat_ofNat]; omega
  have n2 : (BitVec.ofNat 32 t'.val).toNat = t'.val := by rw [BitVec.toNat_ofNat]; omega
  rcases or_one _ _ h with h | h
  · rcases or_one _ _ h with h | h
    · rw [(slt_one (by omega) (by omega)).mpr (by rw [n1, n2]; exact ht)] at h
      exact absurd h (by decide)
    · exact absurd he (ne_one.mp h)
  · exact (slt_one (by omega) (by omega)).mp h

/-- An ordering clause between a first and a second choice. -/
theorem order' {e e' v v' : BitVec 32} (hv : v.toNat < 5120) (hv' : v'.toNat < 5120)
    (h : IntOp.ori (IntOp.cmpi .ne e e') (IntOp.cmpi .slt v v') = 1#1) (he : e = e') : v.toNat < v'.toNat := by
  rcases or_one _ _ h with h | h
  · exact absurd he (ne_one.mp h)
  · exact (slt_one (by omega) (by omega)).mp h

/-- The precondition says that the positions, the blocks' experts and the tokens' experts are so laid out. -/
theorem lay_of_pre {F : FTy → Type} [FloatOps F] (x : FVec F S2048x1024 .f32) (p0 p1 : IVec S2048 32) (w0 w1 : FVec F S2048x128 .f32) (be : IVec S40 32)
    (wg wu : FVec F S8x2816x1024 .f32) (wd : FVec F S8x1024x2816 .f32) (e0 e1 : IVec S2048 32)
    (h : fn (F := F) x p0 p1 w0 w1 be wg wu wd e0 e1 = fun _ => 1#1) : Lay p0 p1 be e0 e1 := by
  have e := congrFun h (fun d => d.elim0)
  simp only [fn, fn_part1, fn_part2, fn_part3, fn_part4] at e
  obtain ⟨e, c8⟩ := and_one _ _ e
  obtain ⟨e, c7⟩ := and_one _ _ e
  obtain ⟨e, c6⟩ := and_one _ _ e
  obtain ⟨e, c5⟩ := and_one _ _ e
  obtain ⟨e, c4⟩ := and_one _ _ e
  obtain ⟨e, c3⟩ := and_one _ _ e
  obtain ⟨e, c2⟩ := and_one _ _ e
  obtain ⟨c0, c1⟩ := and_one _ _ e
  have : Subsingleton S_.Idx := ⟨fun x y => funext fun d => d.elim0⟩
  have l0 : ∀ t, (p0 t).toNat < 5120 := fun t => word_lt 5120 (by decide) _ (Host.reduce_andi_all _ _ _ _ _ c1 t)
  have l1 : ∀ t, (p1 t).toNat < 5120 := fun t => word_lt 5120 (by decide) _ (Host.reduce_andi_all _ _ _ _ _ c2 t)
  refine ⟨fun t => word_lt 8 (by decide) _ (Host.reduce_andi_all _ _ _ _ _ c0 t), l0, l1, fun t => ne_one.mp (Host.reduce_andi_all _ _ _ _ _ c3 t),
    fun t b => home (l0 _) (Eq.trans (Eq.symm ?_) (Host.reduce_andi_all _ _ _ _ _ c4 (ix2 t b))),
    fun t b => home (l1 _) (Eq.trans (Eq.symm ?_) (Host.reduce_andi_all _ _ _ _ _ c5 (ix2 t b))),
    fun t t' => order (l0 _) (l0 _) (Eq.trans (Eq.symm ?_) (Host.reduce_andi_all _ _ _ _ _ c6 (ix2 t t'))),
    fun t t' => order (l1 _) (l1 _) (Eq.trans (Eq.symm ?_) (Host.reduce_andi_all _ _ _ _ _ c7 (ix2 t t'))),
    fun t t' => order' (l0 _) (l1 _) (Eq.trans (Eq.symm ?_) (Host.reduce_andi_all _ _ _ _ _ c8 (ix2 t t')))⟩
  · pointwise
  · pointwise
  · pointwise
  · pointwise
  · pointwise

end Cert.Proof.Layout

end
-- ==== Proof.Whole.Experts.lean ====
/-
  One expert's gated feed-forward network on one row, as sums over the extended reals: the kernel's block entry and the
  reference's entry are both this number.
-/
module

public import proofs.«01_k».proof.Proof.Gmm.Value
public import proofs.«01_k».proof.Proof.Gen.ReferenceIdeal
public import Idealize.ShloMosaic.Lib.Pointwise

@[expose] public section

set_option maxRecDepth 16384

noncomputable section

namespace Cert.Proof.Experts

open Idealize.ShloMosaic
open scoped BigOperators

/-- The product of a row with row `j` of a matrix. -/
def proj (x : Fin 1024 → EReal) (A : Fin 2816 → Fin 1024 → EReal) (j : Fin 2816) : EReal := ∑ k : Fin 1024, x k * A j k

/-- Entry `c` of the network's output on the row `x`: gate `A`, up `B`, down `C`. -/
def ffn (x : Fin 1024 → EReal) (A B : Fin 2816 → Fin 1024 → EReal) (C : Fin 1024 → Fin 2816 → EReal) (c : Fin 1024) : EReal :=
  ∑ j : Fin 2816, proj x A j * Ideal.logistic (proj x A j) * proj x B j * C c j

theorem ffn_congr {x x' : Fin 1024 → EReal} {A A' B B' : Fin 2816 → Fin 1024 → EReal} {C C' : Fin 1024 → Fin 2816 → EReal} (hx : ∀ k, x k = x' k)
    (hA : ∀ j k, A j k = A' j k) (hB : ∀ j k, B j k = B' j k) (hC : ∀ d j, C d j = C' d j) (c : Fin 1024) : ffn x A B C c = ffn x' A' B' C' c := by
  rw [funext hx, funext fun j => funext (hA j), funext fun j => funext (hB j), funext fun d => funext (hC d)]

/-! ## The kernel's block -/

/-- An entry of the block the kernel's body stores: the network's entry times the row's weight. -/
theorem pay_apply (v0 : Vec Ideal Cert.KernelIdeal.S128x1024 .f32) (v2 v5 : Vec Ideal Cert.KernelIdeal.S1x2816x1024 .bf16)
    (v12 : Vec Ideal Cert.KernelIdeal.S1x1024x2816 .bf16) (v15 : Vec Ideal Cert.KernelIdeal.S128x1 .f32) (i : Fin 128) (c : Fin 1024) :
    Cert.KernelIdeal.Gen.k1_pay1 v0 v2 v5 v12 v15 (ix2 i c)
      = ffn (fun k => v0 (ix2 i k)) (fun j k => v2 (ix3 0 j k)) (fun j k => v5 (ix3 0 j k)) (fun d j => v12 (ix3 0 d j)) c * v15 (ix2 i 0) := by
  unfold ffn proj
  pointwise [Cert.KernelIdeal.Gen.k1_pay1]

/-! ## The reference's expert -/

open Cert.ReferenceIdeal Cert.ReferenceIdeal.Facts₀ in
/-- The reference's gate of one expert on every row, from the expert's slice. -/
def refProj (xs : FVec Ideal S2048x1024 .f32) (a : FVec Ideal S1x2816x1024 .f32) : FVec Ideal S2048x2816 .f32 :=
  Host.dotGeneral dot_S2048x1024_S1024x2816_S2048x2816_1_0_0_1_n_n none xs
    (transpose S1024x2816 [1, 0] (shapeCast S2816x1024 a shapeCasts_S1x2816x1024_S2816x1024) transposes_S2816x1024_S1024x2816_1_0)

open Cert.ReferenceIdeal Cert.ReferenceIdeal.Facts₀ in
/-- The reference's output of one expert on every row, from the expert's slices. -/
def refFfn (xs : FVec Ideal S2048x1024 .f32) (a b : FVec Ideal S1x2816x1024 .f32) (d : FVec Ideal S1x1024x2816 .f32) : FVec Ideal S2048x1024 .f32 :=
  Host.dotGeneral dot_S2048x2816_S2816x1024_S2048x1024_1_0_0_1_n_n none
    (mulf (mulf (refProj xs a) (Host.divf (broadcastInDim S2048x2816 ![] bcast_S_S2048x2816 (constant S_ .f32 0x3F800000#32))
      (addf (broadcastInDim S2048x2816 ![] bcast_S_S2048x2816 (constant S_ .f32 0x3F800000#32)) (Host.exp (Host.negf (refProj xs a)))))) (refProj xs b))
    (transpose S2816x1024 [1, 0] (shapeCast S1024x2816 d shapeCasts_S1x1024x2816_S1024x2816) transposes_S1024x2816_S2816x1024_1_0)

theorem refProj_apply (xs : FVec Ideal Cert.ReferenceIdeal.S2048x1024 .f32) (a : FVec Ideal Cert.ReferenceIdeal.S1x2816x1024 .f32) (r : Fin 2048) (j : Fin 2816) :
    refProj xs a (ix2 r j) = proj (fun k => xs (ix2 r k)) (fun j k => a (ix3 0 j k)) j := by
  unfold proj
  pointwise [refProj]

/-- An entry of the reference's expert is the network's entry. -/
theorem refFfn_apply (xs : FVec Ideal Cert.ReferenceIdeal.S2048x1024 .f32) (a b : FVec Ideal Cert.ReferenceIdeal.S1x2816x1024 .f32)
    (d : FVec Ideal Cert.ReferenceIdeal.S1x1024x2816 .f32) (r : Fin 2048) (c : Fin 1024) :
    refFfn xs a b d (ix2 r c)
      = ffn (fun k => xs (ix2 r k)) (fun j k => a (ix3 0 j k)) (fun j k => b (ix3 0 j k)) (fun c j => d (ix3 0 c j)) c := by
  unfold ffn
  pointwise [refFfn]
  simp only [refProj_apply]
  rfl

end Cert.Proof.Experts

end
-- ==== Proof.Whole.Reference.lean ====
/-
  The reference's result: of the experts' weighted sum over all experts the token's two experts are left, each with the
  token's weight for it.
-/
module

public import proofs.«01_k».proof.Proof.Whole.Experts
public import proofs.«01_k».proof.Proof.Gen.ReferenceIdeal.Run

@[expose] public section

set_option maxRecDepth 16384

noncomputable section

namespace Cert.Proof.Ref

open Cert.ReferenceIdeal Cert.ReferenceIdeal.Gen
open Idealize.ShloMosaic Idealize.ShloMosaic.TcCoe Idealize.ShloMosaic.StableHlo Idealize.SL.Sem
open scoped BigOperators

/-! ## The weights of the experts -/

/-- A token's two numbers beside each other. -/
def pair {κ : Type} (a b : S2048.Idx → κ) : S2048x2.Idx → κ :=
  concatenate S2048x2 1 [⟨S2048x1, broadcastInDim S2048x1 ![0] Facts₀.bcast_S2048_S2048x1_0 a⟩, ⟨S2048x1, broadcastInDim S2048x1 ![0] Facts₀.bcast_S2048_S2048x1_0 b⟩]
    Facts₀.concatenates_S2048x1_S2048x1_S2048x2_d1

/-- A token's weight: the first entry of its weight row. -/
def weight (w : FVec Ideal S2048x128 .f32) : FVec Ideal S2048 .f32 :=
  shapeCast S2048 (extractStridedSlice S2048x1 ![0, 0] w Facts₀.slices_S2048x128_S2048x1_0_0) Facts₀.shapeCasts_S2048x1_S2048

/-- Which of the eight experts each of a token's two is. -/
def oneHot (e : IVec S2048x2 32) : FVec Ideal S2048x2x8 .f32 :=
  uitofp .f32 (cmpi .eq (broadcastInDim S2048x2x8 ![0, 1, 2] Facts₀.bcast_S2048x2x1_S2048x2x8_0_1_2 (broadcastInDim S2048x2x1 ![0, 1] Facts₀.bcast_S2048x2_S2048x2x1_0_1 e))
    (broadcastInDim S2048x2x8 ![0, 1, 2] Facts₀.bcast_S1x1x8_S2048x2x8_0_1_2 (iotaInDim S1x1x8 32 2)))

/-- The reference's combine weights: token `t`'s weight for expert `e`. -/
def route (w0 w1 : FVec Ideal S2048x128 .f32) (e0 e1 : IVec S2048 32) : FVec Ideal S2048x8 .f32 :=
  Host.dotGeneral dot_S2048x2_S2048x2x8_S2048x8_1_1_n_2_0_0 none (pair (weight w0) (weight w1)) (oneHot (pair e0 e1))

theorem pair_first {κ : Type} (a b : S2048.Idx → κ) (t : Fin 2048) : pair a b (ix2 t 0) = a (ix1 t) := by
  pointwise [pair]

theorem pair_second {κ : Type} (a b : S2048.Idx → κ) (t : Fin 2048) : pair a b (ix2 t 1) = b (ix1 t) := by
  pointwise [pair]

theorem weight_apply (w : FVec Ideal S2048x128 .f32) (t : Fin 2048) : weight w (ix1 t) = w (ix2 t 0) := by
  pointwise [weight]

theorem oneHot_apply (e : IVec S2048x2 32) (t : Fin 2048) (k : Fin 2) (x : Fin 8) :
    oneHot e (ix3 t k x) = if e (ix2 t k) = BitVec.ofNat 32 x.val then 1 else 0 := by
  pointwise [oneHot]
  show FloatOps.uitofp (F := Ideal) FTy.f32 (IntOp.cmpi .eq (e (ix2 t k)) (BitVec.ofNat 32 x.val)) = _
  by_cases h : e (ix2 t k) = BitVec.ofNat 32 x.val
  · rw [if_pos h, h]
    simp [IntOp.cmpi, FloatOps.uitofp]
  · rw [if_neg h]
    simp [IntOp.cmpi, FloatOps.uitofp, h]

theorem route_apply (w0 w1 : FVec Ideal S2048x128 .f32) (e0 e1 : IVec S2048 32) (t : Fin 2048) (x : Fin 8) :
    route w0 w1 e0 e1 (ix2 t x) = (w0 (ix2 t 0) : EReal) * (if e0 (ix1 t) = BitVec.ofNat 32 x.val then 1 else 0)
      + (w1 (ix2 t 0) : EReal) * (if e1 (ix1 t) = BitVec.ofNat 32 x.val then 1 else 0) := by
  have e : route w0 w1 e0 e1 (ix2 t x) = ∑ k : Fin 2, (pair (weight w0) (weight w1) (ix2 t k) : EReal) * oneHot (pair e0 e1) (ix3 t k x) := by
    pointwise [route]
  rw [e, Fin.sum_univ_two, pair_first, pair_second, weight_apply, weight_apply, oneHot_apply, oneHot_apply, pair_first, pair_second]

/-! ## The sum over the experts -/

theorem slices_col (e : Fin 8) : S2048x8.Slices ![0, e.val] S2048x1 := by revert e; decide
theorem slices_mat (e : Fin 8) : S8x2816x1024.Slices ![e.val, 0, 0] S1x2816x1024 := by revert e; decide
theorem slices_down (e : Fin 8) : S8x1024x2816.Slices ![e.val, 0, 0] S1x1024x2816 := by revert e; decide

/-- One expert's part of the reference's sum, from the combine weights and the expert's number. -/
def termAt (x : FVec Ideal S2048x1024 .f32) (W : FVec Ideal S2048x8 .f32) (wg wu : FVec Ideal S8x2816x1024 .f32) (wd : FVec Ideal S8x1024x2816 .f32)
    (e : Fin 8) : FVec Ideal S2048x1024 .f32 :=
  mulf (broadcastInDim S2048x1024 ![0, 1] Facts₀.bcast_S2048x1_S2048x1024_0_1 (extractStridedSlice S2048x1 ![0, e.val] W (slices_col e)))
    (Experts.refFfn x (extractStridedSlice S1x2816x1024 ![e.val, 0, 0] wg (slices_mat e)) (extractStridedSlice S1x2816x1024 ![e.val, 0, 0] wu (slices_mat e))
      (extractStridedSlice S1x1024x2816 ![e.val, 0, 0] wd (slices_down e)))

/-- The output of expert `e` on the row `x`. -/
def expert (wg wu : FVec Ideal S8x2816x1024 .f32) (wd : FVec Ideal S8x1024x2816 .f32) (e : Fin 8) (x : Fin 1024 → EReal) (c : Fin 1024) : EReal :=
  Experts.ffn x (fun j k => wg (ix3 e j k)) (fun j k => wu (ix3 e j k)) (fun d j => wd (ix3 e d j)) c

theorem termAt_apply (x : FVec Ideal S2048x1024 .f32) (W : FVec Ideal S2048x8 .f32) (wg wu : FVec Ideal S8x2816x1024 .f32) (wd : FVec Ideal S8x1024x2816 .f32)
    (e : Fin 8) (r : Fin 2048) (c : Fin 1024) :
    termAt x W wg wu wd e (ix2 r c) = W (ix2 r e) * expert wg wu wd e (fun k => x (ix2 r k)) c := by
  unfold expert
  pointwise [termAt]
  rw [Experts.refFfn_apply]
  pointwise

/-- The sum over the experts in order, from zero. -/
def rows (x : FVec Ideal S2048x1024 .f32) (w0 w1 : FVec Ideal S2048x128 .f32) (wg wu : FVec Ideal S8x2816x1024 .f32)
    (wd : FVec Ideal S8x1024x2816 .f32) (e0 e1 : IVec S2048 32) : FVec Ideal S2048x1024 .f32 :=
  [0, 1, 2, 3, 4, 5, 6, 7].foldl (fun acc e => addf acc (termAt x (route w0 w1 e0 e1) wg wu wd e))
    (broadcastInDim S2048x1024 ![] Facts₀.bcast_S_S2048x1024 (constant S_ .f32 0x00000000#32))

/-- The reference's run computes this sum. -/
theorem rows_eq (V : Valuation τ sig (Elt Ideal)) :
    Value.res_main_v156 V = rows (V (Proc.devRef .tc main_arg0)) (V (Proc.devRef .tc main_arg3)) (V (Proc.devRef .tc main_arg4))
      (V (Proc.devRef .tc main_arg6)) (V (Proc.devRef .tc main_arg7)) (V (Proc.devRef .tc main_arg8)) (V (Proc.devRef .tc main_arg9))
      (V (Proc.devRef .tc main_arg10)) := rfl

/-- The same, of arguments equal to the run's. -/
theorem out_eq (V : Valuation τ sig (Elt Ideal)) {x : FVec Ideal S2048x1024 .f32} {w0 w1 : FVec Ideal S2048x128 .f32} {wg wu : FVec Ideal S8x2816x1024 .f32}
    {wd : FVec Ideal S8x1024x2816 .f32} {e0 e1 : IVec S2048 32} (h0 : V (Proc.devRef .tc main_arg0) = x) (h3 : V (Proc.devRef .tc main_arg3) = w0)
    (h4 : V (Proc.devRef .tc main_arg4) = w1) (h6 : V (Proc.devRef .tc main_arg6) = wg) (h7 : V (Proc.devRef .tc main_arg7) = wu)
    (h8 : V (Proc.devRef .tc main_arg8) = wd) (h9 : V (Proc.devRef .tc main_arg9) = e0) (h10 : V (Proc.devRef .tc main_arg10) = e1) :
    Value.res_main_v156 V = rows x w0 w1 wg wu wd e0 e1 := by
  subst h0 h3 h4 h6 h7 h8 h9 h10
  exact rows_eq V

/-- Of a sum over the experts whose addends vanish but for two experts', those two are left. -/
theorem foldl_routed (z : FVec Ideal S2048x1024 .f32) (f : Fin 8 → FVec Ideal S2048x1024 .f32) (x : S2048x1024.Idx) (i j : Fin 8) (hij : i ≠ j)
    (a b : EReal) (hz : z x = 0) (hf : ∀ e, f e x = if e = i then a else if e = j then b else 0) :
    ([0, 1, 2, 3, 4, 5, 6, 7].foldl (fun acc e => addf acc (f e)) z) x = a + b := by
  show (((((((((z x : EReal) + f 0 x) + f 1 x) + f 2 x) + f 3 x) + f 4 x) + f 5 x) + f 6 x) + f 7 x : EReal) = a + b
  have h8 : (((((((((z x : EReal) + f 0 x) + f 1 x) + f 2 x) + f 3 x) + f 4 x) + f 5 x) + f 6 x) + f 7 x : EReal) = ∑ e : Fin 8, (f e x : EReal) := by
    rw [hz, Fin.sum_univ_eight, zero_add]
  have hs : ∀ e, (f e x : EReal) = (if e = i then a else 0) + (if e = j then b else 0) := by
    intro e
    rw [hf e]
    by_cases h : e = i
    · rw [if_pos h, if_pos h, if_neg (fun h2 => hij (h.symm.trans h2)), add_zero]
    · rw [if_neg h, if_neg h, zero_add]
  rw [h8, Finset.sum_congr rfl fun e _ => hs e, Finset.sum_add_distrib, Finset.sum_ite_eq' Finset.univ i, Finset.sum_ite_eq' Finset.univ j]
  simp

/-- The reference's sum at a token: its two experts' outputs, each times the token's weight for it. -/
theorem rows_apply (x : FVec Ideal S2048x1024 .f32) (w0 w1 : FVec Ideal S2048x128 .f32) (wg wu : FVec Ideal S8x2816x1024 .f32)
    (wd : FVec Ideal S8x1024x2816 .f32) (e0 e1 : IVec S2048 32) (t : Fin 2048) (c : Fin 1024) (i j : Fin 8)
    (hi : e0 (ix1 t) = BitVec.ofNat 32 i.val) (hj : e1 (ix1 t) = BitVec.ofNat 32 j.val) (hij : i ≠ j) :
    rows x w0 w1 wg wu wd e0 e1 (ix2 t c) = (w0 (ix2 t 0) : EReal) * expert wg wu wd i (fun k => x (ix2 t k)) c
      + (w1 (ix2 t 0) : EReal) * expert wg wu wd j (fun k => x (ix2 t k)) c := by
  have inj : ∀ a b : Fin 8, BitVec.ofNat 32 a.val = BitVec.ofNat 32 b.val ↔ b = a := by decide
  refine foldl_routed _ _ _ i j hij _ _ (by pointwise) fun e => ?_
  rw [termAt_apply, route_apply, hi, hj]
  simp only [inj]
  by_cases h : e = i
  · subst h
    rw [if_pos rfl, if_pos rfl, if_neg hij, mul_one, mul_zero, add_zero]
  · rw [if_neg h, if_neg h]
    by_cases h2 : e = j
    · subst h2
      rw [if_pos rfl, if_pos rfl, mul_one, mul_zero, zero_add]
    · rw [if_neg h2, if_neg h2, mul_zero, mul_zero, add_zero, zero_mul]

end Cert.Proof.Ref

end
-- ==== Proof.Whole.Equal.lean ====
/-
  The kernel's result is the reference's: a token's two expert rows are its own row through its two experts, each times
  its weight for it.
-/
module

public import proofs.«01_k».proof.Proof.Comb.Values
public import proofs.«01_k».proof.Proof.Whole.Layout
public import proofs.«01_k».proof.Proof.Whole.Reference

@[expose] public section

set_option maxRecDepth 16384

noncomputable section

namespace Cert.Proof.Equal

open Cert.KernelIdeal
open Idealize.ShloMosaic

section Rows
variable (be : IVec S40 32) (xs : FVec Ideal S5120x1024 .f32) (ws : FVec Ideal S5120x128 .f32) (wg wu : FVec Ideal S8x2816x1024 .f32)
  (wd : FVec Ideal S8x1024x2816 .f32) (hlt : FTy.bits .bf16 < FTy.bits .f32)

/-- A row of the grouped products: the row through its block's expert, times the row's weight. -/
theorem gmm_apply (r : Fin 5120) (c : Fin 1024) :
    Gmm.gmmOut (F := Ideal) be xs ws (truncf .bf16 wg hlt) (truncf .bf16 wu hlt) (truncf .bf16 wd hlt) (ix2 r c)
      = Ref.expert wg wu wd (Gmm.expertIx (be (ix1 (Layout.blk r.val r.isLt)))) (fun k => xs (ix2 r k)) c * (ws (ix2 r 0) : EReal) := by
  have hr : Gmm.rowOf (Layout.blk r.val r.isLt) ⟨r.val % 128, Nat.mod_lt _ (by decide)⟩ = r := Fin.ext (Nat.div_add_mod r.val 128)
  refine (Experts.pay_apply _ _ _ _ _ ⟨r.val % 128, Nat.mod_lt _ (by decide)⟩ c).trans ?_
  refine congrArg₂ (fun a b : EReal => a * b) ?_ ?_
  · exact Experts.ffn_congr (fun k => congrArg (fun q => xs (ix2 q k)) hr) (fun j k => rfl) (fun j k => rfl) (fun d j => rfl) c
  · refine (congrArg ws (?_ : _ = ix2 (Gmm.rowOf (Layout.blk r.val r.isLt) ⟨r.val % 128, Nat.mod_lt _ (by decide)⟩) 0)).trans (congrArg (fun q => ws (ix2 q 0)) hr)
    funext d
    match d with
    | ⟨0, _⟩ => rfl
    | ⟨1, _⟩ => rfl

/-- The grouped products at the row that holds token `t`, its weight beside it, in a block of the token's expert. -/
theorem gmm_at (x : FVec Ideal S2048x1024 .f32) (w : FVec Ideal S2048x128 .f32) (p e : IVec S2048 32) (t : Fin 2048) (c : Fin 1024)
    (hp : (p (ix1 t)).toNat < 5120) (hx : ∀ y : S5120x1024.Idx, (p (ix1 t)).toNat = (y 0).val → xs y = x (ix2 t (y 1)))
    (hw : ∀ y : S5120x128.Idx, (p (ix1 t)).toNat = (y 0).val → ws y = w (ix2 t (y 1)))
    (he : ∀ b : Fin 40, (p (ix1 t)).toNat / 128 = b.val → e (ix1 t) = be (ix1 b)) :
    Gmm.gmmOut (F := Ideal) be xs ws (truncf .bf16 wg hlt) (truncf .bf16 wu hlt) (truncf .bf16 wd hlt) (ix2 (Comb.rowIx (p (ix1 t))) c)
      = (w (ix2 t 0) : EReal) * Ref.expert wg wu wd (Gmm.expertIx (e (ix1 t))) (fun k => x (ix2 t k)) c := by
  have hv := (Comb.rowIx_val hp).symm
  rw [gmm_apply, mul_comm, hw (ix2 (Comb.rowIx (p (ix1 t))) 0) hv, ← he (Layout.blk (Comb.rowIx (p (ix1 t))).val (Comb.rowIx (p (ix1 t))).isLt) (by rw [hv]; rfl)]
  refine congrArg (fun z : EReal => (w (ix2 t 0) : EReal) * z) ?_
  exact Experts.ffn_congr (fun k => hx (ix2 (Comb.rowIx (p (ix1 t))) k) hv) (fun j k => rfl) (fun j k => rfl) (fun d j => rfl) c

end Rows

/-- The kernel's result is the reference's where the rows are laid out as the precondition says. -/
theorem kernel_eq (x : FVec Ideal S2048x1024 .f32) (p0 p1 : IVec S2048 32) (w0 w1 : FVec Ideal S2048x128 .f32) (be : IVec S40 32)
    (wg wu : FVec Ideal S8x2816x1024 .f32) (wd : FVec Ideal S8x1024x2816 .f32) (e0 e1 : IVec S2048 32) (zx : FVec Ideal S5120x1024 .f32)
    (zw : FVec Ideal S5120x128 .f32) (hlt : FTy.bits .bf16 < FTy.bits .f32) (h : Layout.Lay p0 p1 be e0 e1) :
    Ref.rows x w0 w1 wg wu wd e0 e1
      = Comb.comb (F := Ideal) (Gmm.gmmOut (F := Ideal) be (Disp.placed (F := Ideal) (n := 1024) p0 p1 x x zx) (Disp.placed (F := Ideal) (n := 128) p0 p1 w0 w1 zw)
          (truncf .bf16 wg hlt) (truncf .bf16 wu hlt) (truncf .bf16 wd hlt)) p0 p1 := by
  funext y
  obtain ⟨t, c, rfl⟩ : ∃ (t : Fin 2048) (c : Fin 1024), y = ix2 t c := ⟨y 0, y 1, eq_ix2 y⟩
  have b0 : (e0 (ix1 t)).toNat < 8 := by rw [h.home0 t (Layout.blk _ (h.lt0 _)) rfl]; exact h.be_lt _
  have b1 : (e1 (ix1 t)).toNat < 8 := by rw [h.home1 t (Layout.blk _ (h.lt1 _)) rfl]; exact h.be_lt _
  have v0 : e0 (ix1 t) = BitVec.ofNat 32 (Gmm.expertIx (e0 (ix1 t))).val := by rw [Gmm.expertIx_val b0, BitVec.ofNat_toNat, BitVec.setWidth_eq]
  have v1 : e1 (ix1 t) = BitVec.ofNat 32 (Gmm.expertIx (e1 (ix1 t))).val := by rw [Gmm.expertIx_val b1, BitVec.ofNat_toNat, BitVec.setWidth_eq]
  have hne : Gmm.expertIx (e0 (ix1 t)) ≠ Gmm.expertIx (e1 (ix1 t)) := fun q => h.two (ix1 t) (by rw [v0, v1, q])
  rw [Ref.rows_apply x w0 w1 wg wu wd e0 e1 t c _ _ v0 v1 hne]
  refine (congrArg₂ (fun a b : EReal => a + b) (gmm_at be _ _ wg wu wd hlt x w0 p0 e0 t c (h.lt0 _) (fun y hy => Disp.placed_first (F := Ideal) (n := 1024) h.posOK x x zx y t hy)
    (fun y hy => Disp.placed_first (F := Ideal) (n := 128) h.posOK w0 w1 zw y t hy) (h.home0 t)) (gmm_at be _ _ wg wu wd hlt x w1 p1 e1 t c (h.lt1 _)
    (fun y hy => Disp.placed_second (F := Ideal) (n := 1024) h.posOK x x zx y t hy) (fun y hy => Disp.placed_second (F := Ideal) (n := 128) h.posOK w0 w1 zw y t hy) (h.home1 t))).symm

end Cert.Proof.Equal

end
-- ==== Proof.Whole.Same.lean ====
/-
  The program as printed and its idealization are one text: what a run of the one satisfies, over the bit patterns, a run
  of the other does.
-/
module

public import proofs.«01_k».proof.Proof.Gen.Kernel
public import proofs.«01_k».proof.Proof.Gen.KernelIdeal

@[expose] public section

set_option maxRecDepth 16384

noncomputable section

namespace Cert.Proof.Same

open Cert.KernelIdeal
open Idealize.ShloMosaic Idealize.ShloMosaic.TcCoe Idealize.SL.Sem

variable {F : FTy → Type} [FloatOps F]

/-- The two grouped-products pipelines are one. -/
theorem pcfg1_eq : @Cert.Kernel.pcfg1 F _ _ = @Cert.KernelIdeal.pcfg1 F _ _ := by
  delta Cert.Kernel.pcfg1 Cert.KernelIdeal.pcfg1 Pipeline.PCfg.ofSpecs
  rfl

set_option maxHeartbeats 800000 in
/-- The two body tables are one. -/
theorem defs₀_eq : @Cert.Kernel.defs₀ F _ _ = @Cert.KernelIdeal.defs₀ F _ _ := by
  funext p l a
  match p, l, a with
  | .tc, 0, _ => rfl
  | .tc, 1, (t, s) => rfl
  | .tc, 2, _ => rfl
  | .scVector c s, 0, _ => rfl
  | .scVector c s, 1, _ => rfl
  | .scVector c s, 2, _ => rfl
  | .scScalar c, 0, _ => rfl
  | .scScalar c, 1, _ => rfl
  | .scScalar c, 2, _ => rfl

/-- The SparseCore calls beside a pipeline. -/
abbrev scAt (P : Pipeline.PCfg sig Λ₀ (Elt F)) : SparseCore.Cfg τ sig (Pipeline.Sig Λ₀ (Fin 1) fun _ => P.Adm) 2 where
  kind := scKind
  nCore := scNCore
  nSub := scNSub
  hkind := Facts₀.hscKind
  hCore := Facts₀.hscCore
  hSub := Facts₀.hscSub
  body := fun | 0 => Pipeline.kernel 0 | 1 => Pipeline.kernel 2 | ⟨_ + 2, h⟩ => absurd h (Nat.not_lt.2 (Nat.le_add_left _ _))
  args := fun | 0 => ⟨⟩ | 1 => ⟨⟩ | ⟨_ + 2, h⟩ => absurd h (Nat.not_lt.2 (Nat.le_add_left _ _))
  start := sc_start
  done := sc_done
  go := sc_go
  taskDone := sc_taskDone

/-- A host program that runs a SparseCore call, casts three arrays, runs a pipeline and then a second SparseCore call. -/
def hostOf {nD : ℕ} {τ : Topo} {sig : RefSig} {Val : EltTy → Type} {Λ : Labels} {P : Pipeline.PCfg sig Λ Val}
    (sc : SparseCore.Cfg τ sig (Pipeline.Sig Λ (Fin 1) fun _ => P.Adm) 2) (o₁ o₂ o₃ : HloOp τ sig Val) :
    Dev nD → Prog (TpuEff nD τ sig Val (SparseCore.Sig (Pipeline.Sig Λ (Fin 1) fun _ => P.Adm) 2) .tc) PUnit := fun d => do
  sc.run d 0
  hlo rfl o₁ (fun _ => .ret ⟨⟩)
  hlo rfl o₂ (fun _ => .ret ⟨⟩)
  hlo rfl o₃ (fun _ => .ret ⟨⟩)
  Prog.lift (.customCall (SparseCore.inner (Pipeline.entry 0)) ())
  sc.run d 1
  pure ⟨⟩

/-- Every fair run of such a program from the launch memory ends in `Q`. -/
def RunsTo {nD : ℕ} {τ : Topo} {sig : RefSig} {Val : EltTy → Type} {Λ : Labels} (P : Pipeline.PCfg sig Λ Val) (D : Defs nD τ sig Val Λ)
    (sc : SparseCore.Cfg τ sig (Pipeline.Sig Λ (Fin 1) fun _ => P.Adm) 2) (o₁ o₂ o₃ : HloOp τ sig Val)
    (m : (ℓ : Loc nD τ sig) → Buf Val ℓ) (ρ : Dev nD → PrngReg) (Q : PUnit × MemSt nD τ sig Val → Prop) : Prop :=
  θ_run (sc.defs (Pipeline.defs (fun _ => P) D)) (sc.threads (hostOf sc o₁ o₂ o₃)) ⟨m, fun _ => 0, ρ⟩ Q

/-! ## The casts of the gate, up and down matrices, in each program's names -/

/-- The idealization's cast of the gate matrices. -/
abbrev o₁ : HloOp τ sig (Elt F) := StableHlo.unary main_arg6 main_v1 ((truncf .bf16 · Facts₀.bitsLt_bf16_f32) : (⟨S8x2816x1024, .f32⟩ : BufTy).Contents (Elt F) → (⟨S8x2816x1024, .bf16⟩ : BufTy).Contents (Elt F))
/-- The idealization's cast of the up matrices. -/
abbrev o₂ : HloOp τ sig (Elt F) := StableHlo.unary main_arg7 main_v2 ((truncf .bf16 · Facts₀.bitsLt_bf16_f32) : (⟨S8x2816x1024, .f32⟩ : BufTy).Contents (Elt F) → (⟨S8x2816x1024, .bf16⟩ : BufTy).Contents (Elt F))
/-- The idealization's cast of the down matrices. -/
abbrev o₃ : HloOp τ sig (Elt F) := StableHlo.unary main_arg8 main_v3 ((truncf .bf16 · Facts₀.bitsLt_bf16_f32) : (⟨S8x1024x2816, .f32⟩ : BufTy).Contents (Elt F) → (⟨S8x1024x2816, .bf16⟩ : BufTy).Contents (Elt F))
/-- The printed program's cast of the gate matrices. -/
abbrev p₁ : HloOp Cert.Kernel.τ Cert.Kernel.sig (Elt F) := StableHlo.unary Cert.Kernel.main_arg6 Cert.Kernel.main_v1 ((truncf .bf16 · Facts₀.bitsLt_bf16_f32) : (⟨S8x2816x1024, .f32⟩ : BufTy).Contents (Elt F) → (⟨S8x2816x1024, .bf16⟩ : BufTy).Contents (Elt F))
/-- The printed program's cast of the up matrices. -/
abbrev p₂ : HloOp Cert.Kernel.τ Cert.Kernel.sig (Elt F) := StableHlo.unary Cert.Kernel.main_arg7 Cert.Kernel.main_v2 ((truncf .bf16 · Facts₀.bitsLt_bf16_f32) : (⟨S8x2816x1024, .f32⟩ : BufTy).Contents (Elt F) → (⟨S8x2816x1024, .bf16⟩ : BufTy).Contents (Elt F))
/-- The printed program's cast of the down matrices. -/
abbrev p₃ : HloOp Cert.Kernel.τ Cert.Kernel.sig (Elt F) := StableHlo.unary Cert.Kernel.main_arg8 Cert.Kernel.main_v3 ((truncf .bf16 · Facts₀.bitsLt_bf16_f32) : (⟨S8x1024x2816, .f32⟩ : BufTy).Contents (Elt F) → (⟨S8x1024x2816, .bf16⟩ : BufTy).Contents (Elt F))

/-- The idealization is such a program. -/
theorem runsTo_ideal (m : (ℓ : Loc nD τ sig) → Buf (Elt F) ℓ) (ρ : Dev nD → PrngReg) (Q : PUnit × MemSt nD τ sig (Elt F) → Prop) :
    RunsTo pcfg1 defs₀ (scAt pcfg1) o₁ o₂ o₃ m ρ Q = θ_run (defs (F := F)) (threads (F := F)) ⟨m, fun _ => 0, ρ⟩ Q := rfl

/-- The printed program is such a program. -/
theorem runsTo_kernel (m : (ℓ : Loc Cert.Kernel.nD Cert.Kernel.τ Cert.Kernel.sig) → Buf (Elt F) ℓ) (ρ : Dev Cert.Kernel.nD → PrngReg)
    (Q : PUnit × MemSt Cert.Kernel.nD Cert.Kernel.τ Cert.Kernel.sig (Elt F) → Prop) :
    RunsTo (@Cert.Kernel.pcfg1 F _ _) (@Cert.Kernel.defs₀ F _ _) (@Cert.Kernel.sc F _ _) p₁ p₂ p₃ m ρ Q
      = θ_run (Cert.Kernel.defs (F := F)) (Cert.Kernel.threads (F := F)) ⟨m, fun _ => 0, ρ⟩ Q := rfl

/-- The printed program's run with the parts around its pipeline and body table spelt in the other's names. -/
theorem runsTo_names (m : (ℓ : Loc nD τ sig) → Buf (Elt F) ℓ) (ρ : Dev nD → PrngReg) (Q : PUnit × MemSt nD τ sig (Elt F) → Prop) :
    RunsTo (sig := Cert.Kernel.sig) (Λ := Cert.Kernel.Λ₀) (@Cert.Kernel.pcfg1 F _ _) (@Cert.Kernel.defs₀ F _ _) (@Cert.Kernel.sc F _ _) p₁ p₂ p₃ m ρ Q
      = RunsTo (sig := sig) (Λ := Λ₀) (@Cert.Kernel.pcfg1 F _ _) (@Cert.Kernel.defs₀ F _ _) (scAt (@Cert.Kernel.pcfg1 F _ _)) o₁ o₂ o₃ m ρ Q := rfl

/-- What every run of the idealization ends in, every run of the printed program does. -/
theorem kernel_of_ideal (m : (ℓ : Loc nD τ sig) → Buf (Elt F) ℓ) (ρ : Dev nD → PrngReg) (Q : PUnit × MemSt nD τ sig (Elt F) → Prop)
    (h : θ_run (defs (F := F)) (threads (F := F)) ⟨m, fun _ => 0, ρ⟩ Q) :
    θ_run (Cert.Kernel.defs (F := F)) (Cert.Kernel.threads (F := F)) ⟨m, fun _ => 0, ρ⟩ Q := by
  refine (runsTo_kernel m ρ Q).mp ((runsTo_names m ρ Q).mpr ?_)
  rw [pcfg1_eq, defs₀_eq]
  exact (runsTo_ideal m ρ Q).mpr h

end Cert.Proof.Same

end
-- ==== Proof.lean ====
/-
  The certificate's proof: the claims of Defs.lean from the two programs' runs.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_pre
public import proofs.«01_k».proof.Proof.Whole.Run
public import proofs.«01_k».proof.Proof.Whole.Equal
public import proofs.«01_k».proof.Proof.Whole.Same

@[expose] public section

set_option maxRecDepth 16384

noncomputable section

namespace Cert.Proof

open Idealize.ShloMosaic Idealize.SL.Sem

section
variable {F : FTy → Type} [FloatOps F]
open Cert.KernelIdeal Idealize.ShloMosaic.TcCoe

/-- What the run leaves of the arguments, in their order. -/
theorem args_kept (m : (ℓ : Loc nD τ sig) → Buf (Elt F) ℓ) (r : PUnit × MemSt nD τ sig (Elt F)) (h : Whole.QC m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  have k := (h.1 c).2
  ⟨k main_arg0 (by unfold Whole.arg; decide), (h.1 c).1.2.1, (h.1 c).1.2.2,
    k main_arg3 (by unfold Whole.arg; decide), k main_arg4 (by unfold Whole.arg; decide), k main_arg5 (by unfold Whole.arg; decide),
    k main_arg6 (by unfold Whole.arg; decide), k main_arg7 (by unfold Whole.arg; decide), k main_arg8 (by unfold Whole.arg; decide),
    k main_arg9 (by unfold Whole.arg; decide), k main_arg10 (by unfold Whole.arg; decide)⟩

/-- From rows so laid out, the run leaves the arguments as they were and no semaphore. -/
theorem frame (m : (ℓ : Loc nD τ sig) → Buf (Elt F) ℓ) (ρ : Dev nD → PrngReg) [∀ e, Nonempty (Elt F e)] (hpre : Whole.PreOK m) :
    θ_run (defs (F := F)) (threads (F := F)) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) ∧ r.2.sem = fun _ => 0 :=
  (θ_run defs _ _).mono (fun r h => ⟨args_kept m r h, h.2⟩) (Whole.run_main m ρ hpre)

/-- The precondition of a device's arguments. -/
def Pre (m : (ℓ : Loc nD τ sig) → Buf (Elt F) ℓ) (c : Dev nD) : Prop :=
  Cert.Pre_pre.fn (F := F) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6))
    (m ((c.tc : Thread nD τ).loc main_arg7)) (m ((c.tc : Thread nD τ).loc main_arg8)) (m ((c.tc : Thread nD τ).loc main_arg9)) (m ((c.tc : Thread nD τ).loc main_arg10))
    = fun _ => 1#1

/-- The layout of a device's rows. -/
theorem lay (m : (ℓ : Loc nD τ sig) → Buf (Elt F) ℓ) (c : Dev nD) (h : Pre m c) :
    Layout.Lay (m ((c.tc : Thread nD τ).loc main_arg1)) (m ((c.tc : Thread nD τ).loc main_arg2)) (m ((c.tc : Thread nD τ).loc main_arg5))
      (m ((c.tc : Thread nD τ).loc main_arg9)) (m ((c.tc : Thread nD τ).loc main_arg10)) := Layout.lay_of_pre _ _ _ _ _ _ _ _ _ _ _ h

/-- The precondition gives what the run asks of the memory. -/
theorem ok_of_pre (m : (ℓ : Loc nD τ sig) → Buf (Elt F) ℓ) (h : ∀ c : Dev nD, Pre m c) : Whole.PreOK m :=
  ⟨(lay m 0 (h 0)).be_lt, fun d => (lay m d (h d)).posOK⟩

end

/-! ## The claims -/

/-- The idealization ends, leaves its arguments and no semaphore. -/
theorem frame_ideal : Cert.quiescent_KernelIdeal := fun m ρ hpre => frame (F := Ideal) m ρ (ok_of_pre m hpre)

/-- So does the printed program, whose text is the same. -/
theorem frame_kernel : Cert.quiescent_Kernel := by
  intro m ρ hpre
  exact Same.kernel_of_ideal (F := Bits) m ρ _ (frame (F := Bits) m ρ (ok_of_pre (F := Bits) m hpre))

/-- So does the reference. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's rows and the reference's are the same. -/
theorem algebraic : Cert.algebraic_KernelIdeal_ReferenceIdeal := by
  intro m ρ m' ρ' hpre hag
  refine ⟨fun c => Comb.comb (Whole.rowsm m c) (m ((c.tc : Thread _ _).loc Cert.KernelIdeal.main_arg1)) (m ((c.tc : Thread _ _).loc Cert.KernelIdeal.main_arg2)),
    (θ_run Cert.KernelIdeal.defs _ _).mono (fun r h c => ⟨(h.1 c).1.1, args_kept m r h c⟩) (Whole.run_main (F := Ideal) m ρ (ok_of_pre m hpre)), ?_⟩
  have hv : ∀ c, Cert.ReferenceIdeal.Value.res_main_v156 (StableHlo.launchContents m' c)
      = Comb.comb (Whole.rowsm m c) (m ((c.tc : Thread _ _).loc Cert.KernelIdeal.main_arg1)) (m ((c.tc : Thread _ _).loc Cert.KernelIdeal.main_arg2)) := by
    intro c
    obtain ⟨a0, a1, a2, a3, a4, a5, a6, a7, a8, a9, a10⟩ := hag c
    refine (Ref.out_eq (StableHlo.launchContents m' c) a0 a3 a4 a6 a7 a8 a9 a10).trans ?_
    exact Equal.kernel_eq _ _ _ _ _ _ _ _ _ _ _ _ _ _ (lay m c (hpre c))
  refine (θ_run Cert.ReferenceIdeal.defs _ _).mono (fun r h c => ?_) (Cert.ReferenceIdeal.Value.run (F := Ideal) m' ρ')
  exact ⟨(h c).1.trans (hv c), (h c).2⟩

/-- The five claims together. -/
theorem claim : Cert.Claim :=
  ⟨Cert.Kernel.Gen.facts, Cert.KernelIdeal.Gen.facts, Cert.ReferenceIdeal.Gen.facts, Cert.Pre_pre.Gen.facts,
    frame_kernel, frame_ideal, frame_reference, fun m ρ _ => frame_reference m ρ trivial, trivial, algebraic⟩

end Cert.Proof

end
